-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  IdealRules.named_const.Statement Cert.KernelIdeal.κ "cap" .f32 0x42FC0000#32 ⊤
  ∧ IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "qscale" .f32 0x3E0293EE#32 (((11863283 / 134217728) * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v10)) (v3 : (c : Dev Cert.Kernel3Ideal.nD) → Buf (Elt Ideal) ((c.tc : Thread Cert.Kernel3Ideal.nD Cert.Kernel3Ideal.τ).loc Cert.Kernel3Ideal.main_v14)) (v4 : (c : Dev Cert.Kernel3Ideal.nD) → Buf (Elt Ideal) ((c.tc : Thread Cert.Kernel3Ideal.nD Cert.Kernel3Ideal.τ).loc Cert.Kernel3Ideal.main_v16)) (v5 : (c : Dev Cert.Kernel3Ideal.nD) → Buf (Elt Ideal) ((c.tc : Thread Cert.Kernel3Ideal.nD Cert.Kernel3Ideal.τ).loc Cert.Kernel3Ideal.main_v20)) (v6 : (c : Dev Cert.Kernel3Ideal.nD) → Buf (Elt Ideal) ((c.tc : Thread Cert.Kernel3Ideal.nD Cert.Kernel3Ideal.τ).loc Cert.Kernel3Ideal.main_v24)) (v7 : (c : Dev Cert.Kernel3Ideal.nD) → Buf (Elt Ideal) ((c.tc : Thread Cert.Kernel3Ideal.nD Cert.Kernel3Ideal.τ).loc Cert.Kernel3Ideal.main_v28)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v10) = v2 c
          ∧ r.2.mem ((c.tc : Thread Cert.Kernel3Ideal.nD Cert.Kernel3Ideal.τ).loc Cert.Kernel3Ideal.main_v14) = v3 c
          ∧ r.2.mem ((c.tc : Thread Cert.Kernel3Ideal.nD Cert.Kernel3Ideal.τ).loc Cert.Kernel3Ideal.main_v16) = v4 c
          ∧ r.2.mem ((c.tc : Thread Cert.Kernel3Ideal.nD Cert.Kernel3Ideal.τ).loc Cert.Kernel3Ideal.main_v20) = v5 c
          ∧ r.2.mem ((c.tc : Thread Cert.Kernel3Ideal.nD Cert.Kernel3Ideal.τ).loc Cert.Kernel3Ideal.main_v24) = v6 c
          ∧ r.2.mem ((c.tc : Thread Cert.Kernel3Ideal.nD Cert.Kernel3Ideal.τ).loc Cert.Kernel3Ideal.main_v28) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_v45) = v2 c
          ∧ r.2.mem ((c.tc : Thread Cert.Reference3Ideal.nD Cert.Reference3Ideal.τ).loc Cert.Reference3Ideal.main_v46) = v3 c
          ∧ r.2.mem ((c.tc : Thread Cert.Reference3Ideal.nD Cert.Reference3Ideal.τ).loc Cert.Reference3Ideal.main_v47) = v4 c
          ∧ r.2.mem ((c.tc : Thread Cert.Reference3Ideal.nD Cert.Reference3Ideal.τ).loc Cert.Reference3Ideal.main_v48) = v5 c
          ∧ r.2.mem ((c.tc : Thread Cert.Reference3Ideal.nD Cert.Reference3Ideal.τ).loc Cert.Reference3Ideal.main_v49) = v6 c
          ∧ r.2.mem ((c.tc : Thread Cert.Reference3Ideal.nD Cert.Reference3Ideal.τ).loc Cert.Reference3Ideal.main_v50) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v5)) (v1 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_v4) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v17) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S8208x8x128 : Shape := ⟨3, ![8208, 8, 128]⟩
abbrev S8 : Shape := ⟨1, ![8]⟩
abbrev S_ : Shape := ⟨0, ![]⟩
abbrev S8208x1024 : Shape := ⟨2, ![8208, 1024]⟩
abbrev S8192x1024 : Shape := ⟨2, ![8192, 1024]⟩
abbrev S16x1024 : Shape := ⟨2, ![16, 1024]⟩
abbrev S240x1024 : Shape := ⟨2, ![240, 1024]⟩
abbrev S8448x1024 : Shape := ⟨2, ![8448, 1024]⟩
abbrev S8448x3072 : Shape := ⟨2, ![8448, 3072]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x8 : Shape := ⟨2, ![1, 8]⟩
abbrev S1x256x256 : Shape := ⟨3, ![1, 256, 256]⟩
abbrev S5x256x256 : Shape := ⟨3, ![5, 256, 256]⟩
abbrev S1x1x5x256x256 : Shape := ⟨5, ![1, 1, 5, 256, 256]⟩
abbrev S1x8x1x1x1 : Shape := ⟨5, ![1, 8, 1, 1, 1]⟩
abbrev S1x8x5x256x256 : Shape := ⟨5, ![1, 8, 5, 256, 256]⟩
abbrev S256x1024 : Shape := ⟨2, ![256, 1024]⟩
abbrev S8448x128 : Shape := ⟨2, ![8448, 128]⟩
abbrev S256x128 : Shape := ⟨2, ![256, 128]⟩
abbrev S2x256x256 : Shape := ⟨3, ![2, 256, 256]⟩
abbrev S2x256x1 : Shape := ⟨3, ![2, 256, 1]⟩
abbrev S1x1x1x256x256 : Shape := ⟨5, ![1, 1, 1, 256, 256]⟩
abbrev S1x256x1 : Shape := ⟨3, ![1, 256, 1]⟩
abbrev S240x128 : Shape := ⟨2, ![240, 128]⟩

abbrev nBuf : Space → Nat
  | .hbm => 77
  | .vmem => 17
  | .smem => 0
  | _ => 0

abbrev bufTy : (tb : Table) → Fin (tcTables nBuf tb) → BufTy
  | .hbm, ⟨0, _⟩ => ⟨S8208x8x128, .f32⟩
  | .hbm, ⟨1, _⟩ => ⟨S8208x8x128, .f32⟩
  | .hbm, ⟨2, _⟩ => ⟨S8208x8x128, .f32⟩
  | .hbm, ⟨3, _⟩ => ⟨S8, .f32⟩
  | .hbm, ⟨4, _⟩ => ⟨S_, .f32⟩
  | .hbm, ⟨5, _⟩ => ⟨S_, .f32⟩
  | .hbm, ⟨6, _⟩ => ⟨S8208x1024, .f32⟩
  | .hbm, ⟨7, _⟩ => ⟨S8192x1024, .f32⟩
  | .hbm, ⟨8, _⟩ => ⟨S16x1024, .f32⟩
  | .hbm, ⟨9, _⟩ => ⟨S_, .f32⟩
  | .hbm, ⟨10, _⟩ => ⟨S240x1024, .f32⟩
  | .hbm, ⟨11, _⟩ => ⟨S8448x1024, .f32⟩
  | .hbm, ⟨12, _⟩ => ⟨S_, .f32⟩
  | .hbm, ⟨13, _⟩ => ⟨S8448x1024, .f32⟩
  | .hbm, ⟨14, _⟩ => ⟨S8448x1024, .f32⟩
  | .hbm, ⟨15, _⟩ => ⟨S8448x1024, .f32⟩
  | .hbm, ⟨16, _⟩ => ⟨S8448x1024, .f32⟩
  | .hbm, ⟨17, _⟩ => ⟨S8448x1024, .bf16⟩
  | .hbm, ⟨18, _⟩ => ⟨S8208x1024, .f32⟩
  | .hbm, ⟨19, _⟩ => ⟨S8192x1024, .f32⟩
  | .hbm, ⟨20, _⟩ => ⟨S16x1024, .f32⟩
  | .hbm, ⟨21, _⟩ => ⟨S_, .f32⟩
  | .hbm, ⟨22, _⟩ => ⟨S240x1024, .f32⟩
  | .hbm, ⟨23, _⟩ => ⟨S8448x1024, .f32⟩
  | .hbm, ⟨24, _⟩ => ⟨S8448x1024, .bf16⟩
  | .hbm, ⟨25, _⟩ => ⟨S8208x1024, .f32⟩
  | .hbm, ⟨26, _⟩ => ⟨S8192x1024, .f32⟩
  | .hbm, ⟨27, _⟩ => ⟨S16x1024, .f32⟩
  | .hbm, ⟨28, _⟩ => ⟨S_, .f32⟩
  | .hbm, ⟨29, _⟩ => ⟨S240x1024, .f32⟩
  | .hbm, ⟨30, _⟩ => ⟨S8448x1024, .f32⟩
  | .hbm, ⟨31, _⟩ => ⟨S8448x1024, .bf16⟩
  | .hbm, ⟨32, _⟩ => ⟨S8448x3072, .bf16⟩
  | .hbm, ⟨33, _⟩ => ⟨S256, .i32⟩
  | .hbm, ⟨34, _⟩ => ⟨S256x1, .i32⟩
  | .hbm, ⟨35, _⟩ => ⟨S1x256, .i32⟩
  | .hbm, ⟨36, _⟩ => ⟨S256x256, .i32⟩
  | .hbm, ⟨37, _⟩ => ⟨S256x256, .i32⟩
  | .hbm, ⟨38, _⟩ => ⟨S256x256, .i1⟩
  | .hbm, ⟨39, _⟩ => ⟨S256x256, .bf16⟩
  | .hbm, ⟨40, _⟩ => ⟨S1x8, .f32⟩
  | .hbm, ⟨41, _⟩ => ⟨S1x8, .f32⟩
  | .hbm, ⟨42, _⟩ => ⟨S1x8, .f32⟩
  | .hbm, ⟨43, _⟩ => ⟨S256x256, .i32⟩
  | .hbm, ⟨44, _⟩ => ⟨S256x256, .i32⟩
  | .hbm, ⟨45, _⟩ => ⟨S_, .i32⟩
  | .hbm, ⟨46, _⟩ => ⟨S256x256, .i32⟩
  | .hbm, ⟨47, _⟩ => ⟨S256x256, .i1⟩
  | .hbm, ⟨48, _⟩ => ⟨S256x256, .i1⟩
  | .hbm, ⟨49, _⟩ => ⟨S_, .i32⟩
  | .hbm, ⟨50, _⟩ => ⟨S256x256, .i32⟩
  | .hbm, ⟨51, _⟩ => ⟨S256x256, .i1⟩
  | .hbm, ⟨52, _⟩ => ⟨S_, .i32⟩
  | .hbm, ⟨53, _⟩ => ⟨S256x256, .i32⟩
  | .hbm, ⟨54, _⟩ => ⟨S256x256, .i1⟩
  | .hbm, ⟨55, _⟩ => ⟨S256x256, .i1⟩
  | .hbm, ⟨56, _⟩ => ⟨S256x256, .i1⟩
  | .hbm, ⟨57, _⟩ => ⟨S_, .i32⟩
  | .hbm, ⟨58, _⟩ => ⟨S256x256, .i32⟩
  | .hbm, ⟨59, _⟩ => ⟨S256x256, .i1⟩
  | .hbm, ⟨60, _⟩ => ⟨S1x256x256, .i1⟩
  | .hbm, ⟨61, _⟩ => ⟨S1x256x256, .i1⟩
  | .hbm, ⟨62, _⟩ => ⟨S1x256x256, .i1⟩
  | .hbm, ⟨63, _⟩ => ⟨S1x256x256, .i1⟩
  | .hbm, ⟨64, _⟩ => ⟨S1x256x256, .i1⟩
  | .hbm, ⟨65, _⟩ => ⟨S5x256x256, .i1⟩
  | .hbm, ⟨66, _⟩ => ⟨S1x1x5x256x256, .i1⟩
  | .hbm, ⟨67, _⟩ => ⟨S1x8x1x1x1, .f32⟩
  | .hbm, ⟨68, _⟩ => ⟨S_, .f32⟩
  | .hbm, ⟨69, _⟩ => ⟨S_, .f32⟩
  | .hbm, ⟨70, _⟩ => ⟨S1x8x5x256x256, .i1⟩
  | .hbm, ⟨71, _⟩ => ⟨S1x8x5x256x256, .f32⟩
  | .hbm, ⟨72, _⟩ => ⟨S1x8x5x256x256, .f32⟩
  | .hbm, ⟨73, _⟩ => ⟨S1x8x5x256x256, .f32⟩
  | .hbm, ⟨74, _⟩ => ⟨S_, .f32⟩
  | .hbm, ⟨75, _⟩ => ⟨S256x1024, .f32⟩
  | .hbm, ⟨76, _⟩ => ⟨S8448x1024, .f32⟩
  | .local _ .vmem, ⟨0, _⟩ => ⟨S1x1x5x256x256, .f32⟩
  | .local _ .vmem, ⟨1, _⟩ => ⟨S1x1x5x256x256, .f32⟩
  | .local _ .vmem, ⟨2, _⟩ => ⟨S8448x128, .bf16⟩
  | .local _ .vmem, ⟨3, _⟩ => ⟨S8448x128, .bf16⟩
  | .local _ .vmem, ⟨4, _⟩ => ⟨S8448x128, .bf16⟩
  | .local _ .vmem, ⟨5, _⟩ => ⟨S8448x128, .bf16⟩
  | .local _ .vmem, ⟨6, _⟩ => ⟨S8448x128, .bf16⟩
  | .local _ .vmem, ⟨7, _⟩ => ⟨S8448x128, .bf16⟩
  | .local _ .vmem, ⟨8, _⟩ => ⟨S256x256, .bf16⟩
  | .local _ .vmem, ⟨9, _⟩ => ⟨S256x128, .f32⟩
  | .local _ .vmem, ⟨10, _⟩ => ⟨S256x128, .f32⟩
  | .local _ .vmem, ⟨11, _⟩ => ⟨S8448x128, .f32⟩
  | .local _ .vmem, ⟨12, _⟩ => ⟨S8448x128, .f32⟩
  | .local _ .vmem, ⟨13, _⟩ => ⟨S2x256x256, .f32⟩
  | .local _ .vmem, ⟨14, _⟩ => ⟨S2x256x256, .bf16⟩
  | .local _ .vmem, ⟨15, _⟩ => ⟨S2x256x256, .f32⟩
  | .local _ .vmem, ⟨16, _⟩ => ⟨S2x256x1, .f32⟩
  | _, _ => ⟨S8208x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_4 : Ref sig .tc := ⟨.hbm, 49, rfl⟩
abbrev main_v39 : Ref sig .tc := ⟨.hbm, 50, rfl⟩
abbrev main_v40 : Ref sig .tc := ⟨.hbm, 51, rfl⟩
abbrev main_c_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_7 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def k0_mult1 : BitVec 32 :=
  let c0_i32_10 : BitVec 32 := 0#32
  let c256_i32 : BitVec 32 := 256#32
  let v11 : BitVec 32 := Scalar.muli c0_i32_10 c256_i32
  v11
def k0_off1 : Fin 2 → Nat :=
  let c0_i32_10 : BitVec 32 := 0#32
  let c256_i32 : BitVec 32 := 256#32
  let v11 : BitVec 32 := Scalar.muli c0_i32_10 c256_i32
  let v12 : BitVec 32 := v11
  let v13 : Index := Scalar.indexCast v12
  let c0_11 : Index := 0#32
  ![v13.toNat, 0]
def k0_mult2 : BitVec 32 :=
  let c0_i32_12 : BitVec 32 := 0#32
  let c32_i32_13 : BitVec 32 := 32#32
  let v16 : BitVec 1 := Scalar.cmpi .slt c0_i32_12 c32_i32_13
  let c0_i32_14 : BitVec 32 := 0#32
  let c0_i32_15 : BitVec 32 := 0#32
  let v17 : BitVec 1 := Scalar.cmpi .sle c0_i32_14 c0_i32_15
  let v18 : BitVec 1 := Scalar.andi v16 v17
  let c0_i32_16 : BitVec 32 := 0#32
  let c0_i32_17 : BitVec 32 := 0#32
  let v19 : BitVec 32 := Scalar.subi c0_i32_16 c0_i32_17
  let c256_i32_18 : BitVec 32 := 256#32
  let v20 : BitVec 32 := Scalar.muli v19 c256_i32_18
  let c8192_i32 : BitVec 32 := 8192#32
  let v21 : BitVec 32 := Scalar.select v18 v20 c8192_i32
  v21
def k0_off2 : Fin 2 → Nat :=
  let c0_i32_12 : BitVec 32 := 0#32
  let c32_i32_13 : BitVec 32 := 32#32
  let v16 : BitVec 1 := Scalar.cmpi .slt c0_i32_12 c32_i32_13
  let c0_i32_14 : BitVec 32 := 0#32
  let c0_i32_15 : BitVec 32 := 0#32
  let v17 : BitVec 1 := Scalar.cmpi .sle c0_i32_14 c0_i32_15
  let v18 : BitVec 1 := Scalar.andi v16 v17
  let c0_i32_16 : BitVec 32 := 0#32
  let c0_i32_17 : BitVec 32 := 0#32
  let v19 : BitVec 32 := Scalar.subi c0_i32_16 c0_i32_17
  let c256_i32_18 : BitVec 32 := 256#32
  let v20 : BitVec 32 := Scalar.muli v19 c256_i32_18
  let c8192_i32 : BitVec 32 := 8192#32
  let v21 : BitVec 32 := Scalar.select v18 v20 c8192_i32
  let v22 : BitVec 32 := v21
  let v23 : Index := Scalar.indexCast v22
  let c0_19 : Index := 0#32
  ![v23.toNat, 0]
def k0_off3 : Fin 5 → Nat :=
  let c0_31 : Index := 0#32
  let c0_32 : Index := 0#32
  let c0_i32_27 : BitVec 32 := 0#32
  let c32_i32_28 : BitVec 32 := 32#32
  let v31 : BitVec 1 := Scalar.cmpi .eq c0_i32_27 c32_i32_28
  let c0_i32_29 : BitVec 32 := 0#32
  let c0_i32_30 : BitVec 32 := 0#32
  let v32 : BitVec 1 := Scalar.cmpi .eq c0_i32_29 c0_i32_30
  let c3_i32 : BitVec 32 := 3#32
  let c4_i32 : BitVec 32 := 4#32
  let v33 : BitVec 32 := Scalar.select v32 c3_i32 c4_i32
  let c0_i32_20 : BitVec 32 := 0#32
  let c0_i32_21 : BitVec 32 := 0#32
  let v27 : BitVec 1 := Scalar.cmpi .eq c0_i32_20 c0_i32_21
  let c1_i32_26 : BitVec 32 := 1#32
  let c0_i32_22 : BitVec 32 := 0#32
  let c0_i32_23 : BitVec 32 := 0#32
  let v28 : BitVec 1 := Scalar.cmpi .sle c0_i32_22 c0_i32_23
  let c0_i32_24 : BitVec 32 := 0#32
  let c2_i32_25 : BitVec 32 := 2#32
  let v29 : BitVec 32 := Scalar.select v28 c0_i32_24 c2_i32_25
  let v30 : BitVec 32 := Scalar.select v27 c1_i32_26 v29
  let v34 : BitVec 32 := Scalar.select v31 v33 v30
  let v35 : Index := Scalar.indexCast v34
  let c0_33 : Index := 0#32
  let c0_34 : Index := 0#32
  ![0, 0, v35.toNat, 0, 0]
def k0_mult3 : BitVec 32 :=
  let c0_i32 : BitVec 32 := 0#32
  let c1_i32 : BitVec 32 := 1#32
  let v2 : BitVec 32 := Scalar.addi c0_i32 c1_i32
  let c0_i32_1 : BitVec 32 := 0#32
  let c32_i32 : BitVec 32 := 32#32
  let v3 : BitVec 1 := Scalar.cmpi .eq c0_i32_1 c32_i32
  let c2_i32_3 : BitVec 32 := 2#32
  let c0_i32_2 : BitVec 32 := 0#32
  let c2_i32 : BitVec 32 := 2#32
  let v4 : BitVec 32 := Scalar.addi c0_i32_2 c2_i32
  let v5 : BitVec 32 := Scalar.select v3 c2_i32_3 v4
  let v6 : BitVec 1 := Scalar.cmpi .eq v2 v5
  let c0_i32_4 : BitVec 32 := 0#32
  let c1_i32_5 : BitVec 32 := 1#32
  let v7 : BitVec 32 := Scalar.addi c0_i32_4 c1_i32_5
  let c0_i32_6 : BitVec 32 := 0#32
  let v8 : BitVec 32 := Scalar.select v6 v7 c0_i32_6
  let c256_i32_44 : BitVec 32 := 256#32
  let v55 : BitVec 32 := Scalar.muli v8 c256_i32_44
  v55
def k0_off4 : Fin 2 → Nat :=
  let c0_i32 : BitVec 32 := 0#32
  let c1_i32 : BitVec 32 := 1#32
  let v2 : BitVec 32 := Scalar.addi c0_i32 c1_i32
  let c0_i32_1 : BitVec 32 := 0#32
  let c32_i32 : BitVec 32 := 32#32
  let v3 : BitVec 1 := Scalar.cmpi .eq c0_i32_1 c32_i32
  let c2_i32_3 : BitVec 32 := 2#32
  let c0_i32_2 : BitVec 32 := 0#32
  let c2_i32 : BitVec 32 := 2#32
  let v4 : BitVec 32 := Scalar.addi c0_i32_2 c2_i32
  let v5 : BitVec 32 := Scalar.select v3 c2_i32_3 v4
  let v6 : BitVec 1 := Scalar.cmpi .eq v2 v5
  let c0_i32_4 : BitVec 32 := 0#32
  let c1_i32_5 : BitVec 32 := 1#32
  let v7 : BitVec 32 := Scalar.addi c0_i32_4 c1_i32_5
  let c0_i32_6 : BitVec 32 := 0#32
  let v8 : BitVec 32 := Scalar.select v6 v7 c0_i32_6
  let c256_i32_44 : BitVec 32 := 256#32
  let v55 : BitVec 32 := Scalar.muli v8 c256_i32_44
  let v56 : BitVec 32 := v55
  let v57 : Index := Scalar.indexCast v56
  let c0_45 : Index := 0#32
  ![v57.toNat, 0]
def k0_mult4 : BitVec 32 :=
  let c0_i32 : BitVec 32 := 0#32
  let c1_i32 : BitVec 32 := 1#32
  let v2 : BitVec 32 := Scalar.addi c0_i32 c1_i32
  let c0_i32_1 : BitVec 32 := 0#32
  let c32_i32 : BitVec 32 := 32#32
  let v3 : BitVec 1 := Scalar.cmpi .eq c0_i32_1 c32_i32
  let c2_i32_3 : BitVec 32 := 2#32
  let c0_i32_2 : BitVec 32 := 0#32
  let c2_i32 : BitVec 32 := 2#32
  let v4 : BitVec 32 := Scalar.addi c0_i32_2 c2_i32
  let v5 : BitVec 32 := Scalar.select v3 c2_i32_3 v4
  let v6 : BitVec 1 := Scalar.cmpi .eq v2 v5
  let c0_i32_4 : BitVec 32 := 0#32
  let c1_i32_5 : BitVec 32 := 1#32
  let v7 : BitVec 32 := Scalar.addi c0_i32_4 c1_i32_5
  let c0_i32_6 : BitVec 32 := 0#32
  let v8 : BitVec 32 := Scalar.select v6 v7 c0_i32_6
  let c32_i32_46 : BitVec 32 := 32#32
  let v60 : BitVec 1 := Scalar.cmpi .slt v8 c32_i32_46
  let c0_i32_9 : BitVec 32 := 0#32
  let c0_i32_7 : BitVec 32 := 0#32
  let c1_i32_8 : BitVec 32 := 1#32
  let v9 : BitVec 32 := Scalar.addi c0_i32_7 c1_i32_8
  let v10 : BitVec 32 := Scalar.select v6 c0_i32_9 v9
  let v61 : BitVec 1 := Scalar.cmpi .sle v10 v8
  let v62 : BitVec 1 := Scalar.andi v60 v61
  let v63 : BitVec 32 := Scalar.subi v8 v10
  let c256_i32_47 : BitVec 32 := 256#32
  let v64 : BitVec 32 := Scalar.muli v63 c256_i32_47
  let c8192_i32_48 : BitVec 32 := 8192#32
  let v65 : BitVec 32 := Scalar.select v62 v64 c8192_i32_48
  v65
def k0_off5 : Fin 2 → Nat :=
  let c0_i32 : BitVec 32 := 0#32
  let c1_i32 : BitVec 32 := 1#32
  let v2 : BitVec 32 := Scalar.addi c0_i32 c1_i32
  let c0_i32_1 : BitVec 32 := 0#32
  let c32_i32 : BitVec 32 := 32#32
  let v3 : BitVec 1 := Scalar.cmpi .eq c0_i32_1 c32_i32
  let c2_i32_3 : BitVec 32 := 2#32
  let c0_i32_2 : BitVec 32 := 0#32
  let c2_i32 : BitVec 32 := 2#32
  let v4 : BitVec 32 := Scalar.addi c0_i32_2 c2_i32
  let v5 : BitVec 32 := Scalar.select v3 c2_i32_3 v4
  let v6 : BitVec 1 := Scalar.cmpi .eq v2 v5
  let c0_i32_4 : BitVec 32 := 0#32
  let c1_i32_5 : BitVec 32 := 1#32
  let v7 : BitVec 32 := Scalar.addi c0_i32_4 c1_i32_5
  let c0_i32_6 : BitVec 32 := 0#32
  let v8 : BitVec 32 := Scalar.select v6 v7 c0_i32_6
  let c32_i32_46 : BitVec 32 := 32#32
  let v60 : BitVec 1 := Scalar.cmpi .slt v8 c32_i32_46
  let c0_i32_9 : BitVec 32 := 0#32
  let c0_i32_7 : BitVec 32 := 0#32
  let c1_i32_8 : BitVec 32 := 1#32
  let v9 : BitVec 32 := Scalar.addi c0_i32_7 c1_i32_8
  let v10 : BitVec 32 := Scalar.select v6 c0_i32_9 v9
  let v61 : BitVec 1 := Scalar.cmpi .sle v10 v8
  let v62 : BitVec 1 := Scalar.andi v60 v61
  let v63 : BitVec 32 := Scalar.subi v8 v10
  let c256_i32_47 : BitVec 32 := 256#32
  let v64 : BitVec 32 := Scalar.muli v63 c256_i32_47
  let c8192_i32_48 : BitVec 32 := 8192#32
  let v65 : BitVec 32 := Scalar.select v62 v64 c8192_i32_48
  let v66 : BitVec 32 := v65
  let v67 : Index := Scalar.indexCast v66
  let c0_49 : Index := 0#32
  ![v67.toNat, 0]
def k0_off6 : Fin 5 → Nat :=
  let c0_59 : Index := 0#32
  let c0_60 : Index := 0#32
  let c0_i32 : BitVec 32 := 0#32
  let c1_i32 : BitVec 32 := 1#32
  let v2 : BitVec 32 := Scalar.addi c0_i32 c1_i32
  let c0_i32_1 : BitVec 32 := 0#32
  let c32_i32 : BitVec 32 := 32#32
  let v3 : BitVec 1 := Scalar.cmpi .eq c0_i32_1 c32_i32
  let c2_i32_3 : BitVec 32 := 2#32
  let c0_i32_2 : BitVec 32 := 0#32
  let c2_i32 : BitVec 32 := 2#32
  let v4 : BitVec 32 := Scalar.addi c0_i32_2 c2_i32
  let v5 : BitVec 32 := Scalar.select v3 c2_i32_3 v4
  let v6 : BitVec 1 := Scalar.cmpi .eq v2 v5
  let c0_i32_4 : BitVec 32 := 0#32
  let c1_i32_5 : BitVec 32 := 1#32
  let v7 : BitVec 32 := Scalar.addi c0_i32_4 c1_i32_5
  let c0_i32_6 : BitVec 32 := 0#32
  let v8 : BitVec 32 := Scalar.select v6 v7 c0_i32_6
  let c32_i32_55 : BitVec 32 := 32#32
  let v75 : BitVec 1 := Scalar.cmpi .eq v8 c32_i32_55
  let c0_i32_9 : BitVec 32 := 0#32
  let c0_i32_7 : BitVec 32 := 0#32
  let c1_i32_8 : BitVec 32 := 1#32
  let v9 : BitVec 32 := Scalar.addi c0_i32_7 c1_i32_8
  let v10 : BitVec 32 := Scalar.select v6 c0_i32_9 v9
  let c0_i32_56 : BitVec 32 := 0#32
  let v76 : BitVec 1 := Scalar.cmpi .eq v10 c0_i32_56
  let c3_i32_57 : BitVec 32 := 3#32
  let c4_i32_58 : BitVec 32 := 4#32
  let v77 : BitVec 32 := Scalar.select v76 c3_i32_57 c4_i32_58
  let c0_i32_51 : BitVec 32 := 0#32
  let v71 : BitVec 1 := Scalar.cmpi .eq v10 c0_i32_51
  let c1_i32_54 : BitVec 32 := 1#32
  let v72 : BitVec 1 := Scalar.cmpi .sle v10 v8
  let c0_i32_52 : BitVec 32 := 0#32
  let c2_i32_53 : BitVec 32 := 2#32
  let v73 : BitVec 32 := Scalar.select v72 c0_i32_52 c2_i32_53
  let v74 : BitVec 32 := Scalar.select v71 c1_i32_54 v73
  let v78 : BitVec 32 := Scalar.select v75 v77 v74
  let v79 : Index := Scalar.indexCast v78
  let c0_61 : Index := 0#32
  let c0_62 : Index := 0#32
  ![0, 0, v79.toNat, 0, 0]
@[reducible] def k0_t1_loop : Scf.Loop 32 :=
  let c0_i32_95 : BitVec 32 := 0#32
  let c140_i32 : BitVec 32 := 140#32
  let v123 : BitVec 32 := Scalar.addi c0_i32_95 c140_i32
  let c1_i32_96 : BitVec 32 := 1#32
  ⟨c0_i32_95, v123, c1_i32_96⟩
def k0_mult5 (arg13 : BitVec 32) : BitVec 32 :=
  let c256_i32_141 : BitVec 32 := 256#32
  let v198 : BitVec 32 := Scalar.muli arg13 c256_i32_141
  v198

def k0_off7 (arg13 : BitVec 32) : Fin 2 → Nat :=
  let c256_i32_141 : BitVec 32 := 256#32
  let v198 : BitVec 32 := Scalar.muli arg13 c256_i32_141
  let v199 : BitVec 32 := v198
  let v200 : Index := Scalar.indexCast v199
  let c0_142 : Index := 0#32
  ![v200.toNat, 0]
def k0_mult6 (arg13 : BitVec 32) (arg14 : BitVec 32) : BitVec 32 :=
  let c32_i32_143 : BitVec 32 := 32#32
  let v203 : BitVec 1 := Scalar.cmpi .slt arg13 c32_i32_143
  let v204 : BitVec 1 := Scalar.cmpi .sle arg14 arg13
  let v205 : BitVec 1 := Scalar.andi v203 v204
  let v206 : BitVec 32 := Scalar.subi arg13 arg14
  let c256_i32_144 : BitVec 32 := 256#32
  let v207 : BitVec 32 := Scalar.muli v206 c256_i32_144
  let c8192_i32_145 : BitVec 32 := 8192#32
  let v208 : BitVec 32 := Scalar.select v205 v207 c8192_i32_145
  v208

def k0_off8 (arg13 : BitVec 32) (arg14 : BitVec 32) : Fin 2 → Nat :=
  let c32_i32_143 : BitVec 32 := 32#32
  let v203 : BitVec 1 := Scalar.cmpi .slt arg13 c32_i32_143
  let v204 : BitVec 1 := Scalar.cmpi .sle arg14 arg13
  let v205 : BitVec 1 := Scalar.andi v203 v204
  let v206 : BitVec 32 := Scalar.subi arg13 arg14
  let c256_i32_144 : BitVec 32 := 256#32
  let v207 : BitVec 32 := Scalar.muli v206 c256_i32_144
  let c8192_i32_145 : BitVec 32 := 8192#32
  let v208 : BitVec 32 := Scalar.select v205 v207 c8192_i32_145
  let v209 : BitVec 32 := v208
  let v210 : Index := Scalar.indexCast v209
  let c0_146 : Index := 0#32
  ![v210.toNat, 0]
def k0_off9 (arg13 : BitVec 32) (arg14 : BitVec 32) : Fin 5 → Nat :=
  let c0_156 : Index := 0#32
  let c0_157 : Index := 0#32
  let c32_i32_152 : BitVec 32 := 32#32
  let v218 : BitVec 1 := Scalar.cmpi .eq arg13 c32_i32_152
  let c0_i32_153 : BitVec 32 := 0#32
  let v219 : BitVec 1 := Scalar.cmpi .eq arg14 c0_i32_153
  let c3_i32_154 : BitVec 32 := 3#32
  let c4_i32_155 : BitVec 32 := 4#32
  let v220 : BitVec 32 := Scalar.select v219 c3_i32_154 c4_i32_155
  let c0_i32_148 : BitVec 32 := 0#32
  let v214 : BitVec 1 := Scalar.cmpi .eq arg14 c0_i32_148
  let c1_i32_151 : BitVec 32 := 1#32
  let v215 : BitVec 1 := Scalar.cmpi .sle arg14 arg13
  let c0_i32_149 : BitVec 32 := 0#32
  let c2_i32_150 : BitVec 32 := 2#32
  let v216 : BitVec 32 := Scalar.select v215 c0_i32_149 c2_i32_150
  let v217 : BitVec 32 := Scalar.select v214 c1_i32_151 v216
  let v221 : BitVec 32 := Scalar.select v218 v220 v217
  let v222 : Index := Scalar.indexCast v221
  let c0_158 : Index := 0#32
  let c0_159 : Index := 0#32
  ![0, 0, v222.toNat, 0, 0]
def k0_mult7 (arg17 : BitVec 32) (arg18 : BitVec 32) : BitVec 32 :=
  let c32_i32_188 : BitVec 32 := 32#32
  let v265 : BitVec 1 := Scalar.cmpi .slt arg17 c32_i32_188
  let v266 : BitVec 1 := Scalar.cmpi .sle arg18 arg17
  let v267 : BitVec 1 := Scalar.andi v265 v266
  let v268 : BitVec 32 := Scalar.subi arg17 arg18
  let c256_i32_189 : BitVec 32 := 256#32
  let v269 : BitVec 32 := Scalar.muli v268 c256_i32_189
  let c8192_i32_190 : BitVec 32 := 8192#32
  let v270 : BitVec 32 := Scalar.select v267 v269 c8192_i32_190
  v270

def k0_off10 (arg17 : BitVec 32) (arg18 : BitVec 32) : Fin 2 → Nat :=
  let c32_i32_188 : BitVec 32 := 32#32
  let v265 : BitVec 1 := Scalar.cmpi .slt arg17 c32_i32_188
  let v266 : BitVec 1 := Scalar.cmpi .sle arg18 arg17
  let v267 : BitVec 1 := Scalar.andi v265 v266
  let v268 : BitVec 32 := Scalar.subi arg17 arg18
  let c256_i32_189 : BitVec 32 := 256#32
  let v269 : BitVec 32 := Scalar.muli v268 c256_i32_189
  let c8192_i32_190 : BitVec 32 := 8192#32
  let v270 : BitVec 32 := Scalar.select v267 v269 c8192_i32_190
  let v271 : BitVec 32 := v270
  let v272 : Index := Scalar.indexCast v271
  let c0_191 : Index := 0#32
  ![v272.toNat, 0]

def k0_chk3 (arg17 : BitVec 32) (arg18 : BitVec 32) : Prop :=
  (256 ∣ (k0_mult7 arg17 arg18).toNat) ∧
  (∀ a, (k0_off10 arg17 arg18) a + S256x128.size a ≤ S8448x128.size a)
theorem k0_mult7_dvd : ∀ (arg17 : BitVec 32) (arg18 : BitVec 32) (k0_hw3 : k0_chk3 arg17 arg18), 256 ∣ (k0_mult7 arg17 arg18).toNat := fun arg17 arg18 k0_hw3 => k0_hw3.1
theorem k0_off10_inb : ∀ (arg17 : BitVec 32) (arg18 : BitVec 32) (k0_hw3 : k0_chk3 arg17 arg18), ∀ a, (k0_off10 arg17 arg18) a + S256x128.size a ≤ S8448x128.size a := fun arg17 arg18 k0_hw3 => k0_hw3.2

def k0_mult8 (arg17 : BitVec 32) : BitVec 32 :=
  let c256_i32_193 : BitVec 32 := 256#32
  let v278 : BitVec 32 := Scalar.muli arg17 c256_i32_193
  v278

def k0_off11 (arg17 : BitVec 32) : Fin 2 → Nat :=
  let c256_i32_193 : BitVec 32 := 256#32
  let v278 : BitVec 32 := Scalar.muli arg17 c256_i32_193
  let v279 : BitVec 32 := v278
  let v280 : Index := Scalar.indexCast v279
  let c0_194 : Index := 0#32
  ![v280.toNat, 0]

def k0_chk4 (arg17 : BitVec 32) : Prop :=
  (256 ∣ (k0_mult8 arg17).toNat) ∧
  (∀ a, (k0_off11 arg17) a + S256x128.size a ≤ S8448x128.size a)
theorem k0_mult8_dvd : ∀ (arg17 : BitVec 32) (k0_hw4 : k0_chk4 arg17), 256 ∣ (k0_mult8 arg17).toNat := fun arg17 k0_hw4 => k0_hw4.1
theorem k0_off11_inb : ∀ (arg17 : BitVec 32) (k0_hw4 : k0_chk4 arg17), ∀ a, (k0_off11 arg17) a + S256x128.size a ≤ S8448x128.size a := fun arg17 k0_hw4 => k0_hw4.2

def k0_mult9 (arg13 : BitVec 32) (arg14 : BitVec 32) : BitVec 32 :=
  let c1_i32_198 : BitVec 32 := 1#32
  let v285 : BitVec 32 := Scalar.addi arg14 c1_i32_198
  let c32_i32_199 : BitVec 32 := 32#32
  let v286 : BitVec 1 := Scalar.cmpi .eq arg13 c32_i32_199
  let c2_i32_201 : BitVec 32 := 2#32
  let c2_i32_200 : BitVec 32 := 2#32
  let v287 : BitVec 32 := Scalar.addi arg13 c2_i32_200
  let v288 : BitVec 32 := Scalar.select v286 c2_i32_201 v287
  let v289 : BitVec 1 := Scalar.cmpi .eq v285 v288
  let c1_i32_202 : BitVec 32 := 1#32
  let v290 : BitVec 32 := Scalar.addi arg13 c1_i32_202
  let v291 : BitVec 32 := Scalar.select v289 v290 arg13
  let c256_i32_205 : BitVec 32 := 256#32
  let v294 : BitVec 32 := Scalar.muli v291 c256_i32_205
  v294
def k0_off12 (arg13 : BitVec 32) (arg14 : BitVec 32) : Fin 2 → Nat :=
  let c1_i32_198 : BitVec 32 := 1#32
  let v285 : BitVec 32 := Scalar.addi arg14 c1_i32_198
  let c32_i32_199 : BitVec 32 := 32#32
  let v286 : BitVec 1 := Scalar.cmpi .eq arg13 c32_i32_199
  let c2_i32_201 : BitVec 32 := 2#32
  let c2_i32_200 : BitVec 32 := 2#32
  let v287 : BitVec 32 := Scalar.addi arg13 c2_i32_200
  let v288 : BitVec 32 := Scalar.select v286 c2_i32_201 v287
  let v289 : BitVec 1 := Scalar.cmpi .eq v285 v288
  let c1_i32_202 : BitVec 32 := 1#32
  let v290 : BitVec 32 := Scalar.addi arg13 c1_i32_202
  let v291 : BitVec 32 := Scalar.select v289 v290 arg13
  let c256_i32_205 : BitVec 32 := 256#32
  let v294 : BitVec 32 := Scalar.muli v291 c256_i32_205
  let v295 : BitVec 32 := v294
  let v296 : Index := Scalar.indexCast v295
  let c0_206 : Index := 0#32
  ![v296.toNat, 0]
def k0_mult10 (arg13 : BitVec 32) (arg14 : BitVec 32) : BitVec 32 :=
  let c1_i32_198 : BitVec 32 := 1#32
  let v285 : BitVec 32 := Scalar.addi arg14 c1_i32_198
  let c32_i32_199 : BitVec 32 := 32#32
  let v286 : BitVec 1 := Scalar.cmpi .eq arg13 c32_i32_199
  let c2_i32_201 : BitVec 32 := 2#32
  let c2_i32_200 : BitVec 32 := 2#32
  let v287 : BitVec 32 := Scalar.addi arg13 c2_i32_200
  let v288 : BitVec 32 := Scalar.select v286 c2_i32_201 v287
  let v289 : BitVec 1 := Scalar.cmpi .eq v285 v288
  let c1_i32_202 : BitVec 32 := 1#32
  let v290 : BitVec 32 := Scalar.addi arg13 c1_i32_202
  let v291 : BitVec 32 := Scalar.select v289 v290 arg13
  let c32_i32_207 : BitVec 32 := 32#32
  let v299 : BitVec 1 := Scalar.cmpi .slt v291 c32_i32_207
  let c0_i32_204 : BitVec 32 := 0#32
  let c1_i32_203 : BitVec 32 := 1#32
  let v292 : BitVec 32 := Scalar.addi arg14 c1_i32_203
  let v293 : BitVec 32 := Scalar.select v289 c0_i32_204 v292
  let v300 : BitVec 1 := Scalar.cmpi .sle v293 v291
  let v301 : BitVec 1 := Scalar.andi v299 v300
  let v302 : BitVec 32 := Scalar.subi v291 v293
  let c256_i32_208 : BitVec 32 := 256#32
  let v303 : BitVec 32 := Scalar.muli v302 c256_i32_208
  let c8192_i32_209 : BitVec 32 := 8192#32
  let v304 : BitVec 32 := Scalar.select v301 v303 c8192_i32_209
  v304
def k0_off13 (arg13 : BitVec 32) (arg14 : BitVec 32) : Fin 2 → Nat :=
  let c1_i32_198 : BitVec 32 := 1#32
  let v285 : BitVec 32 := Scalar.addi arg14 c1_i32_198
  let c32_i32_199 : BitVec 32 := 32#32
  let v286 : BitVec 1 := Scalar.cmpi .eq arg13 c32_i32_199
  let c2_i32_201 : BitVec 32 := 2#32
  let c2_i32_200 : BitVec 32 := 2#32
  let v287 : BitVec 32 := Scalar.addi arg13 c2_i32_200
  let v288 : BitVec 32 := Scalar.select v286 c2_i32_201 v287
  let v289 : BitVec 1 := Scalar.cmpi .eq v285 v288
  let c1_i32_202 : BitVec 32 := 1#32
  let v290 : BitVec 32 := Scalar.addi arg13 c1_i32_202
  let v291 : BitVec 32 := Scalar.select v289 v290 arg13
  let c32_i32_207 : BitVec 32 := 32#32
  let v299 : BitVec 1 := Scalar.cmpi .slt v291 c32_i32_207
  let c0_i32_204 : BitVec 32 := 0#32
  let c1_i32_203 : BitVec 32 := 1#32
  let v292 : BitVec 32 := Scalar.addi arg14 c1_i32_203
  let v293 : BitVec 32 := Scalar.select v289 c0_i32_204 v292
  let v300 : BitVec 1 := Scalar.cmpi .sle v293 v291
  let v301 : BitVec 1 := Scalar.andi v299 v300
  let v302 : BitVec 32 := Scalar.subi v291 v293
  let c256_i32_208 : BitVec 32 := 256#32
  let v303 : BitVec 32 := Scalar.muli v302 c256_i32_208
  let c8192_i32_209 : BitVec 32 := 8192#32
  let v304 : BitVec 32 := Scalar.select v301 v303 c8192_i32_209
  let v305 : BitVec 32 := v304
  let v306 : Index := Scalar.indexCast v305
  let c0_210 : Index := 0#32
  ![v306.toNat, 0]
def k0_off14 (arg13 : BitVec 32) (arg14 : BitVec 32) : Fin 5 → Nat :=
  let c0_220 : Index := 0#32
  let c0_221 : Index := 0#32
  let c1_i32_198 : BitVec 32 := 1#32
  let v285 : BitVec 32 := Scalar.addi arg14 c1_i32_198
  let c32_i32_199 : BitVec 32 := 32#32
  let v286 : BitVec 1 := Scalar.cmpi .eq arg13 c32_i32_199
  let c2_i32_201 : BitVec 32 := 2#32
  let c2_i32_200 : BitVec 32 := 2#32
  let v287 : BitVec 32 := Scalar.addi arg13 c2_i32_200
  let v288 : BitVec 32 := Scalar.select v286 c2_i32_201 v287
  let v289 : BitVec 1 := Scalar.cmpi .eq v285 v288
  let c1_i32_202 : BitVec 32 := 1#32
  let v290 : BitVec 32 := Scalar.addi arg13 c1_i32_202
  let v291 : BitVec 32 := Scalar.select v289 v290 arg13
  let c32_i32_216 : BitVec 32 := 32#32
  let v314 : BitVec 1 := Scalar.cmpi .eq v291 c32_i32_216
  let c0_i32_204 : BitVec 32 := 0#32
  let c1_i32_203 : BitVec 32 := 1#32
  let v292 : BitVec 32 := Scalar.addi arg14 c1_i32_203
  let v293 : BitVec 32 := Scalar.select v289 c0_i32_204 v292
  let c0_i32_217 : BitVec 32 := 0#32
  let v315 : BitVec 1 := Scalar.cmpi .eq v293 c0_i32_217
  let c3_i32_218 : BitVec 32 := 3#32
  let c4_i32_219 : BitVec 32 := 4#32
  let v316 : BitVec 32 := Scalar.select v315 c3_i32_218 c4_i32_219
  let c0_i32_212 : BitVec 32 := 0#32
  let v310 : BitVec 1 := Scalar.cmpi .eq v293 c0_i32_212
  let c1_i32_215 : BitVec 32 := 1#32
  let v311 : BitVec 1 := Scalar.cmpi .sle v293 v291
  let c0_i32_213 : BitVec 32 := 0#32
  let c2_i32_214 : BitVec 32 := 2#32
  let v312 : BitVec 32 := Scalar.select v311 c0_i32_213 c2_i32_214
  let v313 : BitVec 32 := Scalar.select v310 c1_i32_215 v312
  let v317 : BitVec 32 := Scalar.select v314 v316 v313
  let v318 : Index := Scalar.indexCast v317
  let c0_222 : Index := 0#32
  let c0_223 : Index := 0#32
  ![0, 0, v318.toNat, 0, 0]
def k0_mult11 (arg15 : BitVec 32) (arg16 : BitVec 32) : BitVec 32 :=
  let c32_i32_252 : BitVec 32 := 32#32
  let v361 : BitVec 1 := Scalar.cmpi .slt arg15 c32_i32_252
  let v362 : BitVec 1 := Scalar.cmpi .sle arg16 arg15
  let v363 : BitVec 1 := Scalar.andi v361 v362
  let v364 : BitVec 32 := Scalar.subi arg15 arg16
  let c256_i32_253 : BitVec 32 := 256#32
  let v365 : BitVec 32 := Scalar.muli v364 c256_i32_253
  let c8192_i32_254 : BitVec 32 := 8192#32
  let v366 : BitVec 32 := Scalar.select v363 v365 c8192_i32_254
  v366

def k0_off15 (arg15 : BitVec 32) (arg16 : BitVec 32) : Fin 2 → Nat :=
  let c32_i32_252 : BitVec 32 := 32#32
  let v361 : BitVec 1 := Scalar.cmpi .slt arg15 c32_i32_252
  let v362 : BitVec 1 := Scalar.cmpi .sle arg16 arg15
  let v363 : BitVec 1 := Scalar.andi v361 v362
  let v364 : BitVec 32 := Scalar.subi arg15 arg16
  let c256_i32_253 : BitVec 32 := 256#32
  let v365 : BitVec 32 := Scalar.muli v364 c256_i32_253
  let c8192_i32_254 : BitVec 32 := 8192#32
  let v366 : BitVec 32 := Scalar.select v363 v365 c8192_i32_254
  let v367 : BitVec 32 := v366
  let v368 : Index := Scalar.indexCast v367
  let c0_255 : Index := 0#32
  ![v368.toNat, 0]

def k0_chk5 (arg15 : BitVec 32) (arg16 : BitVec 32) : Prop :=
  (256 ∣ (k0_mult11 arg15 arg16).toNat) ∧
  (∀ a, (k0_off15 arg15 arg16) a + S256x128.size a ≤ S8448x128.size a)
theorem k0_mult11_dvd : ∀ (arg15 : BitVec 32) (arg16 : BitVec 32) (k0_hw5 : k0_chk5 arg15 arg16), 256 ∣ (k0_mult11 arg15 arg16).toNat := fun arg15 arg16 k0_hw5 => k0_hw5.1
theorem k0_off15_inb : ∀ (arg15 : BitVec 32) (arg16 : BitVec 32) (k0_hw5 : k0_chk5 arg15 arg16), ∀ a, (k0_off15 arg15 arg16) a + S256x128.size a ≤ S8448x128.size a := fun arg15 arg16 k0_hw5 => k0_hw5.2

def k0_mult12 (arg15 : BitVec 32) : BitVec 32 :=
  let c256_i32_257 : BitVec 32 := 256#32
  let v374 : BitVec 32 := Scalar.muli arg15 c256_i32_257
  v374

def k0_off16 (arg15 : BitVec 32) : Fin 2 → Nat :=
  let c256_i32_257 : BitVec 32 := 256#32
  let v374 : BitVec 32 := Scalar.muli arg15 c256_i32_257
  let v375 : BitVec 32 := v374
  let v376 : Index := Scalar.indexCast v375
  let c0_258 : Index := 0#32
  ![v376.toNat, 0]

def k0_chk6 (arg15 : BitVec 32) : Prop :=
  (256 ∣ (k0_mult12 arg15).toNat) ∧
  (∀ a, (k0_off16 arg15) a + S256x128.size a ≤ S8448x128.size a)
theorem k0_mult12_dvd : ∀ (arg15 : BitVec 32) (k0_hw6 : k0_chk6 arg15), 256 ∣ (k0_mult12 arg15).toNat := fun arg15 k0_hw6 => k0_hw6.1
theorem k0_off16_inb : ∀ (arg15 : BitVec 32) (k0_hw6 : k0_chk6 arg15), ∀ a, (k0_off16 arg15) a + S256x128.size a ≤ S8448x128.size a := fun arg15 k0_hw6 => k0_hw6.2

def k0_mult13 (arg13 : BitVec 32) (arg14 : BitVec 32) : BitVec 32 :=
  let c1_i32_198 : BitVec 32 := 1#32
  let v285 : BitVec 32 := Scalar.addi arg14 c1_i32_198
  let c32_i32_199 : BitVec 32 := 32#32
  let v286 : BitVec 1 := Scalar.cmpi .eq arg13 c32_i32_199
  let c2_i32_201 : BitVec 32 := 2#32
  let c2_i32_200 : BitVec 32 := 2#32
  let v287 : BitVec 32 := Scalar.addi arg13 c2_i32_200
  let v288 : BitVec 32 := Scalar.select v286 c2_i32_201 v287
  let v289 : BitVec 1 := Scalar.cmpi .eq v285 v288
  let c0_i32_204 : BitVec 32 := 0#32
  let c1_i32_203 : BitVec 32 := 1#32
  let v292 : BitVec 32 := Scalar.addi arg14 c1_i32_203
  let v293 : BitVec 32 := Scalar.select v289 c0_i32_204 v292
  let c1_i32_262 : BitVec 32 := 1#32
  let v381 : BitVec 32 := Scalar.addi v293 c1_i32_262
  let c1_i32_202 : BitVec 32 := 1#32
  let v290 : BitVec 32 := Scalar.addi arg13 c1_i32_202
  let v291 : BitVec 32 := Scalar.select v289 v290 arg13
  let c32_i32_263 : BitVec 32 := 32#32
  let v382 : BitVec 1 := Scalar.cmpi .eq v291 c32_i32_263
  let c2_i32_265 : BitVec 32 := 2#32
  let c2_i32_264 : BitVec 32 := 2#32
  let v383 : BitVec 32 := Scalar.addi v291 c2_i32_264
  let v384 : BitVec 32 := Scalar.select v382 c2_i32_265 v383
  let v385 : BitVec 1 := Scalar.cmpi .eq v381 v384
  let c1_i32_266 : BitVec 32 := 1#32
  let v386 : BitVec 32 := Scalar.addi v291 c1_i32_266
  let v387 : BitVec 32 := Scalar.select v385 v386 v291
  let c256_i32_269 : BitVec 32 := 256#32
  let v390 : BitVec 32 := Scalar.muli v387 c256_i32_269
  v390
def k0_off17 (arg13 : BitVec 32) (arg14 : BitVec 32) : Fin 2 → Nat :=
  let c1_i32_198 : BitVec 32 := 1#32
  let v285 : BitVec 32 := Scalar.addi arg14 c1_i32_198
  let c32_i32_199 : BitVec 32 := 32#32
  let v286 : BitVec 1 := Scalar.cmpi .eq arg13 c32_i32_199
  let c2_i32_201 : BitVec 32 := 2#32
  let c2_i32_200 : BitVec 32 := 2#32
  let v287 : BitVec 32 := Scalar.addi arg13 c2_i32_200
  let v288 : BitVec 32 := Scalar.select v286 c2_i32_201 v287
  let v289 : BitVec 1 := Scalar.cmpi .eq v285 v288
  let c0_i32_204 : BitVec 32 := 0#32
  let c1_i32_203 : BitVec 32 := 1#32
  let v292 : BitVec 32 := Scalar.addi arg14 c1_i32_203
  let v293 : BitVec 32 := Scalar.select v289 c0_i32_204 v292
  let c1_i32_262 : BitVec 32 := 1#32
  let v381 : BitVec 32 := Scalar.addi v293 c1_i32_262
  let c1_i32_202 : BitVec 32 := 1#32
  let v290 : BitVec 32 := Scalar.addi arg13 c1_i32_202
  let v291 : BitVec 32 := Scalar.select v289 v290 arg13
  let c32_i32_263 : BitVec 32 := 32#32
  let v382 : BitVec 1 := Scalar.cmpi .eq v291 c32_i32_263
  let c2_i32_265 : BitVec 32 := 2#32
  let c2_i32_264 : BitVec 32 := 2#32
  let v383 : BitVec 32 := Scalar.addi v291 c2_i32_264
  let v384 : BitVec 32 := Scalar.select v382 c2_i32_265 v383
  let v385 : BitVec 1 := Scalar.cmpi .eq v381 v384
  let c1_i32_266 : BitVec 32 := 1#32
  let v386 : BitVec 32 := Scalar.addi v291 c1_i32_266
  let v387 : BitVec 32 := Scalar.select v385 v386 v291
  let c256_i32_269 : BitVec 32 := 256#32
  let v390 : BitVec 32 := Scalar.muli v387 c256_i32_269
  let v391 : BitVec 32 := v390
  let v392 : Index := Scalar.indexCast v391
  let c0_270 : Index := 0#32
  ![v392.toNat, 0]
def k0_mult14 (arg13 : BitVec 32) (arg14 : BitVec 32) : BitVec 32 :=
  let c1_i32_198 : BitVec 32 := 1#32
  let v285 : BitVec 32 := Scalar.addi arg14 c1_i32_198
  let c32_i32_199 : BitVec 32 := 32#32
  let v286 : BitVec 1 := Scalar.cmpi .eq arg13 c32_i32_199
  let c2_i32_201 : BitVec 32 := 2#32
  let c2_i32_200 : BitVec 32 := 2#32
  let v287 : BitVec 32 := Scalar.addi arg13 c2_i32_200
  let v288 : BitVec 32 := Scalar.select v286 c2_i32_201 v287
  let v289 : BitVec 1 := Scalar.cmpi .eq v285 v288
  let c0_i32_204 : BitVec 32 := 0#32
  let c1_i32_203 : BitVec 32 := 1#32
  let v292 : BitVec 32 := Scalar.addi arg14 c1_i32_203
  let v293 : BitVec 32 := Scalar.select v289 c0_i32_204 v292
  let c1_i32_262 : BitVec 32 := 1#32
  let v381 : BitVec 32 := Scalar.addi v293 c1_i32_262
  let c1_i32_202 : BitVec 32 := 1#32
  let v290 : BitVec 32 := Scalar.addi arg13 c1_i32_202
  let v291 : BitVec 32 := Scalar.select v289 v290 arg13
  let c32_i32_263 : BitVec 32 := 32#32
  let v382 : BitVec 1 := Scalar.cmpi .eq v291 c32_i32_263
  let c2_i32_265 : BitVec 32 := 2#32
  let c2_i32_264 : BitVec 32 := 2#32
  let v383 : BitVec 32 := Scalar.addi v291 c2_i32_264
  let v384 : BitVec 32 := Scalar.select v382 c2_i32_265 v383
  let v385 : BitVec 1 := Scalar.cmpi .eq v381 v384
  let c1_i32_266 : BitVec 32 := 1#32
  let v386 : BitVec 32 := Scalar.addi v291 c1_i32_266
  let v387 : BitVec 32 := Scalar.select v385 v386 v291
  let c32_i32_271 : BitVec 32 := 32#32
  let v395 : BitVec 1 := Scalar.cmpi .slt v387 c32_i32_271
  let c0_i32_268 : BitVec 32 := 0#32
  let c1_i32_267 : BitVec 32 := 1#32
  let v388 : BitVec 32 := Scalar.addi v293 c1_i32_267
  let v389 : BitVec 32 := Scalar.select v385 c0_i32_268 v388
  let v396 : BitVec 1 := Scalar.cmpi .sle v389 v387
  let v397 : BitVec 1 := Scalar.andi v395 v396
  let v398 : BitVec 32 := Scalar.subi v387 v389
  let c256_i32_272 : BitVec 32 := 256#32
  let v399 : BitVec 32 := Scalar.muli v398 c256_i32_272
  let c8192_i32_273 : BitVec 32 := 8192#32
  let v400 : BitVec 32 := Scalar.select v397 v399 c8192_i32_273
  v400
def k0_off18 (arg13 : BitVec 32) (arg14 : BitVec 32) : Fin 2 → Nat :=
  let c1_i32_198 : BitVec 32 := 1#32
  let v285 : BitVec 32 := Scalar.addi arg14 c1_i32_198
  let c32_i32_199 : BitVec 32 := 32#32
  let v286 : BitVec 1 := Scalar.cmpi .eq arg13 c32_i32_199
  let c2_i32_201 : BitVec 32 := 2#32
  let c2_i32_200 : BitVec 32 := 2#32
  let v287 : BitVec 32 := Scalar.addi arg13 c2_i32_200
  let v288 : BitVec 32 := Scalar.select v286 c2_i32_201 v287
  let v289 : BitVec 1 := Scalar.cmpi .eq v285 v288
  let c0_i32_204 : BitVec 32 := 0#32
  let c1_i32_203 : BitVec 32 := 1#32
  let v292 : BitVec 32 := Scalar.addi arg14 c1_i32_203
  let v293 : BitVec 32 := Scalar.select v289 c0_i32_204 v292
  let c1_i32_262 : BitVec 32 := 1#32
  let v381 : BitVec 32 := Scalar.addi v293 c1_i32_262
  let c1_i32_202 : BitVec 32 := 1#32
  let v290 : BitVec 32 := Scalar.addi arg13 c1_i32_202
  let v291 : BitVec 32 := Scalar.select v289 v290 arg13
  let c32_i32_263 : BitVec 32 := 32#32
  let v382 : BitVec 1 := Scalar.cmpi .eq v291 c32_i32_263
  let c2_i32_265 : BitVec 32 := 2#32
  let c2_i32_264 : BitVec 32 := 2#32
  let v383 : BitVec 32 := Scalar.addi v291 c2_i32_264
  let v384 : BitVec 32 := Scalar.select v382 c2_i32_265 v383
  let v385 : BitVec 1 := Scalar.cmpi .eq v381 v384
  let c1_i32_266 : BitVec 32 := 1#32
  let v386 : BitVec 32 := Scalar.addi v291 c1_i32_266
  let v387 : BitVec 32 := Scalar.select v385 v386 v291
  let c32_i32_271 : BitVec 32 := 32#32
  let v395 : BitVec 1 := Scalar.cmpi .slt v387 c32_i32_271
  let c0_i32_268 : BitVec 32 := 0#32
  let c1_i32_267 : BitVec 32 := 1#32
  let v388 : BitVec 32 := Scalar.addi v293 c1_i32_267
  let v389 : BitVec 32 := Scalar.select v385 c0_i32_268 v388
  let v396 : BitVec 1 := Scalar.cmpi .sle v389 v387
  let v397 : BitVec 1 := Scalar.andi v395 v396
  let v398 : BitVec 32 := Scalar.subi v387 v389
  let c256_i32_272 : BitVec 32 := 256#32
  let v399 : BitVec 32 := Scalar.muli v398 c256_i32_272
  let c8192_i32_273 : BitVec 32 := 8192#32
  let v400 : BitVec 32 := Scalar.select v397 v399 c8192_i32_273
  let v401 : BitVec 32 := v400
  let v402 : Index := Scalar.indexCast v401
  let c0_274 : Index := 0#32
  ![v402.toNat, 0]
def k0_off19 (arg13 : BitVec 32) (arg14 : BitVec 32) : Fin 5 → Nat :=
  let c0_284 : Index := 0#32
  let c0_285 : Index := 0#32
  let c1_i32_198 : BitVec 32 := 1#32
  let v285 : BitVec 32 := Scalar.addi arg14 c1_i32_198
  let c32_i32_199 : BitVec 32 := 32#32
  let v286 : BitVec 1 := Scalar.cmpi .eq arg13 c32_i32_199
  let c2_i32_201 : BitVec 32 := 2#32
  let c2_i32_200 : BitVec 32 := 2#32
  let v287 : BitVec 32 := Scalar.addi arg13 c2_i32_200
  let v288 : BitVec 32 := Scalar.select v286 c2_i32_201 v287
  let v289 : BitVec 1 := Scalar.cmpi .eq v285 v288
  let c0_i32_204 : BitVec 32 := 0#32
  let c1_i32_203 : BitVec 32 := 1#32
  let v292 : BitVec 32 := Scalar.addi arg14 c1_i32_203
  let v293 : BitVec 32 := Scalar.select v289 c0_i32_204 v292
  let c1_i32_262 : BitVec 32 := 1#32
  let v381 : BitVec 32 := Scalar.addi v293 c1_i32_262
  let c1_i32_202 : BitVec 32 := 1#32
  let v290 : BitVec 32 := Scalar.addi arg13 c1_i32_202
  let v291 : BitVec 32 := Scalar.select v289 v290 arg13
  let c32_i32_263 : BitVec 32 := 32#32
  let v382 : BitVec 1 := Scalar.cmpi .eq v291 c32_i32_263
  let c2_i32_265 : BitVec 32 := 2#32
  let c2_i32_264 : BitVec 32 := 2#32
  let v383 : BitVec 32 := Scalar.addi v291 c2_i32_264
  let v384 : BitVec 32 := Scalar.select v382 c2_i32_265 v383
  let v385 : BitVec 1 := Scalar.cmpi .eq v381 v384
  let c1_i32_266 : BitVec 32 := 1#32
  let v386 : BitVec 32 := Scalar.addi v291 c1_i32_266
  let v387 : BitVec 32 := Scalar.select v385 v386 v291
  let c32_i32_280 : BitVec 32 := 32#32
  let v410 : BitVec 1 := Scalar.cmpi .eq v387 c32_i32_280
  let c0_i32_268 : BitVec 32 := 0#32
  let c1_i32_267 : BitVec 32 := 1#32
  let v388 : BitVec 32 := Scalar.addi v293 c1_i32_267
  let v389 : BitVec 32 := Scalar.select v385 c0_i32_268 v388
  let c0_i32_281 : BitVec 32 := 0#32
  let v411 : BitVec 1 := Scalar.cmpi .eq v389 c0_i32_281
  let c3_i32_282 : BitVec 32 := 3#32
  let c4_i32_283 : BitVec 32 := 4#32
  let v412 : BitVec 32 := Scalar.select v411 c3_i32_282 c4_i32_283
  let c0_i32_276 : BitVec 32 := 0#32
  let v406 : BitVec 1 := Scalar.cmpi .eq v389 c0_i32_276
  let c1_i32_279 : BitVec 32 := 1#32
  let v407 : BitVec 1 := Scalar.cmpi .sle v389 v387
  let c0_i32_277 : BitVec 32 := 0#32
  let c2_i32_278 : BitVec 32 := 2#32
  let v408 : BitVec 32 := Scalar.select v407 c0_i32_277 c2_i32_278
  let v409 : BitVec 32 := Scalar.select v406 c1_i32_279 v408
  let v413 : BitVec 32 := Scalar.select v410 v412 v409
  let v414 : Index := Scalar.indexCast v413
  let c0_286 : Index := 0#32
  let c0_287 : Index := 0#32
  ![0, 0, v414.toNat, 0, 0]
def k0_mult15 (arg13 : BitVec 32) (arg14 : BitVec 32) : BitVec 32 :=
  let c32_i32_316 : BitVec 32 := 32#32
  let v457 : BitVec 1 := Scalar.cmpi .slt arg13 c32_i32_316
  let v458 : BitVec 1 := Scalar.cmpi .sle arg14 arg13
  let v459 : BitVec 1 := Scalar.andi v457 v458
  let v460 : BitVec 32 := Scalar.subi arg13 arg14
  let c256_i32_317 : BitVec 32 := 256#32
  let v461 : BitVec 32 := Scalar.muli v460 c256_i32_317
  let c8192_i32_318 : BitVec 32 := 8192#32
  let v462 : BitVec 32 := Scalar.select v459 v461 c8192_i32_318
  v462
def k0_off20 (arg13 : BitVec 32) (arg14 : BitVec 32) : Fin 2 → Nat :=
  let c32_i32_316 : BitVec 32 := 32#32
  let v457 : BitVec 1 := Scalar.cmpi .slt arg13 c32_i32_316
  let v458 : BitVec 1 := Scalar.cmpi .sle arg14 arg13
  let v459 : BitVec 1 := Scalar.andi v457 v458
  let v460 : BitVec 32 := Scalar.subi arg13 arg14
  let c256_i32_317 : BitVec 32 := 256#32
  let v461 : BitVec 32 := Scalar.muli v460 c256_i32_317
  let c8192_i32_318 : BitVec 32 := 8192#32
  let v462 : BitVec 32 := Scalar.select v459 v461 c8192_i32_318
  let v463 : BitVec 32 := v462
  let v464 : Index := Scalar.indexCast v463
  let c0_319 : Index := 0#32
  ![v464.toNat, 0]
def k0_mult16 (arg13 : BitVec 32) : BitVec 32 :=
  let c256_i32_321 : BitVec 32 := 256#32
  let v470 : BitVec 32 := Scalar.muli arg13 c256_i32_321
  v470
def k0_off21 (arg13 : BitVec 32) : Fin 2 → Nat :=
  let c256_i32_321 : BitVec 32 := 256#32
  let v470 : BitVec 32 := Scalar.muli arg13 c256_i32_321
  let v471 : BitVec 32 := v470
  let v472 : Index := Scalar.indexCast v471
  let c0_322 : Index := 0#32
  ![v472.toNat, 0]

def k0_chk1 (arg13 : BitVec 32) : Prop :=
  (256 ∣ (k0_mult5 arg13).toNat) ∧
  (∀ a, (k0_off7 arg13) a + S256x128.size a ≤ S8448x128.size a) ∧
  (256 ∣ (k0_mult16 arg13).toNat) ∧
  (∀ a, (k0_off21 arg13) a + S256x128.size a ≤ S8448x128.size a)
theorem k0_mult5_dvd : ∀ (arg13 : BitVec 32) (k0_hw1 : k0_chk1 arg13), 256 ∣ (k0_mult5 arg13).toNat := fun arg13 k0_hw1 => k0_hw1.1
theorem k0_off7_inb : ∀ (arg13 : BitVec 32) (k0_hw1 : k0_chk1 arg13), ∀ a, (k0_off7 arg13) a + S256x128.size a ≤ S8448x128.size a := fun arg13 k0_hw1 => k0_hw1.2.1
theorem k0_mult16_dvd : ∀ (arg13 : BitVec 32) (k0_hw1 : k0_chk1 arg13), 256 ∣ (k0_mult16 arg13).toNat := fun arg13 k0_hw1 => k0_hw1.2.2.1
theorem k0_off21_inb : ∀ (arg13 : BitVec 32) (k0_hw1 : k0_chk1 arg13), ∀ a, (k0_off21 arg13) a + S256x128.size a ≤ S8448x128.size a := fun arg13 k0_hw1 => k0_hw1.2.2.2

def k0_mult17 (arg13 : BitVec 32) (arg14 : BitVec 32) : BitVec 32 :=
  let c1_i32_198 : BitVec 32 := 1#32
  let v285 : BitVec 32 := Scalar.addi arg14 c1_i32_198
  let c32_i32_199 : BitVec 32 := 32#32
  let v286 : BitVec 1 := Scalar.cmpi .eq arg13 c32_i32_199
  let c2_i32_201 : BitVec 32 := 2#32
  let c2_i32_200 : BitVec 32 := 2#32
  let v287 : BitVec 32 := Scalar.addi arg13 c2_i32_200
  let v288 : BitVec 32 := Scalar.select v286 c2_i32_201 v287
  let v289 : BitVec 1 := Scalar.cmpi .eq v285 v288
  let c0_i32_204 : BitVec 32 := 0#32
  let c1_i32_203 : BitVec 32 := 1#32
  let v292 : BitVec 32 := Scalar.addi arg14 c1_i32_203
  let v293 : BitVec 32 := Scalar.select v289 c0_i32_204 v292
  let c1_i32_262 : BitVec 32 := 1#32
  let v381 : BitVec 32 := Scalar.addi v293 c1_i32_262
  let c1_i32_202 : BitVec 32 := 1#32
  let v290 : BitVec 32 := Scalar.addi arg13 c1_i32_202
  let v291 : BitVec 32 := Scalar.select v289 v290 arg13
  let c32_i32_263 : BitVec 32 := 32#32
  let v382 : BitVec 1 := Scalar.cmpi .eq v291 c32_i32_263
  let c2_i32_265 : BitVec 32 := 2#32
  let c2_i32_264 : BitVec 32 := 2#32
  let v383 : BitVec 32 := Scalar.addi v291 c2_i32_264
  let v384 : BitVec 32 := Scalar.select v382 c2_i32_265 v383
  let v385 : BitVec 1 := Scalar.cmpi .eq v381 v384
  let c0_i32_268 : BitVec 32 := 0#32
  let c1_i32_267 : BitVec 32 := 1#32
  let v388 : BitVec 32 := Scalar.addi v293 c1_i32_267
  let v389 : BitVec 32 := Scalar.select v385 c0_i32_268 v388
  let c1_i32_326 : BitVec 32 := 1#32
  let v477 : BitVec 32 := Scalar.addi v389 c1_i32_326
  let c1_i32_266 : BitVec 32 := 1#32
  let v386 : BitVec 32 := Scalar.addi v291 c1_i32_266
  let v387 : BitVec 32 := Scalar.select v385 v386 v291
  let c32_i32_327 : BitVec 32 := 32#32
  let v478 : BitVec 1 := Scalar.cmpi .eq v387 c32_i32_327
  let c2_i32_329 : BitVec 32 := 2#32
  let c2_i32_328 : BitVec 32 := 2#32
  let v479 : BitVec 32 := Scalar.addi v387 c2_i32_328
  let v480 : BitVec 32 := Scalar.select v478 c2_i32_329 v479
  let v481 : BitVec 1 := Scalar.cmpi .eq v477 v480
  let c1_i32_330 : BitVec 32 := 1#32
  let v482 : BitVec 32 := Scalar.addi v387 c1_i32_330
  let v483 : BitVec 32 := Scalar.select v481 v482 v387
  let c256_i32_333 : BitVec 32 := 256#32
  let v486 : BitVec 32 := Scalar.muli v483 c256_i32_333
  v486
def k0_off22 (arg13 : BitVec 32) (arg14 : BitVec 32) : Fin 2 → Nat :=
  let c1_i32_198 : BitVec 32 := 1#32
  let v285 : BitVec 32 := Scalar.addi arg14 c1_i32_198
  let c32_i32_199 : BitVec 32 := 32#32
  let v286 : BitVec 1 := Scalar.cmpi .eq arg13 c32_i32_199
  let c2_i32_201 : BitVec 32 := 2#32
  let c2_i32_200 : BitVec 32 := 2#32
  let v287 : BitVec 32 := Scalar.addi arg13 c2_i32_200
  let v288 : BitVec 32 := Scalar.select v286 c2_i32_201 v287
  let v289 : BitVec 1 := Scalar.cmpi .eq v285 v288
  let c0_i32_204 : BitVec 32 := 0#32
  let c1_i32_203 : BitVec 32 := 1#32
  let v292 : BitVec 32 := Scalar.addi arg14 c1_i32_203
  let v293 : BitVec 32 := Scalar.select v289 c0_i32_204 v292
  let c1_i32_262 : BitVec 32 := 1#32
  let v381 : BitVec 32 := Scalar.addi v293 c1_i32_262
  let c1_i32_202 : BitVec 32 := 1#32
  let v290 : BitVec 32 := Scalar.addi arg13 c1_i32_202
  let v291 : BitVec 32 := Scalar.select v289 v290 arg13
  let c32_i32_263 : BitVec 32 := 32#32
  let v382 : BitVec 1 := Scalar.cmpi .eq v291 c32_i32_263
  let c2_i32_265 : BitVec 32 := 2#32
  let c2_i32_264 : BitVec 32 := 2#32
  let v383 : BitVec 32 := Scalar.addi v291 c2_i32_264
  let v384 : BitVec 32 := Scalar.select v382 c2_i32_265 v383
  let v385 : BitVec 1 := Scalar.cmpi .eq v381 v384
  let c0_i32_268 : BitVec 32 := 0#32
  let c1_i32_267 : BitVec 32 := 1#32
  let v388 : BitVec 32 := Scalar.addi v293 c1_i32_267
  let v389 : BitVec 32 := Scalar.select v385 c0_i32_268 v388
  let c1_i32_326 : BitVec 32 := 1#32
  let v477 : BitVec 32 := Scalar.addi v389 c1_i32_326
  let c1_i32_266 : BitVec 32 := 1#32
  let v386 : BitVec 32 := Scalar.addi v291 c1_i32_266
  let v387 : BitVec 32 := Scalar.select v385 v386 v291
  let c32_i32_327 : BitVec 32 := 32#32
  let v478 : BitVec 1 := Scalar.cmpi .eq v387 c32_i32_327
  let c2_i32_329 : BitVec 32 := 2#32
  let c2_i32_328 : BitVec 32 := 2#32
  let v479 : BitVec 32 := Scalar.addi v387 c2_i32_328
  let v480 : BitVec 32 := Scalar.select v478 c2_i32_329 v479
  let v481 : BitVec 1 := Scalar.cmpi .eq v477 v480
  let c1_i32_330 : BitVec 32 := 1#32
  let v482 : BitVec 32 := Scalar.addi v387 c1_i32_330
  let v483 : BitVec 32 := Scalar.select v481 v482 v387
  let c256_i32_333 : BitVec 32 := 256#32
  let v486 : BitVec 32 := Scalar.muli v483 c256_i32_333
  let v487 : BitVec 32 := v486
  let v488 : Index := Scalar.indexCast v487
  let c0_334 : Index := 0#32
  ![v488.toNat, 0]
def k0_mult18 (arg13 : BitVec 32) (arg14 : BitVec 32) : BitVec 32 :=
  let c1_i32_198 : BitVec 32 := 1#32
  let v285 : BitVec 32 := Scalar.addi arg14 c1_i32_198
  let c32_i32_199 : BitVec 32 := 32#32
  let v286 : BitVec 1 := Scalar.cmpi .eq arg13 c32_i32_199
  let c2_i32_201 : BitVec 32 := 2#32
  let c2_i32_200 : BitVec 32 := 2#32
  let v287 : BitVec 32 := Scalar.addi arg13 c2_i32_200
  let v288 : BitVec 32 := Scalar.select v286 c2_i32_201 v287
  let v289 : BitVec 1 := Scalar.cmpi .eq v285 v288
  let c0_i32_204 : BitVec 32 := 0#32
  let c1_i32_203 : BitVec 32 := 1#32
  let v292 : BitVec 32 := Scalar.addi arg14 c1_i32_203
  let v293 : BitVec 32 := Scalar.select v289 c0_i32_204 v292
  let c1_i32_262 : BitVec 32 := 1#32
  let v381 : BitVec 32 := Scalar.addi v293 c1_i32_262
  let c1_i32_202 : BitVec 32 := 1#32
  let v290 : BitVec 32 := Scalar.addi arg13 c1_i32_202
  let v291 : BitVec 32 := Scalar.select v289 v290 arg13
  let c32_i32_263 : BitVec 32 := 32#32
  let v382 : BitVec 1 := Scalar.cmpi .eq v291 c32_i32_263
  let c2_i32_265 : BitVec 32 := 2#32
  let c2_i32_264 : BitVec 32 := 2#32
  let v383 : BitVec 32 := Scalar.addi v291 c2_i32_264
  let v384 : BitVec 32 := Scalar.select v382 c2_i32_265 v383
  let v385 : BitVec 1 := Scalar.cmpi .eq v381 v384
  let c0_i32_268 : BitVec 32 := 0#32
  let c1_i32_267 : BitVec 32 := 1#32
  let v388 : BitVec 32 := Scalar.addi v293 c1_i32_267
  let v389 : BitVec 32 := Scalar.select v385 c0_i32_268 v388
  let c1_i32_326 : BitVec 32 := 1#32
  let v477 : BitVec 32 := Scalar.addi v389 c1_i32_326
  let c1_i32_266 : BitVec 32 := 1#32
  let v386 : BitVec 32 := Scalar.addi v291 c1_i32_266
  let v387 : BitVec 32 := Scalar.select v385 v386 v291
  let c32_i32_327 : BitVec 32 := 32#32
  let v478 : BitVec 1 := Scalar.cmpi .eq v387 c32_i32_327
  let c2_i32_329 : BitVec 32 := 2#32
  let c2_i32_328 : BitVec 32 := 2#32
  let v479 : BitVec 32 := Scalar.addi v387 c2_i32_328
  let v480 : BitVec 32 := Scalar.select v478 c2_i32_329 v479
  let v481 : BitVec 1 := Scalar.cmpi .eq v477 v480
  let c1_i32_330 : BitVec 32 := 1#32
  let v482 : BitVec 32 := Scalar.addi v387 c1_i32_330
  let v483 : BitVec 32 := Scalar.select v481 v482 v387
  let c32_i32_335 : BitVec 32 := 32#32
  let v491 : BitVec 1 := Scalar.cmpi .slt v483 c32_i32_335
  let c0_i32_332 : BitVec 32 := 0#32
  let c1_i32_331 : BitVec 32 := 1#32
  let v484 : BitVec 32 := Scalar.addi v389 c1_i32_331
  let v485 : BitVec 32 := Scalar.select v481 c0_i32_332 v484
  let v492 : BitVec 1 := Scalar.cmpi .sle v485 v483
  let v493 : BitVec 1 := Scalar.andi v491 v492
  let v494 : BitVec 32 := Scalar.subi v483 v485
  let c256_i32_336 : BitVec 32 := 256#32
  let v495 : BitVec 32 := Scalar.muli v494 c256_i32_336
  let c8192_i32_337 : BitVec 32 := 8192#32
  let v496 : BitVec 32 := Scalar.select v493 v495 c8192_i32_337
  v496
def k0_off23 (arg13 : BitVec 32) (arg14 : BitVec 32) : Fin 2 → Nat :=
  let c1_i32_198 : BitVec 32 := 1#32
  let v285 : BitVec 32 := Scalar.addi arg14 c1_i32_198
  let c32_i32_199 : BitVec 32 := 32#32
  let v286 : BitVec 1 := Scalar.cmpi .eq arg13 c32_i32_199
  let c2_i32_201 : BitVec 32 := 2#32
  let c2_i32_200 : BitVec 32 := 2#32
  let v287 : BitVec 32 := Scalar.addi arg13 c2_i32_200
  let v288 : BitVec 32 := Scalar.select v286 c2_i32_201 v287
  let v289 : BitVec 1 := Scalar.cmpi .eq v285 v288
  let c0_i32_204 : BitVec 32 := 0#32
  let c1_i32_203 : BitVec 32 := 1#32
  let v292 : BitVec 32 := Scalar.addi arg14 c1_i32_203
  let v293 : BitVec 32 := Scalar.select v289 c0_i32_204 v292
  let c1_i32_262 : BitVec 32 := 1#32
  let v381 : BitVec 32 := Scalar.addi v293 c1_i32_262
  let c1_i32_202 : BitVec 32 := 1#32
  let v290 : BitVec 32 := Scalar.addi arg13 c1_i32_202
  let v291 : BitVec 32 := Scalar.select v289 v290 arg13
  let c32_i32_263 : BitVec 32 := 32#32
  let v382 : BitVec 1 := Scalar.cmpi .eq v291 c32_i32_263
  let c2_i32_265 : BitVec 32 := 2#32
  let c2_i32_264 : BitVec 32 := 2#32
  let v383 : BitVec 32 := Scalar.addi v291 c2_i32_264
  let v384 : BitVec 32 := Scalar.select v382 c2_i32_265 v383
  let v385 : BitVec 1 := Scalar.cmpi .eq v381 v384
  let c0_i32_268 : BitVec 32 := 0#32
  let c1_i32_267 : BitVec 32 := 1#32
  let v388 : BitVec 32 := Scalar.addi v293 c1_i32_267
  let v389 : BitVec 32 := Scalar.select v385 c0_i32_268 v388
  let c1_i32_326 : BitVec 32 := 1#32
  let v477 : BitVec 32 := Scalar.addi v389 c1_i32_326
  let c1_i32_266 : BitVec 32 := 1#32
  let v386 : BitVec 32 := Scalar.addi v291 c1_i32_266
  let v387 : BitVec 32 := Scalar.select v385 v386 v291
  let c32_i32_327 : BitVec 32 := 32#32
  let v478 : BitVec 1 := Scalar.cmpi .eq v387 c32_i32_327
  let c2_i32_329 : BitVec 32 := 2#32
  let c2_i32_328 : BitVec 32 := 2#32
  let v479 : BitVec 32 := Scalar.addi v387 c2_i32_328
  let v480 : BitVec 32 := Scalar.select v478 c2_i32_329 v479
  let v481 : BitVec 1 := Scalar.cmpi .eq v477 v480
  let c1_i32_330 : BitVec 32 := 1#32
  let v482 : BitVec 32 := Scalar.addi v387 c1_i32_330
  let v483 : BitVec 32 := Scalar.select v481 v482 v387
  let c32_i32_335 : BitVec 32 := 32#32
  let v491 : BitVec 1 := Scalar.cmpi .slt v483 c32_i32_335
  let c0_i32_332 : BitVec 32 := 0#32
  let c1_i32_331 : BitVec 32 := 1#32
  let v484 : BitVec 32 := Scalar.addi v389 c1_i32_331
  let v485 : BitVec 32 := Scalar.select v481 c0_i32_332 v484
  let v492 : BitVec 1 := Scalar.cmpi .sle v485 v483
  let v493 : BitVec 1 := Scalar.andi v491 v492
  let v494 : BitVec 32 := Scalar.subi v483 v485
  let c256_i32_336 : BitVec 32 := 256#32
  let v495 : BitVec 32 := Scalar.muli v494 c256_i32_336
  let c8192_i32_337 : BitVec 32 := 8192#32
  let v496 : BitVec 32 := Scalar.select v493 v495 c8192_i32_337
  let v497 : BitVec 32 := v496
  let v498 : Index := Scalar.indexCast v497
  let c0_338 : Index := 0#32
  ![v498.toNat, 0]
def k0_off24 (arg13 : BitVec 32) (arg14 : BitVec 32) : Fin 5 → Nat :=
  let c0_348 : Index := 0#32
  let c0_349 : Index := 0#32
  let c1_i32_198 : BitVec 32 := 1#32
  let v285 : BitVec 32 := Scalar.addi arg14 c1_i32_198
  let c32_i32_199 : BitVec 32 := 32#32
  let v286 : BitVec 1 := Scalar.cmpi .eq arg13 c32_i32_199
  let c2_i32_201 : BitVec 32 := 2#32
  let c2_i32_200 : BitVec 32 := 2#32
  let v287 : BitVec 32 := Scalar.addi arg13 c2_i32_200
  let v288 : BitVec 32 := Scalar.select v286 c2_i32_201 v287
  let v289 : BitVec 1 := Scalar.cmpi .eq v285 v288
  let c0_i32_204 : BitVec 32 := 0#32
  let c1_i32_203 : BitVec 32 := 1#32
  let v292 : BitVec 32 := Scalar.addi arg14 c1_i32_203
  let v293 : BitVec 32 := Scalar.select v289 c0_i32_204 v292
  let c1_i32_262 : BitVec 32 := 1#32
  let v381 : BitVec 32 := Scalar.addi v293 c1_i32_262
  let c1_i32_202 : BitVec 32 := 1#32
  let v290 : BitVec 32 := Scalar.addi arg13 c1_i32_202
  let v291 : BitVec 32 := Scalar.select v289 v290 arg13
  let c32_i32_263 : BitVec 32 := 32#32
  let v382 : BitVec 1 := Scalar.cmpi .eq v291 c32_i32_263
  let c2_i32_265 : BitVec 32 := 2#32
  let c2_i32_264 : BitVec 32 := 2#32
  let v383 : BitVec 32 := Scalar.addi v291 c2_i32_264
  let v384 : BitVec 32 := Scalar.select v382 c2_i32_265 v383
  let v385 : BitVec 1 := Scalar.cmpi .eq v381 v384
  let c0_i32_268 : BitVec 32 := 0#32
  let c1_i32_267 : BitVec 32 := 1#32
  let v388 : BitVec 32 := Scalar.addi v293 c1_i32_267
  let v389 : BitVec 32 := Scalar.select v385 c0_i32_268 v388
  let c1_i32_326 : BitVec 32 := 1#32
  let v477 : BitVec 32 := Scalar.addi v389 c1_i32_326
  let c1_i32_266 : BitVec 32 := 1#32
  let v386 : BitVec 32 := Scalar.addi v291 c1_i32_266
  let v387 : BitVec 32 := Scalar.select v385 v386 v291
  let c32_i32_327 : BitVec 32 := 32#32
  let v478 : BitVec 1 := Scalar.cmpi .eq v387 c32_i32_327
  let c2_i32_329 : BitVec 32 := 2#32
  let c2_i32_328 : BitVec 32 := 2#32
  let v479 : BitVec 32 := Scalar.addi v387 c2_i32_328
  let v480 : BitVec 32 := Scalar.select v478 c2_i32_329 v479
  let v481 : BitVec 1 := Scalar.cmpi .eq v477 v480
  let c1_i32_330 : BitVec 32 := 1#32
  let v482 : BitVec 32 := Scalar.addi v387 c1_i32_330
  let v483 : BitVec 32 := Scalar.select v481 v482 v387
  let c32_i32_344 : BitVec 32 := 32#32
  let v506 : BitVec 1 := Scalar.cmpi .eq v483 c32_i32_344
  let c0_i32_332 : BitVec 32 := 0#32
  let c1_i32_331 : BitVec 32 := 1#32
  let v484 : BitVec 32 := Scalar.addi v389 c1_i32_331
  let v485 : BitVec 32 := Scalar.select v481 c0_i32_332 v484
  let c0_i32_345 : BitVec 32 := 0#32
  let v507 : BitVec 1 := Scalar.cmpi .eq v485 c0_i32_345
  let c3_i32_346 : BitVec 32 := 3#32
  let c4_i32_347 : BitVec 32 := 4#32
  let v508 : BitVec 32 := Scalar.select v507 c3_i32_346 c4_i32_347
  let c0_i32_340 : BitVec 32 := 0#32
  let v502 : BitVec 1 := Scalar.cmpi .eq v485 c0_i32_340
  let c1_i32_343 : BitVec 32 := 1#32
  let v503 : BitVec 1 := Scalar.cmpi .sle v485 v483
  let c0_i32_341 : BitVec 32 := 0#32
  let c2_i32_342 : BitVec 32 := 2#32
  let v504 : BitVec 32 := Scalar.select v503 c0_i32_341 c2_i32_342
  let v505 : BitVec 32 := Scalar.select v502 c1_i32_343 v504
  let v509 : BitVec 32 := Scalar.select v506 v508 v505
  let v510 : Index := Scalar.indexCast v509
  let c0_350 : Index := 0#32
  let c0_351 : Index := 0#32
  ![0, 0, v510.toNat, 0, 0]
def k0_mult19 (arg13 : BitVec 32) (arg14 : BitVec 32) : BitVec 32 :=
  let c1_i32_198 : BitVec 32 := 1#32
  let v285 : BitVec 32 := Scalar.addi arg14 c1_i32_198
  let c32_i32_199 : BitVec 32 := 32#32
  let v286 : BitVec 1 := Scalar.cmpi .eq arg13 c32_i32_199
  let c2_i32_201 : BitVec 32 := 2#32
  let c2_i32_200 : BitVec 32 := 2#32
  let v287 : BitVec 32 := Scalar.addi arg13 c2_i32_200
  let v288 : BitVec 32 := Scalar.select v286 c2_i32_201 v287
  let v289 : BitVec 1 := Scalar.cmpi .eq v285 v288
  let c1_i32_202 : BitVec 32 := 1#32
  let v290 : BitVec 32 := Scalar.addi arg13 c1_i32_202
  let v291 : BitVec 32 := Scalar.select v289 v290 arg13
  let c32_i32_380 : BitVec 32 := 32#32
  let v553 : BitVec 1 := Scalar.cmpi .slt v291 c32_i32_380
  let c0_i32_204 : BitVec 32 := 0#32
  let c1_i32_203 : BitVec 32 := 1#32
  let v292 : BitVec 32 := Scalar.addi arg14 c1_i32_203
  let v293 : BitVec 32 := Scalar.select v289 c0_i32_204 v292
  let v554 : BitVec 1 := Scalar.cmpi .sle v293 v291
  let v555 : BitVec 1 := Scalar.andi v553 v554
  let v556 : BitVec 32 := Scalar.subi v291 v293
  let c256_i32_381 : BitVec 32 := 256#32
  let v557 : BitVec 32 := Scalar.muli v556 c256_i32_381
  let c8192_i32_382 : BitVec 32 := 8192#32
  let v558 : BitVec 32 := Scalar.select v555 v557 c8192_i32_382
  v558
def k0_off25 (arg13 : BitVec 32) (arg14 : BitVec 32) : Fin 2 → Nat :=
  let c1_i32_198 : BitVec 32 := 1#32
  let v285 : BitVec 32 := Scalar.addi arg14 c1_i32_198
  let c32_i32_199 : BitVec 32 := 32#32
  let v286 : BitVec 1 := Scalar.cmpi .eq arg13 c32_i32_199
  let c2_i32_201 : BitVec 32 := 2#32
  let c2_i32_200 : BitVec 32 := 2#32
  let v287 : BitVec 32 := Scalar.addi arg13 c2_i32_200
  let v288 : BitVec 32 := Scalar.select v286 c2_i32_201 v287
  let v289 : BitVec 1 := Scalar.cmpi .eq v285 v288
  let c1_i32_202 : BitVec 32 := 1#32
  let v290 : BitVec 32 := Scalar.addi arg13 c1_i32_202
  let v291 : BitVec 32 := Scalar.select v289 v290 arg13
  let c32_i32_380 : BitVec 32 := 32#32
  let v553 : BitVec 1 := Scalar.cmpi .slt v291 c32_i32_380
  let c0_i32_204 : BitVec 32 := 0#32
  let c1_i32_203 : BitVec 32 := 1#32
  let v292 : BitVec 32 := Scalar.addi arg14 c1_i32_203
  let v293 : BitVec 32 := Scalar.select v289 c0_i32_204 v292
  let v554 : BitVec 1 := Scalar.cmpi .sle v293 v291
  let v555 : BitVec 1 := Scalar.andi v553 v554
  let v556 : BitVec 32 := Scalar.subi v291 v293
  let c256_i32_381 : BitVec 32 := 256#32
  let v557 : BitVec 32 := Scalar.muli v556 c256_i32_381
  let c8192_i32_382 : BitVec 32 := 8192#32
  let v558 : BitVec 32 := Scalar.select v555 v557 c8192_i32_382
  let v559 : BitVec 32 := v558
  let v560 : Index := Scalar.indexCast v559
  let c0_383 : Index := 0#32
  ![v560.toNat, 0]
def k0_mult20 (arg13 : BitVec 32) (arg14 : BitVec 32) : BitVec 32 :=
  let c1_i32_198 : BitVec 32 := 1#32
  let v285 : BitVec 32 := Scalar.addi arg14 c1_i32_198
  let c32_i32_199 : BitVec 32 := 32#32
  let v286 : BitVec 1 := Scalar.cmpi .eq arg13 c32_i32_199
  let c2_i32_201 : BitVec 32 := 2#32
  let c2_i32_200 : BitVec 32 := 2#32
  let v287 : BitVec 32 := Scalar.addi arg13 c2_i32_200
  let v288 : BitVec 32 := Scalar.select v286 c2_i32_201 v287
  let v289 : BitVec 1 := Scalar.cmpi .eq v285 v288
  let c1_i32_202 : BitVec 32 := 1#32
  let v290 : BitVec 32 := Scalar.addi arg13 c1_i32_202
  let v291 : BitVec 32 := Scalar.select v289 v290 arg13
  let c256_i32_385 : BitVec 32 := 256#32
  let v566 : BitVec 32 := Scalar.muli v291 c256_i32_385
  v566
def k0_off26 (arg13 : BitVec 32) (arg14 : BitVec 32) : Fin 2 → Nat :=
  let c1_i32_198 : BitVec 32 := 1#32
  let v285 : BitVec 32 := Scalar.addi arg14 c1_i32_198
  let c32_i32_199 : BitVec 32 := 32#32
  let v286 : BitVec 1 := Scalar.cmpi .eq arg13 c32_i32_199
  let c2_i32_201 : BitVec 32 := 2#32
  let c2_i32_200 : BitVec 32 := 2#32
  let v287 : BitVec 32 := Scalar.addi arg13 c2_i32_200
  let v288 : BitVec 32 := Scalar.select v286 c2_i32_201 v287
  let v289 : BitVec 1 := Scalar.cmpi .eq v285 v288
  let c1_i32_202 : BitVec 32 := 1#32
  let v290 : BitVec 32 := Scalar.addi arg13 c1_i32_202
  let v291 : BitVec 32 := Scalar.select v289 v290 arg13
  let c256_i32_385 : BitVec 32 := 256#32
  let v566 : BitVec 32 := Scalar.muli v291 c256_i32_385
  let v567 : BitVec 32 := v566
  let v568 : Index := Scalar.indexCast v567
  let c0_386 : Index := 0#32
  ![v568.toNat, 0]

def k0_chk2 (arg13 : BitVec 32) (arg14 : BitVec 32) : Prop :=
  (256 ∣ (k0_mult6 arg13 arg14).toNat) ∧
  (∀ a, (k0_off8 arg13 arg14) a + S256x128.size a ≤ S8448x128.size a) ∧
  (∀ a, (k0_off9 arg13 arg14) a + S1x1x1x256x256.size a ≤ S1x1x5x256x256.size a) ∧
  (256 ∣ (k0_mult9 arg13 arg14).toNat) ∧
  (∀ a, (k0_off12 arg13 arg14) a + S256x128.size a ≤ S8448x128.size a) ∧
  (256 ∣ (k0_mult10 arg13 arg14).toNat) ∧
  (∀ a, (k0_off13 arg13 arg14) a + S256x128.size a ≤ S8448x128.size a) ∧
  (∀ a, (k0_off14 arg13 arg14) a + S1x1x1x256x256.size a ≤ S1x1x5x256x256.size a) ∧
  (256 ∣ (k0_mult13 arg13 arg14).toNat) ∧
  (∀ a, (k0_off17 arg13 arg14) a + S256x128.size a ≤ S8448x128.size a) ∧
  (256 ∣ (k0_mult14 arg13 arg14).toNat) ∧
  (∀ a, (k0_off18 arg13 arg14) a + S256x128.size a ≤ S8448x128.size a) ∧
  (∀ a, (k0_off19 arg13 arg14) a + S1x1x1x256x256.size a ≤ S1x1x5x256x256.size a) ∧
  (256 ∣ (k0_mult15 arg13 arg14).toNat) ∧
  (∀ a, (k0_off20 arg13 arg14) a + S256x128.size a ≤ S8448x128.size a) ∧
  (256 ∣ (k0_mult17 arg13 arg14).toNat) ∧
  (∀ a, (k0_off22 arg13 arg14) a + S256x128.size a ≤ S8448x128.size a) ∧
  (256 ∣ (k0_mult18 arg13 arg14).toNat) ∧
  (∀ a, (k0_off23 arg13 arg14) a + S256x128.size a ≤ S8448x128.size a) ∧
  (∀ a, (k0_off24 arg13 arg14) a + S1x1x1x256x256.size a ≤ S1x1x5x256x256.size a) ∧
  (256 ∣ (k0_mult19 arg13 arg14).toNat) ∧
  (∀ a, (k0_off25 arg13 arg14) a + S256x128.size a ≤ S8448x128.size a) ∧
  (256 ∣ (k0_mult20 arg13 arg14).toNat) ∧
  (∀ a, (k0_off26 arg13 arg14) a + S256x128.size a ≤ S8448x128.size a)
theorem k0_mult6_dvd : ∀ (arg13 : BitVec 32) (arg14 : BitVec 32) (k0_hw2 : k0_chk2 arg13 arg14), 256 ∣ (k0_mult6 arg13 arg14).toNat := fun arg13 arg14 k0_hw2 => k0_hw2.1
theorem k0_off8_inb : ∀ (arg13 : BitVec 32) (arg14 : BitVec 32) (k0_hw2 : k0_chk2 arg13 arg14), ∀ a, (k0_off8 arg13 arg14) a + S256x128.size a ≤ S8448x128.size a := fun arg13 arg14 k0_hw2 => k0_hw2.2.1
theorem k0_off9_inb : ∀ (arg13 : BitVec 32) (arg14 : BitVec 32) (k0_hw2 : k0_chk2 arg13 arg14), ∀ a, (k0_off9 arg13 arg14) a + S1x1x1x256x256.size a ≤ S1x1x5x256x256.size a := fun arg13 arg14 k0_hw2 => k0_hw2.2.2.1
theorem k0_mult9_dvd : ∀ (arg13 : BitVec 32) (arg14 : BitVec 32) (k0_hw2 : k0_chk2 arg13 arg14), 256 ∣ (k0_mult9 arg13 arg14).toNat := fun arg13 arg14 k0_hw2 => k0_hw2.2.2.2.1
theorem k0_off12_inb : ∀ (arg13 : BitVec 32) (arg14 : BitVec 32) (k0_hw2 : k0_chk2 arg13 arg14), ∀ a, (k0_off12 arg13 arg14) a + S256x128.size a ≤ S8448x128.size a := fun arg13 arg14 k0_hw2 => k0_hw2.2.2.2.2.1
theorem k0_mult10_dvd : ∀ (arg13 : BitVec 32) (arg14 : BitVec 32) (k0_hw2 : k0_chk2 arg13 arg14), 256 ∣ (k0_mult10 arg13 arg14).toNat := fun arg13 arg14 k0_hw2 => k0_hw2.2.2.2.2.2.1
theorem k0_off13_inb : ∀ (arg13 : BitVec 32) (arg14 : BitVec 32) (k0_hw2 : k0_chk2 arg13 arg14), ∀ a, (k0_off13 arg13 arg14) a + S256x128.size a ≤ S8448x128.size a := fun arg13 arg14 k0_hw2 => k0_hw2.2.2.2.2.2.2.1
theorem k0_off14_inb : ∀ (arg13 : BitVec 32) (arg14 : BitVec 32) (k0_hw2 : k0_chk2 arg13 arg14), ∀ a, (k0_off14 arg13 arg14) a + S1x1x1x256x256.size a ≤ S1x1x5x256x256.size a := fun arg13 arg14 k0_hw2 => k0_hw2.2.2.2.2.2.2.2.1
theorem k0_mult13_dvd : ∀ (arg13 : BitVec 32) (arg14 : BitVec 32) (k0_hw2 : k0_chk2 arg13 arg14), 256 ∣ (k0_mult13 arg13 arg14).toNat := fun arg13 arg14 k0_hw2 => k0_hw2.2.2.2.2.2.2.2.2.1
theorem k0_off17_inb : ∀ (arg13 : BitVec 32) (arg14 : BitVec 32) (k0_hw2 : k0_chk2 arg13 arg14), ∀ a, (k0_off17 arg13 arg14) a + S256x128.size a ≤ S8448x128.size a := fun arg13 arg14 k0_hw2 => k0_hw2.2.2.2.2.2.2.2.2.2.1
theorem k0_mult14_dvd : ∀ (arg13 : BitVec 32) (arg14 : BitVec 32) (k0_hw2 : k0_chk2 arg13 arg14), 256 ∣ (k0_mult14 arg13 arg14).toNat := fun arg13 arg14 k0_hw2 => k0_hw2.2.2.2.2.2.2.2.2.2.2.1
theorem k0_off18_inb : ∀ (arg13 : BitVec 32) (arg14 : BitVec 32) (k0_hw2 : k0_chk2 arg13 arg14), ∀ a, (k0_off18 arg13 arg14) a + S256x128.size a ≤ S8448x128.size a := fun arg13 arg14 k0_hw2 => k0_hw2.2.2.2.2.2.2.2.2.2.2.2.1
theorem k0_off19_inb : ∀ (arg13 : BitVec 32) (arg14 : BitVec 32) (k0_hw2 : k0_chk2 arg13 arg14), ∀ a, (k0_off19 arg13 arg14) a + S1x1x1x256x256.size a ≤ S1x1x5x256x256.size a := fun arg13 arg14 k0_hw2 => k0_hw2.2.2.2.2.2.2.2.2.2.2.2.2.1
theorem k0_mult15_dvd : ∀ (arg13 : BitVec 32) (arg14 : BitVec 32) (k0_hw2 : k0_chk2 arg13 arg14), 256 ∣ (k0_mult15 arg13 arg14).toNat := fun arg13 arg14 k0_hw2 => k0_hw2.2.2.2.2.2.2.2.2.2.2.2.2.2.1
theorem k0_off20_inb : ∀ (arg13 : BitVec 32) (arg14 : BitVec 32) (k0_hw2 : k0_chk2 arg13 arg14), ∀ a, (k0_off20 arg13 arg14) a + S256x128.size a ≤ S8448x128.size a := fun arg13 arg14 k0_hw2 => k0_hw2.2.2.2.2.2.2.2.2.2.2.2.2.2.2.1
theorem k0_mult17_dvd : ∀ (arg13 : BitVec 32) (arg14 : BitVec 32) (k0_hw2 : k0_chk2 arg13 arg14), 256 ∣ (k0_mult17 arg13 arg14).toNat := fun arg13 arg14 k0_hw2 => k0_hw2.2.2.2.2.2.2.2.2.2.2.2.2.2.2.2.1
theorem k0_off22_inb : ∀ (arg13 : BitVec 32) (arg14 : BitVec 32) (k0_hw2 : k0_chk2 arg13 arg14), ∀ a, (k0_off22 arg13 arg14) a + S256x128.size a ≤ S8448x128.size a := fun arg13 arg14 k0_hw2 => k0_hw2.2.2.2.2.2.2.2.2.2.2.2.2.2.2.2.2.1
theorem k0_mult18_dvd : ∀ (arg13 : BitVec 32) (arg14 : BitVec 32) (k0_hw2 : k0_chk2 arg13 arg14), 256 ∣ (k0_mult18 arg13 arg14).toNat := fun arg13 arg14 k0_hw2 => k0_hw2.2.2.2.2.2.2.2.2.2.2.2.2.2.2.2.2.2.1
theorem k0_off23_inb : ∀ (arg13 : BitVec 32) (arg14 : BitVec 32) (k0_hw2 : k0_chk2 arg13 arg14), ∀ a, (k0_off23 arg13 arg14) a + S256x128.size a ≤ S8448x128.size a := fun arg13 arg14 k0_hw2 => k0_hw2.2.2.2.2.2.2.2.2.2.2.2.2.2.2.2.2.2.2.1
theorem k0_off24_inb : ∀ (arg13 : BitVec 32) (arg14 : BitVec 32) (k0_hw2 : k0_chk2 arg13 arg14), ∀ a, (k0_off24 arg13 arg14) a + S1x1x1x256x256.size a ≤ S1x1x5x256x256.size a := fun arg13 arg14 k0_hw2 => k0_hw2.2.2.2.2.2.2.2.2.2.2.2.2.2.2.2.2.2.2.2.1
theorem k0_mult19_dvd : ∀ (arg13 : BitVec 32) (arg14 : BitVec 32) (k0_hw2 : k0_chk2 arg13 arg14), 256 ∣ (k0_mult19 arg13 arg14).toNat := fun arg13 arg14 k0_hw2 => k0_hw2.2.2.2.2.2.2.2.2.2.2.2.2.2.2.2.2.2.2.2.2.1
theorem k0_off25_inb : ∀ (arg13 : BitVec 32) (arg14 : BitVec 32) (k0_hw2 : k0_chk2 arg13 arg14), ∀ a, (k0_off25 arg13 arg14) a + S256x128.size a ≤ S8448x128.size a := fun arg13 arg14 k0_hw2 => k0_hw2.2.2.2.2.2.2.2.2.2.2.2.2.2.2.2.2.2.2.2.2.2.1
theorem k0_mult20_dvd : ∀ (arg13 : BitVec 32) (arg14 : BitVec 32) (k0_hw2 : k0_chk2 arg13 arg14), 256 ∣ (k0_mult20 arg13 arg14).toNat := fun arg13 arg14 k0_hw2 => k0_hw2.2.2.2.2.2.2.2.2.2.2.2.2.2.2.2.2.2.2.2.2.2.2.1
theorem k0_off26_inb : ∀ (arg13 : BitVec 32) (arg14 : BitVec 32) (k0_hw2 : k0_chk2 arg13 arg14), ∀ a, (k0_off26 arg13 arg14) a + S256x128.size a ≤ S8448x128.size a := fun arg13 arg14 k0_hw2 => k0_hw2.2.2.2.2.2.2.2.2.2.2.2.2.2.2.2.2.2.2.2.2.2.2.2

def k0_mult21 (v124_4 : BitVec 32) (v124_5 : BitVec 32) : BitVec 32 :=
  let c32_i32_116 : BitVec 32 := 32#32
  let v148 : BitVec 1 := Scalar.cmpi .slt v124_4 c32_i32_116
  let v149 : BitVec 1 := Scalar.cmpi .sle v124_5 v124_4
  let v150 : BitVec 1 := Scalar.andi v148 v149
  let v151 : BitVec 32 := Scalar.subi v124_4 v124_5
  let c256_i32_117 : BitVec 32 := 256#32
  let v152 : BitVec 32 := Scalar.muli v151 c256_i32_117
  let c8192_i32_118 : BitVec 32 := 8192#32
  let v153 : BitVec 32 := Scalar.select v150 v152 c8192_i32_118
  v153

def k0_off27 (v124_4 : BitVec 32) (v124_5 : BitVec 32) : Fin 2 → Nat :=
  let c32_i32_116 : BitVec 32 := 32#32
  let v148 : BitVec 1 := Scalar.cmpi .slt v124_4 c32_i32_116
  let v149 : BitVec 1 := Scalar.cmpi .sle v124_5 v124_4
  let v150 : BitVec 1 := Scalar.andi v148 v149
  let v151 : BitVec 32 := Scalar.subi v124_4 v124_5
  let c256_i32_117 : BitVec 32 := 256#32
  let v152 : BitVec 32 := Scalar.muli v151 c256_i32_117
  let c8192_i32_118 : BitVec 32 := 8192#32
  let v153 : BitVec 32 := Scalar.select v150 v152 c8192_i32_118
  let v154 : BitVec 32 := v153
  let v155 : Index := Scalar.indexCast v154
  let c0_119 : Index := 0#32
  ![v155.toNat, 0]

def k0_chk7 (v124_4 : BitVec 32) (v124_5 : BitVec 32) : Prop :=
  (256 ∣ (k0_mult21 v124_4 v124_5).toNat) ∧
  (∀ a, (k0_off27 v124_4 v124_5) a + S256x128.size a ≤ S8448x128.size a)
theorem k0_mult21_dvd : ∀ (v124_4 : BitVec 32) (v124_5 : BitVec 32) (k0_hw7 : k0_chk7 v124_4 v124_5), 256 ∣ (k0_mult21 v124_4 v124_5).toNat := fun v124_4 v124_5 k0_hw7 => k0_hw7.1
theorem k0_off27_inb : ∀ (v124_4 : BitVec 32) (v124_5 : BitVec 32) (k0_hw7 : k0_chk7 v124_4 v124_5), ∀ a, (k0_off27 v124_4 v124_5) a + S256x128.size a ≤ S8448x128.size a := fun v124_4 v124_5 k0_hw7 => k0_hw7.2

def k0_mult22 (v124_4 : BitVec 32) : BitVec 32 :=
  let c256_i32_121 : BitVec 32 := 256#32
  let v161 : BitVec 32 := Scalar.muli v124_4 c256_i32_121
  v161

def k0_off28 (v124_4 : BitVec 32) : Fin 2 → Nat :=
  let c256_i32_121 : BitVec 32 := 256#32
  let v161 : BitVec 32 := Scalar.muli v124_4 c256_i32_121
  let v162 : BitVec 32 := v161
  let v163 : Index := Scalar.indexCast v162
  let c0_122 : Index := 0#32
  ![v163.toNat, 0]

def k0_chk8 (v124_4 : BitVec 32) : Prop :=
  (256 ∣ (k0_mult22 v124_4).toNat) ∧
  (∀ a, (k0_off28 v124_4) a + S256x128.size a ≤ S8448x128.size a)
theorem k0_mult22_dvd : ∀ (v124_4 : BitVec 32) (k0_hw8 : k0_chk8 v124_4), 256 ∣ (k0_mult22 v124_4).toNat := fun v124_4 k0_hw8 => k0_hw8.1
theorem k0_off28_inb : ∀ (v124_4 : BitVec 32) (k0_hw8 : k0_chk8 v124_4), ∀ a, (k0_off28 v124_4) a + S256x128.size a ≤ S8448x128.size a := fun v124_4 k0_hw8 => k0_hw8.2

def k0_mult23 (v124_2 : BitVec 32) (v124_3 : BitVec 32) : BitVec 32 :=
  let c32_i32_132 : BitVec 32 := 32#32
  let v178 : BitVec 1 := Scalar.cmpi .slt v124_2 c32_i32_132
  let v179 : BitVec 1 := Scalar.cmpi .sle v124_3 v124_2
  let v180 : BitVec 1 := Scalar.andi v178 v179
  let v181 : BitVec 32 := Scalar.subi v124_2 v124_3
  let c256_i32_133 : BitVec 32 := 256#32
  let v182 : BitVec 32 := Scalar.muli v181 c256_i32_133
  let c8192_i32_134 : BitVec 32 := 8192#32
  let v183 : BitVec 32 := Scalar.select v180 v182 c8192_i32_134
  v183

def k0_off29 (v124_2 : BitVec 32) (v124_3 : BitVec 32) : Fin 2 → Nat :=
  let c32_i32_132 : BitVec 32 := 32#32
  let v178 : BitVec 1 := Scalar.cmpi .slt v124_2 c32_i32_132
  let v179 : BitVec 1 := Scalar.cmpi .sle v124_3 v124_2
  let v180 : BitVec 1 := Scalar.andi v178 v179
  let v181 : BitVec 32 := Scalar.subi v124_2 v124_3
  let c256_i32_133 : BitVec 32 := 256#32
  let v182 : BitVec 32 := Scalar.muli v181 c256_i32_133
  let c8192_i32_134 : BitVec 32 := 8192#32
  let v183 : BitVec 32 := Scalar.select v180 v182 c8192_i32_134
  let v184 : BitVec 32 := v183
  let v185 : Index := Scalar.indexCast v184
  let c0_135 : Index := 0#32
  ![v185.toNat, 0]

def k0_chk9 (v124_2 : BitVec 32) (v124_3 : BitVec 32) : Prop :=
  (256 ∣ (k0_mult23 v124_2 v124_3).toNat) ∧
  (∀ a, (k0_off29 v124_2 v124_3) a + S256x128.size a ≤ S8448x128.size a)
theorem k0_mult23_dvd : ∀ (v124_2 : BitVec 32) (v124_3 : BitVec 32) (k0_hw9 : k0_chk9 v124_2 v124_3), 256 ∣ (k0_mult23 v124_2 v124_3).toNat := fun v124_2 v124_3 k0_hw9 => k0_hw9.1
theorem k0_off29_inb : ∀ (v124_2 : BitVec 32) (v124_3 : BitVec 32) (k0_hw9 : k0_chk9 v124_2 v124_3), ∀ a, (k0_off29 v124_2 v124_3) a + S256x128.size a ≤ S8448x128.size a := fun v124_2 v124_3 k0_hw9 => k0_hw9.2

def k0_mult24 (v124_2 : BitVec 32) : BitVec 32 :=
  let c256_i32_137 : BitVec 32 := 256#32
  let v191 : BitVec 32 := Scalar.muli v124_2 c256_i32_137
  v191

def k0_off30 (v124_2 : BitVec 32) : Fin 2 → Nat :=
  let c256_i32_137 : BitVec 32 := 256#32
  let v191 : BitVec 32 := Scalar.muli v124_2 c256_i32_137
  let v192 : BitVec 32 := v191
  let v193 : Index := Scalar.indexCast v192
  let c0_138 : Index := 0#32
  ![v193.toNat, 0]

def k0_chk10 (v124_2 : BitVec 32) : Prop :=
  (256 ∣ (k0_mult24 v124_2).toNat) ∧
  (∀ a, (k0_off30 v124_2) a + S256x128.size a ≤ S8448x128.size a)
theorem k0_mult24_dvd : ∀ (v124_2 : BitVec 32) (k0_hw10 : k0_chk10 v124_2), 256 ∣ (k0_mult24 v124_2).toNat := fun v124_2 k0_hw10 => k0_hw10.1
theorem k0_off30_inb : ∀ (v124_2 : BitVec 32) (k0_hw10 : k0_chk10 v124_2), ∀ a, (k0_off30 v124_2) a + S256x128.size a ≤ S8448x128.size a := fun v124_2 k0_hw10 => k0_hw10.2

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x1x5x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8448x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8448x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "cap" => some ⊤
  | "log2e" => some (((Real.log 2)⁻¹ : ℝ) : EReal)
  | _ => none
-- ==== ReferenceIdeal.lean ====
abbrev S8208x8x128 : Shape := ⟨3, ![8208, 8, 128]⟩
abbrev S8 : Shape := ⟨1, ![8]⟩
abbrev S8208 : Shape := ⟨1, ![8208]⟩
abbrev S8x8208x8208 : Shape := ⟨3, ![8, 8208, 8208]⟩
abbrev S_ : Shape := ⟨0, ![]⟩
abbrev S8x1x1 : Shape := ⟨3, ![8, 1, 1]⟩
abbrev S1x8208 : Shape := ⟨2, ![1, 8208]⟩
abbrev S8208x1 : Shape := ⟨2, ![8208, 1]⟩
abbrev S8208x8208 : Shape := ⟨2, ![8208, 8208]⟩
abbrev S8x128x8208 : Shape := ⟨3, ![8, 128, 8208]⟩
abbrev S8208x1024 : Shape := ⟨2, ![8208, 1024]⟩
abbrev S8192x1024 : Shape := ⟨2, ![8192, 1024]⟩
abbrev S16x1024 : Shape := ⟨2, ![16, 1024]⟩
abbrev S240x1024 : Shape := ⟨2, ![240, 1024]⟩
abbrev S8448x1024 : Shape := ⟨2, ![8448, 1024]⟩

abbrev nBuf : Space → Nat
  | .hbm => 74
  | .vmem => 0
  | .smem => 0
  | _ => 0

abbrev bufTy : (tb : Table) → Fin (tcTables nBuf tb) → BufTy
  | .hbm, ⟨0, _⟩ => ⟨S8208x8x128, .f32⟩
  | .hbm, ⟨1, _⟩ => ⟨S8208x8x128, .f32⟩
  | .hbm, ⟨2, _⟩ => ⟨S8208x8x128, .f32⟩
  | .hbm, ⟨3, _⟩ => ⟨S8, .f32⟩
  | .hbm, ⟨4, _⟩ => ⟨S8208, .i32⟩
  | .hbm, ⟨5, _⟩ => ⟨S8x8208x8208, .f32⟩
  | .hbm, ⟨6, _⟩ => ⟨S_, .f32⟩
  | .hbm, ⟨7, _⟩ => ⟨S8x8208x8208, .f32⟩
  | .hbm, ⟨8, _⟩ => ⟨S8x8208x8208, .f32⟩
  | .hbm, ⟨9, _⟩ => ⟨S8x1x1, .f32⟩
  | .hbm, ⟨10, _⟩ => ⟨S8x8208x8208, .f32⟩
  | .hbm, ⟨11, _⟩ => ⟨S8x8208x8208, .f32⟩
  | .hbm, ⟨12, _⟩ => ⟨S1x8208, .i32⟩
  | .hbm, ⟨13, _⟩ => ⟨S8208x1, .i32⟩
  | .hbm, ⟨14, _⟩ => ⟨S8208x8208, .i32⟩
  | .hbm, ⟨15, _⟩ => ⟨S8208x8208, .i32⟩
  | .hbm, ⟨16, _⟩ => ⟨S8208x8208, .i1⟩
  | .hbm, ⟨17, _⟩ => ⟨S8x8208x8208, .f32⟩
  | .hbm, ⟨18, _⟩ => ⟨S_, .f32⟩
  | .hbm, ⟨19, _⟩ => ⟨S8x8208x8208, .f32⟩
  | .hbm, ⟨20, _⟩ => ⟨S8x8208x8208, .f32⟩
  | .hbm, ⟨21, _⟩ => ⟨S8x8208x8208, .f32⟩
  | .hbm, ⟨22, _⟩ => ⟨S8x8208x8208, .f32⟩
  | .hbm, ⟨23, _⟩ => ⟨S8x8208x8208, .i1⟩
  | .hbm, ⟨24, _⟩ => ⟨S8x8208x8208, .f32⟩
  | .hbm, ⟨25, _⟩ => ⟨S8x8208x8208, .f32⟩
  | .hbm, ⟨26, _⟩ => ⟨S8x8208x8208, .f32⟩
  | .hbm, ⟨27, _⟩ => ⟨S8x8208x8208, .f32⟩
  | .hbm, ⟨28, _⟩ => ⟨S8x8208x8208, .f32⟩
  | .hbm, ⟨29, _⟩ => ⟨S8x8208x8208, .f32⟩
  | .hbm, ⟨30, _⟩ => ⟨S8x8208x8208, .f32⟩
  | .hbm, ⟨31, _⟩ => ⟨S8x8208x8208, .f32⟩
  | .hbm, ⟨32, _⟩ => ⟨S8x8208x8208, .f32⟩
  | .hbm, ⟨33, _⟩ => ⟨S8x8208x8208, .f32⟩
  | .hbm, ⟨34, _⟩ => ⟨S8x8208x8208, .f32⟩
  | .hbm, ⟨35, _⟩ => ⟨S_, .f32⟩
  | .hbm, ⟨36, _⟩ => ⟨S8x8208x8208, .f32⟩
  | .hbm, ⟨37, _⟩ => ⟨S8x8208x8208, .f32⟩
  | .hbm, ⟨38, _⟩ => ⟨S8x8208x8208, .f32⟩
  | .hbm, ⟨39, _⟩ => ⟨S8x8208x8208, .f32⟩
  | .hbm, ⟨40, _⟩ => ⟨S8x8208x8208, .i1⟩
  | .hbm, ⟨41, _⟩ => ⟨S8x8208x8208, .f32⟩
  | .hbm, ⟨42, _⟩ => ⟨S8x8208x8208, .f32⟩
  | .hbm, ⟨43, _⟩ => ⟨S8x8208x8208, .f32⟩
  | .hbm, ⟨44, _⟩ => ⟨S8x8208x8208, .f32⟩
  | .hbm, ⟨45, _⟩ => ⟨S8x8208x8208, .f32⟩
  | .hbm, ⟨46, _⟩ => ⟨S8x8208x8208, .f32⟩
  | .hbm, ⟨47, _⟩ => ⟨S8x8208x8208, .f32⟩
  | .hbm, ⟨48, _⟩ => ⟨S8x8208x8208, .f32⟩
  | .hbm, ⟨49, _⟩ => ⟨S8x8208x8208, .f32⟩
  | .hbm, ⟨50, _⟩ => ⟨S_, .f32⟩
  | .hbm, ⟨51, _⟩ => ⟨S_, .f32⟩
  | .hbm, ⟨52, _⟩ => ⟨S8x8208x8208, .i1⟩
  | .hbm, ⟨53, _⟩ => ⟨S8x8208x8208, .f32⟩
  | .hbm, ⟨54, _⟩ => ⟨S8x8208x8208, .f32⟩
  | .hbm, ⟨55, _⟩ => ⟨S_, .f32⟩
  | .hbm, ⟨56, _⟩ => ⟨S_, .f32⟩
  | .hbm, ⟨57, _⟩ => ⟨S8x8208x8208, .f32⟩
  | .hbm, ⟨58, _⟩ => ⟨S8x8208x8208, .f32⟩
  | .hbm, ⟨59, _⟩ => ⟨S8x8208x8208, .f32⟩
  | .hbm, ⟨60, _⟩ => ⟨S8x8208x8208, .f32⟩
  | .hbm, ⟨61, _⟩ => ⟨S_, .f32⟩
  | .hbm, ⟨62, _⟩ => ⟨S_, .f32⟩
  | .hbm, ⟨63, _⟩ => ⟨S8x8208x8208, .i1⟩
  | .hbm, ⟨64, _⟩ => ⟨S8x8208x8208, .f32⟩
  | .hbm, ⟨65, _⟩ => ⟨S8x8208x8208, .f32⟩
  | .hbm, ⟨66, _⟩ => ⟨S8x128x8208, .f32⟩
  | .hbm, ⟨67, _⟩ => ⟨S8208x8x128, .f32⟩
  | .hbm, ⟨68, _⟩ => ⟨S8208x1024, .f32⟩
  | .hbm, ⟨69, _⟩ => ⟨S8192x1024, .f32⟩
  | .hbm, ⟨70, _⟩ => ⟨S16x1024, .f32⟩
  | .hbm, ⟨71, _⟩ => ⟨S_, .f32⟩
  | .hbm, ⟨72, _⟩ => ⟨S240x1024, .f32⟩
  | .hbm, ⟨73, _⟩ => ⟨S8448x1024, .f32⟩
  | _, _ => ⟨S8208x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v12 : Ref sig .tc := ⟨.hbm, 32, rfl⟩
abbrev main_v13 : Ref sig .tc := ⟨.hbm, 33, rfl⟩
abbrev main_call1_v0 : Ref sig .tc := ⟨.hbm, 34, rfl⟩
abbrev main_call1_call0_cst : Ref sig .tc := ⟨.hbm, 35, rfl⟩
abbrev main_call1_call0_v0 : Ref sig .tc := ⟨.hbm, 36, rfl⟩
abbrev main_call1_call0_v1 : Ref sig .tc := ⟨.hbm, 37, rfl⟩
abbrev main_call1_call0_v2 : Ref sig .tc := ⟨.hbm, 38, rfl⟩
abbrev main_call1_call0_v3 : Ref sig .tc := ⟨.hbm, 39, rfl⟩
abbrev main_call1_call0_v4 : Ref sig .tc := ⟨.hbm, 40, rfl⟩
abbrev main_call1_call0_v5 : Ref sig .tc := ⟨.hbm, 41, rfl⟩
abbrev main_call1_call0_v6 : Ref sig .tc := ⟨.hbm, 42, rfl⟩
abbrev main_call1_call0_v7 : Ref sig .tc := ⟨.hbm, 43, rfl⟩
abbrev main_call1_call0_v8 : Ref sig .tc := ⟨.hbm, 44, rfl⟩
abbrev main_call1_call0_v9 : Ref sig .tc := ⟨.hbm, 45, rfl⟩
abbrev main_call1_call0_v10 : Ref sig .tc := ⟨.hbm, 46, rfl⟩
abbrev main_call1_call0_v11 : Ref sig .tc := ⟨.hbm, 47, rfl⟩
abbrev main_call1_v1 : Ref sig .tc := ⟨.hbm, 48, rfl⟩
abbrev main_v14 : Ref sig .tc := ⟨.hbm, 49, rfl⟩
abbrev main_cst_0 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v15 : Ref sig .tc := ⟨.hbm, 54, rfl⟩
abbrev main_call3_cst : Ref sig .tc := ⟨.hbm, 55, rfl⟩
abbrev main_call3_v0 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_cst_2 : Ref sig .tc := ⟨.hbm, 71, rfl⟩
abbrev main_v26 : Ref sig .tc := ⟨.hbm, 72, rfl⟩
abbrev main_v27 : Ref sig .tc := ⟨.hbm, 73, rfl⟩

abbrev nD : Nat := 1
abbrev τ : Topo := Topo.v7x

variable {F : FTy → Type} [FloatOps F]
-- ==== Kernel2.lean ====
abbrev S8448x2048 : Shape := ⟨2, ![8448, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S2x1x2048 : Shape := ⟨3, ![2, 1, 2048]⟩
abbrev S1056x2048 : Shape := ⟨2, ![1056, 2048]⟩
abbrev S1x1x2048 : Shape := ⟨3, ![1, 1, 2048]⟩
abbrev S1x2048x256 : Shape := ⟨3, ![1, 2048, 256]⟩
abbrev S1x256x2048 : Shape := ⟨3, ![1, 256, 2048]⟩
abbrev S1056 : Shape := ⟨1, ![1056]⟩
abbrev S1056x1 : Shape := ⟨2, ![1056, 1]⟩
abbrev S1x2048 : Shape := ⟨2, ![1, 2048]⟩
abbrev S2048x256 : Shape := ⟨2, ![2048, 256]⟩
abbrev S1056x256 : Shape := ⟨2, ![1056, 256]⟩
abbrev S256x2048 : Shape := ⟨2, ![256, 2048]⟩

abbrev nBuf : Space → Nat
  | .hbm => 7
  | .vmem => 12
  | .smem => 0
  | _ => 0

abbrev bufTy : (tb : Table) → Fin (tcTables nBuf tb) → BufTy
  | .hbm, ⟨0, _⟩ => ⟨S8448x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S2x1x2048, .f32⟩
  | .hbm, ⟨6, _⟩ => ⟨S8448x2048, .f32⟩
  | .local _ .vmem, ⟨0, _⟩ => ⟨S1056x2048, .f32⟩
  | .local _ .vmem, ⟨1, _⟩ => ⟨S1056x2048, .f32⟩
  | .local _ .vmem, ⟨2, _⟩ => ⟨S1x1x2048, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x256x2048, .f32⟩
  | .local _ .vmem, ⟨8, _⟩ => ⟨S1x256x2048, .f32⟩
  | .local _ .vmem, ⟨9, _⟩ => ⟨S1056x2048, .f32⟩
  | .local _ .vmem, ⟨10, _⟩ => ⟨S1056x2048, .f32⟩
  | .local _ .vmem, ⟨11, _⟩ => ⟨S1056x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1056x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1056x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8448x2048 : Shape := ⟨2, ![8448, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S1x2048 : Shape := ⟨2, ![1, 2048]⟩
abbrev S2048 : Shape := ⟨1, ![2048]⟩
abbrev S_ : Shape := ⟨0, ![]⟩
abbrev S8448 : Shape := ⟨1, ![8448]⟩
abbrev S8448x1 : Shape := ⟨2, ![8448, 1]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S8448x5632 : Shape := ⟨2, ![8448, 5632]⟩

abbrev nBuf : Space → Nat
  | .hbm => 46
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S1x2048, .f32⟩
  | .hbm, ⟨6, _⟩ => ⟨S2048, .f32⟩
  | .hbm, ⟨7, _⟩ => ⟨S8448x2048, .f32⟩
  | .hbm, ⟨8, _⟩ => ⟨S_, .f32⟩
  | .hbm, ⟨9, _⟩ => ⟨S8448, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S_, .f32⟩
  | .hbm, ⟨15, _⟩ => ⟨S8448x1, .f32⟩
  | .hbm, ⟨16, _⟩ => ⟨S8448x1, .f32⟩
  | .hbm, ⟨17, _⟩ => ⟨S8448x1, .f32⟩
  | .hbm, ⟨18, _⟩ => ⟨S8448x2048, .f32⟩
  | .hbm, ⟨19, _⟩ => ⟨S8448x2048, .f32⟩
  | .hbm, ⟨20, _⟩ => ⟨S1x2048, .f32⟩
  | .hbm, ⟨21, _⟩ => ⟨S8448x2048, .f32⟩
  | .hbm, ⟨22, _⟩ => ⟨S8448x2048, .f32⟩
  | .hbm, ⟨23, _⟩ => ⟨S1x2048x5632, .f32⟩
  | .hbm, ⟨24, _⟩ => ⟨S2048x5632, .f32⟩
  | .hbm, ⟨25, _⟩ => ⟨S1x2048x5632, .f32⟩
  | .hbm, ⟨26, _⟩ => ⟨S2048x5632, .f32⟩
  | .hbm, ⟨27, _⟩ => ⟨S1x5632x2048, .f32⟩
  | .hbm, ⟨28, _⟩ => ⟨S5632x2048, .f32⟩
  | .hbm, ⟨29, _⟩ => ⟨S8448x5632, .f32⟩
  | .hbm, ⟨30, _⟩ => ⟨S8448x5632, .f32⟩
  | .hbm, ⟨31, _⟩ => ⟨S8448x5632, .f32⟩
  | .hbm, ⟨32, _⟩ => ⟨S_, .f32⟩
  | .hbm, ⟨33, _⟩ => ⟨S8448x5632, .f32⟩
  | .hbm, ⟨34, _⟩ => ⟨S8448x5632, .f32⟩
  | .hbm, ⟨35, _⟩ => ⟨S_, .f32⟩
  | .hbm, ⟨36, _⟩ => ⟨S8448x5632, .f32⟩
  | .hbm, ⟨37, _⟩ => ⟨S8448x5632, .f32⟩
  | .hbm, ⟨38, _⟩ => ⟨S8448x5632, .f32⟩
  | .hbm, ⟨39, _⟩ => ⟨S8448x5632, .f32⟩
  | .hbm, ⟨40, _⟩ => ⟨S8448x5632, .f32⟩
  | .hbm, ⟨41, _⟩ => ⟨S8448x2048, .f32⟩
  | .hbm, ⟨42, _⟩ => ⟨S_, .f32⟩
  | .hbm, ⟨43, _⟩ => ⟨S8448x2048, .f32⟩
  | .hbm, ⟨44, _⟩ => ⟨S8448x2048, .f32⟩
  | .hbm, ⟨45, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Kernel3.lean ====
abbrev S8448x2048 : Shape := ⟨2, ![8448, 2048]⟩
abbrev S2x2048 : Shape := ⟨2, ![2, 2048]⟩
abbrev S2x2048x4096 : Shape := ⟨3, ![2, 2048, 4096]⟩
abbrev S2x32x15x1024 : Shape := ⟨4, ![2, 32, 15, 1024]⟩
abbrev S2x1x2048 : Shape := ⟨3, ![2, 1, 2048]⟩
abbrev S8448x4096 : Shape := ⟨2, ![8448, 4096]⟩
abbrev S1056x2048 : Shape := ⟨2, ![1056, 2048]⟩
abbrev S1x1x2048 : Shape := ⟨3, ![1, 1, 2048]⟩
abbrev S1x2048x1024 : Shape := ⟨3, ![1, 2048, 1024]⟩
abbrev S1056x1024 : Shape := ⟨2, ![1056, 1024]⟩
abbrev S1056 : Shape := ⟨1, ![1056]⟩
abbrev S1056x1 : Shape := ⟨2, ![1056, 1]⟩
abbrev S1x2048 : Shape := ⟨2, ![1, 2048]⟩
abbrev S2048x1024 : Shape := ⟨2, ![2048, 1024]⟩
abbrev S8448x1024 : Shape := ⟨2, ![8448, 1024]⟩
abbrev S128x1024 : Shape := ⟨2, ![128, 1024]⟩
abbrev S4x32x1024 : Shape := ⟨3, ![4, 32, 1024]⟩
abbrev S32x4x1024 : Shape := ⟨3, ![32, 4, 1024]⟩
abbrev S16x1024 : Shape := ⟨2, ![16, 1024]⟩
abbrev S8192x1024 : Shape := ⟨2, ![8192, 1024]⟩
abbrev S8208x1024 : Shape := ⟨2, ![8208, 1024]⟩
abbrev S1x8208x8x128 : Shape := ⟨4, ![1, 8208, 8, 128]⟩
abbrev S15x1024 : Shape := ⟨2, ![15, 1024]⟩
abbrev S1x15x1024 : Shape := ⟨3, ![1, 15, 1024]⟩
abbrev S32x4x8x128 : Shape := ⟨4, ![32, 4, 8, 128]⟩
abbrev S1x32x15x1024 : Shape := ⟨4, ![1, 32, 15, 1024]⟩
abbrev S32x15x1024 : Shape := ⟨3, ![32, 15, 1024]⟩
abbrev S32x19x1024 : Shape := ⟨3, ![32, 19, 1024]⟩

abbrev nBuf : Space → Nat
  | .hbm => 34
  | .vmem => 10
  | .smem => 0
  | _ => 0

abbrev bufTy : (tb : Table) → Fin (tcTables nBuf tb) → BufTy
  | .hbm, ⟨0, _⟩ => ⟨S8448x2048, .f32⟩
  | .hbm, ⟨1, _⟩ => ⟨S2x2048, .f32⟩
  | .hbm, ⟨2, _⟩ => ⟨S2x2048x4096, .f32⟩
  | .hbm, ⟨3, _⟩ => ⟨S2x32x15x1024, .f32⟩
  | .hbm, ⟨4, _⟩ => ⟨S2x1x2048, .f32⟩
  | .hbm, ⟨5, _⟩ => ⟨S8448x4096, .f32⟩
  | .hbm, ⟨6, _⟩ => ⟨S8448x4096, .bf16⟩
  | .hbm, ⟨7, _⟩ => ⟨S8448x1024, .f32⟩
  | .hbm, ⟨8, _⟩ => ⟨S8448x1024, .f32⟩
  | .hbm, ⟨9, _⟩ => ⟨S128x1024, .f32⟩
  | .hbm, ⟨10, _⟩ => ⟨S4x32x1024, .f32⟩
  | .hbm, ⟨11, _⟩ => ⟨S32x4x1024, .f32⟩
  | .hbm, ⟨12, _⟩ => ⟨S16x1024, .f32⟩
  | .hbm, ⟨13, _⟩ => ⟨S8192x1024, .f32⟩
  | .hbm, ⟨14, _⟩ => ⟨S8208x1024, .f32⟩
  | .hbm, ⟨15, _⟩ => ⟨S1x8208x8x128, .f32⟩
  | .hbm, ⟨16, _⟩ => ⟨S16x1024, .f32⟩
  | .hbm, ⟨17, _⟩ => ⟨S8192x1024, .f32⟩
  | .hbm, ⟨18, _⟩ => ⟨S8208x1024, .f32⟩
  | .hbm, ⟨19, _⟩ => ⟨S1x8208x8x128, .f32⟩
  | .hbm, ⟨20, _⟩ => ⟨S15x1024, .f32⟩
  | .hbm, ⟨21, _⟩ => ⟨S1x15x1024, .f32⟩
  | .hbm, ⟨22, _⟩ => ⟨S128x1024, .f32⟩
  | .hbm, ⟨23, _⟩ => ⟨S4x32x1024, .f32⟩
  | .hbm, ⟨24, _⟩ => ⟨S32x4x1024, .f32⟩
  | .hbm, ⟨25, _⟩ => ⟨S32x4x8x128, .f32⟩
  | .hbm, ⟨26, _⟩ => ⟨S128x1024, .f32⟩
  | .hbm, ⟨27, _⟩ => ⟨S4x32x1024, .f32⟩
  | .hbm, ⟨28, _⟩ => ⟨S32x4x1024, .f32⟩
  | .hbm, ⟨29, _⟩ => ⟨S32x4x8x128, .f32⟩
  | .hbm, ⟨30, _⟩ => ⟨S1x32x15x1024, .f32⟩
  | .hbm, ⟨31, _⟩ => ⟨S32x15x1024, .f32⟩
  | .hbm, ⟨32, _⟩ => ⟨S32x19x1024, .f32⟩
  | .hbm, ⟨33, _⟩ => ⟨S32x15x1024, .f32⟩
  | .local _ .vmem, ⟨0, _⟩ => ⟨S1056x2048, .f32⟩
  | .local _ .vmem, ⟨1, _⟩ => ⟨S1056x2048, .f32⟩
  | .local _ .vmem, ⟨2, _⟩ => ⟨S1x1x2048, .f32⟩
  | .local _ .vmem, ⟨3, _⟩ => ⟨S1x2048x1024, .f32⟩
  | .local _ .vmem, ⟨4, _⟩ => ⟨S1x2048x1024, .f32⟩
  | .local _ .vmem, ⟨5, _⟩ => ⟨S1056x1024, .f32⟩
  | .local _ .vmem, ⟨6, _⟩ => ⟨S1056x1024, .f32⟩
  | .local _ .vmem, ⟨7, _⟩ => ⟨S1056x1024, .bf16⟩
  | .local _ .vmem, ⟨8, _⟩ => ⟨S1056x1024, .bf16⟩
  | .local _ .vmem, ⟨9, _⟩ => ⟨S1056x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1056x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1056x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel3Ideal.lean ====
variable {F : FTy → Type} [FloatOps F] [Named F]
def κ : String → Option EReal := fun
  | "qscale" => some (((11863283 / 134217728) * (Real.log 2)⁻¹ : ℝ) : EReal)
  | _ => none
-- ==== Reference3Ideal.lean ====
abbrev S8448x2048 : Shape := ⟨2, ![8448, 2048]⟩
abbrev S2x2048 : Shape := ⟨2, ![2, 2048]⟩
abbrev S2x2048x4096 : Shape := ⟨3, ![2, 2048, 4096]⟩
abbrev S2x32x15x1024 : Shape := ⟨4, ![2, 32, 15, 1024]⟩
abbrev S1x2048 : Shape := ⟨2, ![1, 2048]⟩
abbrev S2048 : Shape := ⟨1, ![2048]⟩
abbrev S_ : Shape := ⟨0, ![]⟩
abbrev S8448 : Shape := ⟨1, ![8448]⟩
abbrev S8448x1 : Shape := ⟨2, ![8448, 1]⟩
abbrev S1x2048x4096 : Shape := ⟨3, ![1, 2048, 4096]⟩
abbrev S2048x4096 : Shape := ⟨2, ![2048, 4096]⟩
abbrev S8448x4096 : Shape := ⟨2, ![8448, 4096]⟩
abbrev S8448x1024 : Shape := ⟨2, ![8448, 1024]⟩
abbrev S8448x3072 : Shape := ⟨2, ![8448, 3072]⟩
abbrev S16x4096 : Shape := ⟨2, ![16, 4096]⟩
abbrev S8192x4096 : Shape := ⟨2, ![8192, 4096]⟩
abbrev S8208x4096 : Shape := ⟨2, ![8208, 4096]⟩
abbrev S1x8208x4096 : Shape := ⟨3, ![1, 8208, 4096]⟩
abbrev S128x4096 : Shape := ⟨2, ![128, 4096]⟩
abbrev S4x32x4096 : Shape := ⟨3, ![4, 32, 4096]⟩
abbrev S32x4x4096 : Shape := ⟨3, ![32, 4, 4096]⟩
abbrev S1x8208x1024 : Shape := ⟨3, ![1, 8208, 1024]⟩
abbrev S32x4x1024 : Shape := ⟨3, ![32, 4, 1024]⟩
abbrev S1x32x15x1024 : Shape := ⟨4, ![1, 32, 15, 1024]⟩
abbrev S32x15x1024 : Shape := ⟨3, ![32, 15, 1024]⟩
abbrev S32x19x1024 : Shape := ⟨3, ![32, 19, 1024]⟩
abbrev S1x8208x8x128 : Shape := ⟨4, ![1, 8208, 8, 128]⟩
abbrev S1x15x1024 : Shape := ⟨3, ![1, 15, 1024]⟩
abbrev S32x4x8x128 : Shape := ⟨4, ![32, 4, 8, 128]⟩

abbrev nBuf : Space → Nat
  | .hbm => 60
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2x2048, .f32⟩
  | .hbm, ⟨2, _⟩ => ⟨S2x2048x4096, .f32⟩
  | .hbm, ⟨3, _⟩ => ⟨S2x32x15x1024, .f32⟩
  | .hbm, ⟨4, _⟩ => ⟨S1x2048, .f32⟩
  | .hbm, ⟨5, _⟩ => ⟨S2048, .f32⟩
  | .hbm, ⟨6, _⟩ => ⟨S8448x2048, .f32⟩
  | .hbm, ⟨7, _⟩ => ⟨S_, .f32⟩
  | .hbm, ⟨8, _⟩ => ⟨S8448, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S_, .f32⟩
  | .hbm, ⟨14, _⟩ => ⟨S8448x1, .f32⟩
  | .hbm, ⟨15, _⟩ => ⟨S8448x1, .f32⟩
  | .hbm, ⟨16, _⟩ => ⟨S8448x1, .f32⟩
  | .hbm, ⟨17, _⟩ => ⟨S8448x2048, .f32⟩
  | .hbm, ⟨18, _⟩ => ⟨S8448x2048, .f32⟩
  | .hbm, ⟨19, _⟩ => ⟨S1x2048, .f32⟩
  | .hbm, ⟨20, _⟩ => ⟨S8448x2048, .f32⟩
  | .hbm, ⟨21, _⟩ => ⟨S8448x2048, .f32⟩
  | .hbm, ⟨22, _⟩ => ⟨S1x2048x4096, .f32⟩
  | .hbm, ⟨23, _⟩ => ⟨S2048x4096, .f32⟩
  | .hbm, ⟨24, _⟩ => ⟨S8448x4096, .f32⟩
  | .hbm, ⟨25, _⟩ => ⟨S8448x1024, .f32⟩
  | .hbm, ⟨26, _⟩ => ⟨S8448x3072, .f32⟩
  | .hbm, ⟨27, _⟩ => ⟨S_, .f32⟩
  | .hbm, ⟨28, _⟩ => ⟨S8448x1024, .f32⟩
  | .hbm, ⟨29, _⟩ => ⟨S8448x1024, .f32⟩
  | .hbm, ⟨30, _⟩ => ⟨S_, .f32⟩
  | .hbm, ⟨31, _⟩ => ⟨S_, .f32⟩
  | .hbm, ⟨32, _⟩ => ⟨S8448x1024, .f32⟩
  | .hbm, ⟨33, _⟩ => ⟨S8448x1024, .f32⟩
  | .hbm, ⟨34, _⟩ => ⟨S8448x4096, .f32⟩
  | .hbm, ⟨35, _⟩ => ⟨S8448x4096, .bf16⟩
  | .hbm, ⟨36, _⟩ => ⟨S16x4096, .f32⟩
  | .hbm, ⟨37, _⟩ => ⟨S8192x4096, .f32⟩
  | .hbm, ⟨38, _⟩ => ⟨S8208x4096, .f32⟩
  | .hbm, ⟨39, _⟩ => ⟨S1x8208x4096, .f32⟩
  | .hbm, ⟨40, _⟩ => ⟨S128x4096, .f32⟩
  | .hbm, ⟨41, _⟩ => ⟨S4x32x4096, .f32⟩
  | .hbm, ⟨42, _⟩ => ⟨S32x4x4096, .f32⟩
  | .hbm, ⟨43, _⟩ => ⟨S1x8208x1024, .f32⟩
  | .hbm, ⟨44, _⟩ => ⟨S1x8208x1024, .f32⟩
  | .hbm, ⟨45, _⟩ => ⟨S1x8208x1024, .f32⟩
  | .hbm, ⟨46, _⟩ => ⟨S1x8208x1024, .f32⟩
  | .hbm, ⟨47, _⟩ => ⟨S32x4x1024, .f32⟩
  | .hbm, ⟨48, _⟩ => ⟨S32x4x1024, .f32⟩
  | .hbm, ⟨49, _⟩ => ⟨S32x4x1024, .f32⟩
  | .hbm, ⟨50, _⟩ => ⟨S32x4x1024, .f32⟩
  | .hbm, ⟨51, _⟩ => ⟨S1x32x15x1024, .f32⟩
  | .hbm, ⟨52, _⟩ => ⟨S32x15x1024, .f32⟩
  | .hbm, ⟨53, _⟩ => ⟨S32x19x1024, .f32⟩
  | .hbm, ⟨54, _⟩ => ⟨S1x8208x8x128, .f32⟩
  | .hbm, ⟨55, _⟩ => ⟨S1x8208x8x128, .f32⟩
  | .hbm, ⟨56, _⟩ => ⟨S1x15x1024, .f32⟩
  | .hbm, ⟨57, _⟩ => ⟨S32x4x8x128, .f32⟩
  | .hbm, ⟨58, _⟩ => ⟨S32x4x8x128, .f32⟩
  | .hbm, ⟨59, _⟩ => ⟨S32x15x1024, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩

abbrev nD : Nat := 1
abbrev τ : Topo := Topo.v7x

variable {F : FTy → Type} [FloatOps F]
-- ==== Kernel4.lean ====
abbrev S8448x1024 : Shape := ⟨2, ![8448, 1024]⟩
abbrev S2x1024 : Shape := ⟨2, ![2, 1024]⟩
abbrev S2x2048x2048 : Shape := ⟨3, ![2, 2048, 2048]⟩
abbrev S8448x2048 : Shape := ⟨2, ![8448, 2048]⟩
abbrev S2x1x1024 : Shape := ⟨3, ![2, 1, 1024]⟩
abbrev S1056x1024 : Shape := ⟨2, ![1056, 1024]⟩
abbrev S1x1x1024 : Shape := ⟨3, ![1, 1, 1024]⟩
abbrev S1x2048x512 : Shape := ⟨3, ![1, 2048, 512]⟩
abbrev S1056x512 : Shape := ⟨2, ![1056, 512]⟩
abbrev S1056x2048 : Shape := ⟨2, ![1056, 2048]⟩
abbrev S1056 : Shape := ⟨1, ![1056]⟩
abbrev S1056x1 : Shape := ⟨2, ![1056, 1]⟩
abbrev S1x1024 : Shape := ⟨2, ![1, 1024]⟩
abbrev S2048x512 : Shape := ⟨2, ![2048, 512]⟩

abbrev nBuf : Space → Nat
  | .hbm => 9
  | .vmem => 13
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S2x1024, .f32⟩
  | .hbm, ⟨3, _⟩ => ⟨S2x1024, .f32⟩
  | .hbm, ⟨4, _⟩ => ⟨S2x2048x2048, .f32⟩
  | .hbm, ⟨5, _⟩ => ⟨S8448x2048, .f32⟩
  | .hbm, ⟨6, _⟩ => ⟨S2x1x1024, .f32⟩
  | .hbm, ⟨7, _⟩ => ⟨S2x1x1024, .f32⟩
  | .hbm, ⟨8, _⟩ => ⟨S8448x2048, .f32⟩
  | .local _ .vmem, ⟨0, _⟩ => ⟨S1056x1024, .f32⟩
  | .local _ .vmem, ⟨1, _⟩ => ⟨S1056x1024, .f32⟩
  | .local _ .vmem, ⟨2, _⟩ => ⟨S1056x1024, .f32⟩
  | .local _ .vmem, ⟨3, _⟩ => ⟨S1056x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x2048x512, .f32⟩
  | .local _ .vmem, ⟨7, _⟩ => ⟨S1x2048x512, .f32⟩
  | .local _ .vmem, ⟨8, _⟩ => ⟨S1056x512, .f32⟩
  | .local _ .vmem, ⟨9, _⟩ => ⟨S1056x512, .f32⟩
  | .local _ .vmem, ⟨10, _⟩ => ⟨S1056x512, .f32⟩
  | .local _ .vmem, ⟨11, _⟩ => ⟨S1056x512, .f32⟩
  | .local _ .vmem, ⟨12, _⟩ => ⟨S1056x2048, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1056x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1056x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1056x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S8448x1024 : Shape := ⟨2, ![8448, 1024]⟩
abbrev S2x1024 : Shape := ⟨2, ![2, 1024]⟩
abbrev S2x2048x2048 : Shape := ⟨3, ![2, 2048, 2048]⟩
abbrev S8448x2048 : Shape := ⟨2, ![8448, 2048]⟩
abbrev S1x1024 : Shape := ⟨2, ![1, 1024]⟩
abbrev S1024 : Shape := ⟨1, ![1024]⟩
abbrev S_ : Shape := ⟨0, ![]⟩
abbrev S8448 : Shape := ⟨1, ![8448]⟩
abbrev S8448x1 : Shape := ⟨2, ![8448, 1]⟩
abbrev S1x2048x2048 : Shape := ⟨3, ![1, 2048, 2048]⟩
abbrev S2048x2048 : Shape := ⟨2, ![2048, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S2x1024, .f32⟩
  | .hbm, ⟨3, _⟩ => ⟨S2x1024, .f32⟩
  | .hbm, ⟨4, _⟩ => ⟨S2x2048x2048, .f32⟩
  | .hbm, ⟨5, _⟩ => ⟨S8448x2048, .f32⟩
  | .hbm, ⟨6, _⟩ => ⟨S1x1024, .f32⟩
  | .hbm, ⟨7, _⟩ => ⟨S1024, .f32⟩
  | .hbm, ⟨8, _⟩ => ⟨S8448x1024, .f32⟩
  | .hbm, ⟨9, _⟩ => ⟨S_, .f32⟩
  | .hbm, ⟨10, _⟩ => ⟨S8448, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S_, .f32⟩
  | .hbm, ⟨16, _⟩ => ⟨S8448x1, .f32⟩
  | .hbm, ⟨17, _⟩ => ⟨S8448x1, .f32⟩
  | .hbm, ⟨18, _⟩ => ⟨S8448x1, .f32⟩
  | .hbm, ⟨19, _⟩ => ⟨S8448x1024, .f32⟩
  | .hbm, ⟨20, _⟩ => ⟨S8448x1024, .f32⟩
  | .hbm, ⟨21, _⟩ => ⟨S1x1024, .f32⟩
  | .hbm, ⟨22, _⟩ => ⟨S8448x1024, .f32⟩
  | .hbm, ⟨23, _⟩ => ⟨S8448x1024, .f32⟩
  | .hbm, ⟨24, _⟩ => ⟨S1x1024, .f32⟩
  | .hbm, ⟨25, _⟩ => ⟨S1024, .f32⟩
  | .hbm, ⟨26, _⟩ => ⟨S8448x1024, .f32⟩
  | .hbm, ⟨27, _⟩ => ⟨S_, .f32⟩
  | .hbm, ⟨28, _⟩ => ⟨S8448, .f32⟩
  | .hbm, ⟨29, _⟩ => ⟨S8448x1, .f32⟩
  | .hbm, ⟨30, _⟩ => ⟨S_, .f32⟩
  | .hbm, ⟨31, _⟩ => ⟨S8448x1, .f32⟩
  | .hbm, ⟨32, _⟩ => ⟨S8448x1, .f32⟩
  | .hbm, ⟨33, _⟩ => ⟨S_, .f32⟩
  | .hbm, ⟨34, _⟩ => ⟨S8448x1, .f32⟩
  | .hbm, ⟨35, _⟩ => ⟨S8448x1, .f32⟩
  | .hbm, ⟨36, _⟩ => ⟨S8448x1, .f32⟩
  | .hbm, ⟨37, _⟩ => ⟨S8448x1024, .f32⟩
  | .hbm, ⟨38, _⟩ => ⟨S8448x1024, .f32⟩
  | .hbm, ⟨39, _⟩ => ⟨S1x1024, .f32⟩
  | .hbm, ⟨40, _⟩ => ⟨S8448x1024, .f32⟩
  | .hbm, ⟨41, _⟩ => ⟨S8448x1024, .f32⟩
  | .hbm, ⟨42, _⟩ => ⟨S8448x2048, .f32⟩
  | .hbm, ⟨43, _⟩ => ⟨S1x2048x2048, .f32⟩
  | .hbm, ⟨44, _⟩ => ⟨S2048x2048, .f32⟩
  | .hbm, ⟨45, _⟩ => ⟨S8448x2048, .f32⟩
  | .hbm, ⟨46, _⟩ => ⟨S8448x2048, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel5.lean ====
abbrev S8448x2048 : Shape := ⟨2, ![8448, 2048]⟩
abbrev S2048 : Shape := ⟨1, ![2048]⟩
abbrev S1x2048 : Shape := ⟨2, ![1, 2048]⟩
abbrev S8192x2048 : Shape := ⟨2, ![8192, 2048]⟩
abbrev S256x2048 : Shape := ⟨2, ![256, 2048]⟩
abbrev S256 : Shape := ⟨1, ![256]⟩
abbrev S256x1 : Shape := ⟨2, ![256, 1]⟩
abbrev S128x2048 : Shape := ⟨2, ![128, 2048]⟩
abbrev S4x32x2048 : Shape := ⟨3, ![4, 32, 2048]⟩
abbrev S32x4x2048 : Shape := ⟨3, ![32, 4, 2048]⟩
abbrev S1x8192x2048 : Shape := ⟨3, ![1, 8192, 2048]⟩

abbrev nBuf : Space → Nat
  | .hbm => 9
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S1x2048, .f32⟩
  | .hbm, ⟨3, _⟩ => ⟨S8192x2048, .f32⟩
  | .hbm, ⟨4, _⟩ => ⟨S256x2048, .f32⟩
  | .hbm, ⟨5, _⟩ => ⟨S128x2048, .f32⟩
  | .hbm, ⟨6, _⟩ => ⟨S4x32x2048, .f32⟩
  | .hbm, ⟨7, _⟩ => ⟨S32x4x2048, .f32⟩
  | .hbm, ⟨8, _⟩ => ⟨S1x8192x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v15 : BitVec 1 := Scalar.cmpi .slt arg0 c32_i32
  let v16 : BitVec 32 := Scalar.extui v15
  let c0_i32 : BitVec 32 := 0#32
  let v17 : BitVec 1 := Scalar.cmpi .ne v16 c0_i32
  v17

def k0_cond2 (i : grid0.Coords) : BitVec 1 :=
  let arg0 : BitVec 32 := BitVec.ofNat 32 (i 0).val
  let c32_i32_5 : BitVec 32 := 32#32
  let v18 : BitVec 1 := Scalar.cmpi .eq arg0 c32_i32_5
  let v19 : BitVec 32 := Scalar.extui v18
  let c0_i32_6 : BitVec 32 := 0#32
  let v20 : BitVec 1 := Scalar.cmpi .ne v19 c0_i32_6
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference5Ideal.lean ====
abbrev S8448x2048 : Shape := ⟨2, ![8448, 2048]⟩
abbrev S2048 : Shape := ⟨1, ![2048]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S8192x2048 : Shape := ⟨2, ![8192, 2048]⟩
abbrev S1x8192x2048 : Shape := ⟨3, ![1, 8192, 2048]⟩
abbrev S128x2048 : Shape := ⟨2, ![128, 2048]⟩
abbrev S4x32x2048 : Shape := ⟨3, ![4, 32, 2048]⟩
abbrev S32x4x2048 : Shape := ⟨3, ![32, 4, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S8448x2048, .f32⟩
  | .hbm, ⟨3, _⟩ => ⟨S_, .f32⟩
  | .hbm, ⟨4, _⟩ => ⟨S8448, .f32⟩
  | .hbm, ⟨5, _⟩ => ⟨S8448x1, .f32⟩
  | .hbm, ⟨6, _⟩ => ⟨S_, .f32⟩
  | .hbm, ⟨7, _⟩ => ⟨S8448x1, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S8448x1, .f32⟩
  | .hbm, ⟨13, _⟩ => ⟨S8448x2048, .f32⟩
  | .hbm, ⟨14, _⟩ => ⟨S8448x2048, .f32⟩
  | .hbm, ⟨15, _⟩ => ⟨S1x2048, .f32⟩
  | .hbm, ⟨16, _⟩ => ⟨S8448x2048, .f32⟩
  | .hbm, ⟨17, _⟩ => ⟨S8448x2048, .f32⟩
  | .hbm, ⟨18, _⟩ => ⟨S8192x2048, .f32⟩
  | .hbm, ⟨19, _⟩ => ⟨S1x8192x2048, .f32⟩
  | .hbm, ⟨20, _⟩ => ⟨S128x2048, .f32⟩
  | .hbm, ⟨21, _⟩ => ⟨S4x32x2048, .f32⟩
  | .hbm, ⟨22, _⟩ => ⟨S32x4x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Proof.Attn.Pos.lean ====
module

public import proofs.«01_k».proof.Proof.Gen.KernelIdeal.Loops

@[expose] public section

namespace Cert.KernelIdeal.Attn

open Cert.KernelIdeal Cert.KernelIdeal.Gen
open Idealize.ShloMosaic

/-- How many key tiles row block `i` meets: its own, the earlier ones and the learned ones; the last block meets two. -/
def cnt (i : ℕ) : ℕ := if i = 32 then 2 else i + 2

/-- The position after `p` in the flat stream of (row block, tile) pairs. -/
def nxt (p : ℕ × ℕ) : ℕ × ℕ := if p.2 + 1 = cnt p.1 then (p.1 + 1, 0) else (p.1, p.2 + 1)

/-- The stream's `n`-th position. -/
def pos : ℕ → ℕ × ℕ
  | 0 => (0, 0)
  | n + 1 => nxt (pos n)

/-- The first row of the key tile at a position. -/
def koff (p : ℕ × ℕ) : ℕ := if p.1 < 32 ∧ p.2 ≤ p.1 then 256 * (p.1 - p.2) else 8192

/-- The first query row at a position. -/
def qoff (p : ℕ × ℕ) : ℕ := min (256 * p.1) 8192

/-- Which of the five bias tiles a position takes. -/
def kind (p : ℕ × ℕ) : ℕ :=
  if p.1 = 32 then (if p.2 = 0 then 3 else 4) else if p.2 = 0 then 1 else if p.2 ≤ p.1 then 0 else 2

/-- A number as a word. -/
abbrev wd (n : ℕ) : BitVec 32 := BitVec.ofNat 32 n

/-- A position of the stream. -/
def Ok (p : ℕ × ℕ) : Prop := p.1 ≤ 32 ∧ p.2 < cnt p.1

instance (p : ℕ × ℕ) : Decidable (Ok p) := inferInstanceAs (Decidable (_ ∧ _))

/-- Each position up to the last is one of the stream. -/
theorem pos_ok : ∀ n, n < 562 → Ok (pos n) := by
  have : ∀ n : Fin 562, Ok (pos n) := by decide +kernel
  exact fun n h => this ⟨n, h⟩

set_option maxRecDepth 100000 in
/-- The checks and offsets of every position, read off its own words. -/
theorem own_facts : ∀ i : Fin 33, ∀ j : Fin 33, (j.val < cnt i.val) →
    k0_chk1 (wd i) ∧ k0_chk3 (wd i) (wd j) ∧ k0_chk4 (wd i) ∧ k0_chk5 (wd i) (wd j) ∧ k0_chk6 (wd i)
    ∧ k0_chk7 (wd i) (wd j) ∧ k0_chk8 (wd i) ∧ k0_chk9 (wd i) (wd j) ∧ k0_chk10 (wd i)
    ∧ k0_off7 (wd i) = ![qoff (i, j), 0] ∧ k0_off8 (wd i) (wd j) = ![koff (i, j), 0]
    ∧ k0_off9 (wd i) (wd j) = ![0, 0, kind (i, j), 0, 0]
    ∧ k0_off10 (wd i) (wd j) = ![koff (i, j), 0] ∧ k0_off11 (wd i) = ![qoff (i, j), 0]
    ∧ k0_off15 (wd i) (wd j) = ![koff (i, j), 0] ∧ k0_off16 (wd i) = ![qoff (i, j), 0]
    ∧ k0_off20 (wd i) (wd j) = ![koff (i, j), 0] ∧ k0_off21 (wd i) = ![qoff (i, j), 0]
    ∧ k0_off27 (wd i) (wd j) = ![koff (i, j), 0] ∧ k0_off28 (wd i) = ![qoff (i, j), 0]
    ∧ k0_off29 (wd i) (wd j) = ![koff (i, j), 0] ∧ k0_off30 (wd i) = ![qoff (i, j), 0] := by
  decide +kernel

set_option maxRecDepth 100000 in
/-- The checks and offsets of a trip at the positions after the one its first pair of words names. -/
theorem trip_facts : ∀ k : Fin 140,
    k0_chk2 (wd (pos (4 * k + 2)).1) (wd (pos (4 * k + 2)).2)
    ∧ k0_off12 (wd (pos (4 * k + 2)).1) (wd (pos (4 * k + 2)).2) = ![qoff (pos (4 * k + 3)), 0]
    ∧ k0_off13 (wd (pos (4 * k + 2)).1) (wd (pos (4 * k + 2)).2) = ![koff (pos (4 * k + 3)), 0]
    ∧ k0_off14 (wd (pos (4 * k + 2)).1) (wd (pos (4 * k + 2)).2) = ![0, 0, kind (pos (4 * k + 3)), 0, 0]
    ∧ k0_off17 (wd (pos (4 * k + 2)).1) (wd (pos (4 * k + 2)).2) = ![qoff (pos (4 * k + 4)), 0]
    ∧ k0_off18 (wd (pos (4 * k + 2)).1) (wd (pos (4 * k + 2)).2) = ![koff (pos (4 * k + 4)), 0]
    ∧ k0_off19 (wd (pos (4 * k + 2)).1) (wd (pos (4 * k + 2)).2) = ![0, 0, kind (pos (4 * k + 4)), 0, 0]
    ∧ k0_off22 (wd (pos (4 * k + 2)).1) (wd (pos (4 * k + 2)).2) = ![qoff (pos (4 * k + 5)), 0]
    ∧ k0_off23 (wd (pos (4 * k + 2)).1) (wd (pos (4 * k + 2)).2) = ![koff (pos (4 * k + 5)), 0]
    ∧ k0_off24 (wd (pos (4 * k + 2)).1) (wd (pos (4 * k + 2)).2) = ![0, 0, kind (pos (4 * k + 5)), 0, 0]
    ∧ k0_off25 (wd (pos (4 * k + 2)).1) (wd (pos (4 * k + 2)).2) = ![koff (pos (4 * k + 3)), 0]
    ∧ k0_off26 (wd (pos (4 * k + 2)).1) (wd (pos (4 * k + 2)).2) = ![qoff (pos (4 * k + 3)), 0] := by
  decide +kernel

/-- The next position's row block, as the kernel computes it on words. -/
def nw1 (a b : BitVec 32) : BitVec 32 :=
  Scalar.select (Scalar.cmpi .eq (Scalar.addi b 1#32) (Scalar.select (Scalar.cmpi .eq a 32#32) 2#32 (Scalar.addi a 2#32))) (Scalar.addi a 1#32) a

/-- The next position's tile, as the kernel computes it on words. -/
def nw2 (a b : BitVec 32) : BitVec 32 :=
  Scalar.select (Scalar.cmpi .eq (Scalar.addi b 1#32) (Scalar.select (Scalar.cmpi .eq a 32#32) 2#32 (Scalar.addi a 2#32))) 0#32 (Scalar.addi b 1#32)

/-- The words of the next position are the next position's words. -/
theorem nw_pos : ∀ n, n < 562 → nw1 (wd (pos n).1) (wd (pos n).2) = wd (pos (n + 1)).1
    ∧ nw2 (wd (pos n).1) (wd (pos n).2) = wd (pos (n + 1)).2 := by
  have : ∀ n : Fin 562, nw1 (wd (pos n).1) (wd (pos n).2) = wd (pos (n + 1)).1
      ∧ nw2 (wd (pos n).1) (wd (pos n).2) = wd (pos (n + 1)).2 := by decide +kernel
  exact fun n h => this ⟨n, h⟩

/-- `own_facts` at a position of the stream. -/
theorem own_pos (n : ℕ) (h : n < 562) :
    k0_chk1 (wd (pos n).1) ∧ k0_chk3 (wd (pos n).1) (wd (pos n).2) ∧ k0_chk4 (wd (pos n).1) ∧ k0_chk5 (wd (pos n).1) (wd (pos n).2) ∧ k0_chk6 (wd (pos n).1)
    ∧ k0_chk7 (wd (pos n).1) (wd (pos n).2) ∧ k0_chk8 (wd (pos n).1) ∧ k0_chk9 (wd (pos n).1) (wd (pos n).2) ∧ k0_chk10 (wd (pos n).1)
    ∧ k0_off7 (wd (pos n).1) = ![qoff (pos n), 0] ∧ k0_off8 (wd (pos n).1) (wd (pos n).2) = ![koff (pos n), 0]
    ∧ k0_off9 (wd (pos n).1) (wd (pos n).2) = ![0, 0, kind (pos n), 0, 0]
    ∧ k0_off10 (wd (pos n).1) (wd (pos n).2) = ![koff (pos n), 0] ∧ k0_off11 (wd (pos n).1) = ![qoff (pos n), 0]
    ∧ k0_off15 (wd (pos n).1) (wd (pos n).2) = ![koff (pos n), 0] ∧ k0_off16 (wd (pos n).1) = ![qoff (pos n), 0]
    ∧ k0_off20 (wd (pos n).1) (wd (pos n).2) = ![koff (pos n), 0] ∧ k0_off21 (wd (pos n).1) = ![qoff (pos n), 0]
    ∧ k0_off27 (wd (pos n).1) (wd (pos n).2) = ![koff (pos n), 0] ∧ k0_off28 (wd (pos n).1) = ![qoff (pos n), 0]
    ∧ k0_off29 (wd (pos n).1) (wd (pos n).2) = ![koff (pos n), 0] ∧ k0_off30 (wd (pos n).1) = ![qoff (pos n), 0] := by
  obtain ⟨h1, h2⟩ := pos_ok n h
  have h3 : (pos n).2 < 33 := by
    unfold cnt at h2; split at h2 <;> omega
  exact own_facts ⟨(pos n).1, by omega⟩ ⟨(pos n).2, h3⟩ h2

end Cert.KernelIdeal.Attn
-- ==== Proof.Attn.Stage.lean ====
module

public import proofs.«01_k».proof.Proof.Attn.Pos
public import proofs.«01_k».proof.Proof.Gen.KernelIdeal.Frame
public import Idealize.ShloMosaic.Lib.Tactic
public import Idealize.ShloMosaic.Lib.Pipeline.Kit
public import Idealize.ShloMosaic.Lib.VecWindow

@[expose] public section

noncomputable section

namespace Cert.KernelIdeal.Attn

open Cert.KernelIdeal Cert.KernelIdeal.Gen
open Idealize.ShloMosaic

/-! ## Loads of slots after stores -/

section Slots

variable {sig : RefSig} {κ : Kind} {sp : Space} {s : Shape} {e : EltTy} {Val : EltTy → Type}

/-- A load at the newest store's own rectangle reads its payload. -/
theorem ws_same (v : View sig κ sp s e) (f : v.ty.Contents Val) {off size : Fin s.rank → ℕ} (inb inb' : ∀ a, off a + size a ≤ s.size a)
    (w : (Rect.unit off size inb).shape.Idx → Val e) (L : List (View.Piece Val s e)) :
    v.readAt Val (Rect.unit off size inb').toLoadRect (v.writes Val f (⟨Rect.unit off size inb, w⟩ :: L)) = w := by
  funext x
  exact View.read_writes_cons_emb v f (Rect.unit off size inb) w L x

/-- A load at a rectangle the newest store misses, on axis `a`, reads what the earlier stores left. -/
theorem ws_other (v : View sig κ sp s e) (f : v.ty.Contents Val) {off size off' size' : Fin s.rank → ℕ} (inb : ∀ a, off a + size a ≤ s.size a)
    (inb' : ∀ a, off' a + size' a ≤ s.size a) (a : Fin s.rank) (h : off' a + size' a ≤ off a ∨ off a + size a ≤ off' a)
    (w : (Rect.unit off size inb).shape.Idx → Val e) (L : List (View.Piece Val s e)) :
    v.readAt Val (Rect.unit off' size' inb').toLoadRect (v.writes Val f (⟨Rect.unit off size inb, w⟩ :: L))
      = v.readAt Val (Rect.unit off' size' inb').toLoadRect (v.writes Val f L) := by
  funext x
  refine View.read_writes_cons_unit_of_not_mem v f inb w L _ rfl a ?_
  have hx : (x a).val < size' a := (x a).isLt
  have : (((Rect.unit off' size' inb').toLoadRect.idx x) a).val = off' a + 1 * (x a).val := rfl
  omega

/-- The covered load at the newest store's own rectangle reads its payload. -/
theorem rc_same [∀ e, Nonempty (Val e)] (v : View sig κ sp s e) {off size : Fin s.rank → ℕ} (inb inb' : ∀ a, off a + size a ≤ s.size a)
    (w : (Rect.unit off size inb).shape.Idx → Val e) (L : List (View.Piece Val s e)) :
    v.readCov (⟨Rect.unit off size inb, w⟩ :: L) (Rect.unit off size inb').toLoadRect = w :=
  ws_same v v.junk inb inb' w L

/-- The covered load at a rectangle the newest store misses reads the earlier stores. -/
theorem rc_other [∀ e, Nonempty (Val e)] (v : View sig κ sp s e) {off size off' size' : Fin s.rank → ℕ} (inb : ∀ a, off a + size a ≤ s.size a)
    (inb' : ∀ a, off' a + size' a ≤ s.size a) (a : Fin s.rank) (h : off' a + size' a ≤ off a ∨ off a + size a ≤ off' a)
    (w : (Rect.unit off size inb).shape.Idx → Val e) (L : List (View.Piece Val s e)) :
    v.readCov (⟨Rect.unit off size inb, w⟩ :: L) (Rect.unit off' size' inb').toLoadRect
      = v.readCov L (Rect.unit off' size' inb').toLoadRect :=
  ws_other v v.junk inb inb' a h w L

end Slots

/-! ## The stages as functions of what they read -/

section Windows

variable {α : Type}

theorem qoff_le (p : ℕ × ℕ) : qoff p ≤ 8192 := Nat.min_le_right _ _
theorem koff_le (p : ℕ × ℕ) : koff p ≤ 8192 := by unfold koff; split <;> omega
theorem kind_le (p : ℕ × ℕ) : kind p ≤ 4 := by
  unfold kind; split <;> [skip; split] <;> [skip; skip; skip] <;> (repeat' split) <;> omega

theorem rows_inb {o : ℕ} (h : o ≤ 8192) : ∀ a, (![o, 0] : Fin 2 → ℕ) a + S256x128.size a ≤ S8448x128.size a :=
  Fin.forall_fin_two.mpr ⟨by show o + 256 ≤ 8448; omega, by show 0 + 128 ≤ 128; omega⟩

theorem kind_inb {o : ℕ} (h : o ≤ 4) : ∀ a, (![0, 0, o, 0, 0] : Fin 5 → ℕ) a + S1x1x1x256x256.size a ≤ S1x1x5x256x256.size a := by
  intro a
  match a with
  | 0 => show 0 + 1 ≤ 1; omega
  | 1 => show 0 + 1 ≤ 1; omega
  | 2 => show o + 1 ≤ 5; omega
  | 3 => show 0 + 256 ≤ 256; omega
  | 4 => show 0 + 256 ≤ 256; omega

/-- The 256 rows of `X` from the position's query row on. -/
def qrows (X : S8448x128.Idx → α) (p : ℕ × ℕ) : S256x128.Idx → α := VecWindow.window X ![qoff p, 0] S256x128.size (rows_inb (qoff_le p))

/-- The 256 rows of `X` from the position's first key row on. -/
def krows (X : S8448x128.Idx → α) (p : ℕ × ℕ) : S256x128.Idx → α := VecWindow.window X ![koff p, 0] S256x128.size (rows_inb (koff_le p))

/-- The position's bias tile. -/
def btile (X : S1x1x5x256x256.Idx → α) (p : ℕ × ℕ) : S1x1x1x256x256.Idx → α :=
  VecWindow.window X ![0, 0, kind p, 0, 0] S1x1x1x256x256.size (kind_inb (kind_le p))

end Windows

variable {F : FTy → Type} [FloatOps F] [Named F]

/-- The contents the body reads: the bias tiles, the queries, the keys, the values, the triangle. -/
structure In (F : FTy → Type) where
  B : Vec F S1x1x5x256x256 .f32
  Q : Vec F S8448x128 .bf16
  K : Vec F S8448x128 .bf16
  V : Vec F S8448x128 .bf16
  T : Vec F S256x256 .bf16

variable (I : In F)

/-- The logits of the tile at stream position `n`, in the base two. -/
def Z (n : ℕ) : Vec F S1x256x256 .f32 := k0_pay5 (k0_pay2 (qrows I.Q (pos n)) (krows I.K (pos n)) (btile I.B (pos n)))

/-- Their softplus. -/
def SP (n : ℕ) : Vec F S1x256x256 .bf16 :=
  k0_pay6 (k0_pay2 (qrows I.Q (pos n)) (krows I.K (pos n)) (btile I.B (pos n)))
    (k0_pay3 (qrows I.Q (pos n)) (krows I.K (pos n)) (btile I.B (pos n))) k0_pay4

/-- The triangle as the body reads it. -/
def TRI : FVec F S256x256 .bf16 := shapeCast S256x256 I.T shapeCasts_S256x256_S256x256

/-- The logits less the softplus summed from each key on within the tile. -/
def D (n : ℕ) : Vec F S1x256x256 .f32 := k0_pay8 (TRI I) (SP I n) (Z I n)

/-- The softplus summed over the tile. -/
def RS (n : ℕ) : Vec F S1x256x1 .f32 := k0_pay9 (TRI I) (SP I n)

/-- The sum carried and the weighted values carried before stream position `n`. -/
def RA : ℕ → FVec F S256x1 .f32 × FVec F S256x128 .f32
  | 0 => (broadcast S256x1 (Scalar.ofBits .f32 0x00000000#32), broadcast S256x128 (Scalar.ofBits .f32 0x00000000#32))
  | n + 1 => (k0_pay13 (k0_pay10 (wd (pos n).2) (RA n).1) (RS I n),
      k0_pay12 (k0_pay10 (wd (pos n).2) (RA n).1) (k0_pay11 (wd (pos n).2) (RA n).2) (D I n) (krows I.V (pos n)))

/-- The output before stream position `n`: each position's row block overwritten in turn. -/
def OUT (o : Vec F S8448x128 .f32) : ℕ → Vec F S8448x128 .f32
  | 0 => o
  | n + 1 => VecWindow.put (OUT o n) ![qoff (pos n), 0] S256x128.size (RA I (n + 1)).2

end Cert.KernelIdeal.Attn

end
-- ==== Proof.Attn.Trip.lean ====
module

public import proofs.«01_k».proof.Proof.Attn.Stage

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A memref's buffer contents. -/
abbrev Bf (c : Dev nD) {sp : Space} {S : Shape} {e : EltTy} (M : Memref sig .tc sp S e) : Type := Buf (Elt F) (M.view.loc (c : Thread nD τ))

/-- A memref held whole at contents `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-- The words and values the loop carries. -/
abbrev Carry (F : FTy → Type) : Type := BitVec 32 × BitVec 32 × BitVec 32 × BitVec 32 × BitVec 32 × BitVec 32 × FVec F S256x1 .f32 × FVec F S256x128 .f32

section

variable (c : Dev nD) (arg1 : Memref sig .tc .vmem S1x1x5x256x256 .f32) (harg1 : arg1.IsWhole) (arg2 : Memref sig .tc .vmem S8448x128 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S256x256 .bf16) (harg5 : arg5.IsWhole) (arg6 : Memref sig .tc .vmem S256x128 .f32) (harg6 : arg6.IsWhole) (arg7 : Memref sig .tc .vmem S8448x128 .f32) (harg7 : arg7.IsWhole) (arg8 : Memref sig .tc .vmem S2x256x256 .f32) (harg8 : arg8.IsWhole) (arg9 : Memref sig .tc .vmem S2x256x256 .bf16) (harg9 : arg9.IsWhole) (arg10 : Memref sig .tc .vmem S2x256x256 .f32) (harg10 : arg10.IsWhole) (arg11 : Memref sig .tc .vmem S2x256x1 .f32) (harg11 : arg11.IsWhole)
  (f1 : Bf (F := F) c arg1) (f2 : Bf (F := F) c arg2) (f3 : Bf (F := F) c arg3) (f4 : Bf (F := F) c arg4)
variable {c arg1 arg2 arg3 arg4} in
/-- What holds before stream position `n` at a trip's start: the slots' contents, the carried words and values, the output. -/
structure St (I : In F) (o : Vec F S8448x128 .f32) (n : ℕ) (a : Carry F)
    (f7 : Bf (F := F) c arg7) (f8 : Bf (F := F) c arg8) (f9 : Bf (F := F) c arg9) (f10 : Bf (F := F) c arg10) (f11 : Bf (F := F) c arg11) : Prop where
  z0 : arg8.view.readAt (Elt F) (Rect.unit (s := S2x256x256) ![0, 0, 0] S1x256x256.size inb_S2x256x256_S1x256x256_0_0_0).toLoadRect f8 = Z I n
  z1 : arg8.view.readAt (Elt F) (Rect.unit (s := S2x256x256) ![1, 0, 0] S1x256x256.size inb_S2x256x256_S1x256x256_1_0_0).toLoadRect f8 = Z I (n + 1)
  s0 : arg9.view.readAt (Elt F) (Rect.unit (s := S2x256x256) ![0, 0, 0] S1x256x256.size inb_S2x256x256_S1x256x256_0_0_0).toLoadRect f9 = SP I n
  s1 : arg9.view.readAt (Elt F) (Rect.unit (s := S2x256x256) ![1, 0, 0] S1x256x256.size inb_S2x256x256_S1x256x256_1_0_0).toLoadRect f9 = SP I (n + 1)
  d0 : arg10.view.readAt (Elt F) (Rect.unit (s := S2x256x256) ![0, 0, 0] S1x256x256.size inb_S2x256x256_S1x256x256_0_0_0).toLoadRect f10 = D I n
  r0 : arg11.view.readAt (Elt F) (Rect.unit (s := S2x256x1) ![0, 0, 0] S1x256x1.size inb_S2x256x1_S1x256x1_0_0_0).toLoadRect f11 = RS I n
  out : arg7.view.read (Elt F) f7 = OUT I o n
  a : a = (wd (pos (n + 2)).1, wd (pos (n + 2)).2, wd (pos (n + 1)).1, wd (pos (n + 1)).2, wd (pos n).1, wd (pos n).2, (RA I n).1, (RA I n).2)

set_option maxHeartbeats 4000000 in
/-- One trip: four positions of the stream. -/
theorem trip (i : grid0.Coords) (v8 v10 v118 v120 : BitVec 32) (v121 : FVec F S256x1 .f32) (v122 : FVec F S256x128 .f32) (c93 c94 c95 c96 : BitVec 32)
    (k : Fin k0_t1_loop.trips) (a : Carry F) (o : Vec F S8448x128 .f32) (I : In F) (n : ℕ) (hn : n = 4 * k.val)
    (hB : I.B = arg1.view.read (Elt F) f1) (hQ : I.Q = arg2.view.read (Elt F) f2) (hK : I.K = arg3.view.read (Elt F) f3) (hV : I.V = arg4.view.read (Elt F) f4)
    (f7 : Bf (F := F) c arg7) (f8 : Bf (F := F) c arg8) (f9 : Bf (F := F) c arg9) (f10 : Bf (F := F) c arg10) (f11 : Bf (F := F) c arg11)
    (hst : St arg7 arg8 arg9 arg10 arg11 I o n a f7 f8 f9 f10 f11)
    (Q : Carry F → sProp 𝕄) :
    iprop(pt c arg1 f1 ∗ pt c arg2 f2 ∗ pt c arg3 f3 ∗ pt c arg4 f4 ∗ pt c arg7 f7 ∗ pt c arg8 f8 ∗ pt c arg9 f9 ∗ pt c arg10 f10 ∗ pt c arg11 f11
      ∗ (∀ a, (∃ f7 f8 f9 f10 f11, pt c arg1 f1 ∗ pt c arg2 f2 ∗ pt c arg3 f3 ∗ pt c arg4 f4 ∗ pt c arg7 f7 ∗ pt c arg8 f8 ∗ pt c arg9 f9 ∗ pt c arg10 f10 ∗ pt c arg11 f11
          ∗ ⌜St arg7 arg8 arg9 arg10 arg11 I o (n + 4) a f7 f8 f9 f10 f11⌝) -∗ Q a))
    ⊢ wp frame (wpE (defs₀ (F := F)) Variants.none (c : Thread nD τ) none) Set.univ
        (k0_t1_body (F := F) i arg1 harg1 arg2 harg2 arg3 harg3 arg4 harg4 arg5 harg5 arg6 harg6 arg7 harg7 arg8 harg8 arg9 harg9 arg10 harg10 arg11 harg11 (TRI I) v8 v10 v118 v120 v121 v122 c93 c94 c95 c96 k a) Q := by
  obtain ⟨w13, w14, w15, w16, w17, w18, r, acc⟩ := a
  obtain ⟨hz0, hz1, hs0, hs1, hd0, hr0, hout, ha⟩ := hst
  have hk : k.val < 140 := lt_of_lt_of_le k.isLt (by decide)
  have tf := trip_facts ⟨k.val, hk⟩
  dsimp only at tf
  rw [← hn] at tf
  have p0 := own_pos n (by omega)
  have p1 := own_pos (n + 1) (by omega)
  have p2 := own_pos (n + 2) (by omega)
  have q2 := nw_pos (n + 2) (by omega)
  have q3 := nw_pos (n + 3) (by omega)
  have q4 := nw_pos (n + 4) (by omega)
  have q5 := nw_pos (n + 5) (by omega)
  simp only [Prod.mk.injEq] at ha
  obtain ⟨a13, a14, a15, a16, a17, a18, hr, hacc⟩ := ha
  rw [← a13, ← a14] at p2 q2 tf
  rw [← a15, ← a16] at p1
  rw [← a17, ← a18] at p0
  obtain ⟨-, h3, h4, -, -, -, -, -, -, -, -, -, o10, o11, -⟩ := p0
  obtain ⟨-, -, -, h5, h6, -, -, -, -, -, -, -, -, -, o15, o16, -⟩ := p1
  obtain ⟨h1, -, -, -, -, -, -, -, -, o7, o8, o9, -, -, -, -, o20, o21, -⟩ := p2
  obtain ⟨h2, o12, o13, o14, o17, o18, o19, o22, o23, o24, o25, o26⟩ := tf
  have L7 : ∀ inb, arg2.view.readAt (Elt F) (Rect.unit (s := S8448x128) (k0_off7 w13) S256x128.size inb).toLoadRect f2 = qrows I.Q (pos (n + 2)) :=
    fun inb => (View.readAt_unit _ _ inb o7 (rows_inb (qoff_le _))).trans (by rw [qrows, hQ])
  have L8 : ∀ inb, arg3.view.readAt (Elt F) (Rect.unit (s := S8448x128) (k0_off8 w13 w14) S256x128.size inb).toLoadRect f3 = krows I.K (pos (n + 2)) :=
    fun inb => (View.readAt_unit _ _ inb o8 (rows_inb (koff_le _))).trans (by rw [krows, hK])
  have L9 : ∀ inb, arg1.view.readAt (Elt F) (Rect.unit (s := S1x1x5x256x256) (k0_off9 w13 w14) S1x1x1x256x256.size inb).toLoadRect f1 = btile I.B (pos (n + 2)) :=
    fun inb => (View.readAt_unit _ _ inb o9 (kind_inb (kind_le _))).trans (by rw [btile, hB])
  have L12 : ∀ inb, arg2.view.readAt (Elt F) (Rect.unit (s := S8448x128) (k0_off12 w13 w14) S256x128.size inb).toLoadRect f2 = qrows I.Q (pos (n + 3)) :=
    fun inb => (View.readAt_unit _ _ inb o12 (rows_inb (qoff_le _))).trans (by rw [qrows, hQ])
  have L13 : ∀ inb, arg3.view.readAt (Elt F) (Rect.unit (s := S8448x128) (k0_off13 w13 w14) S256x128.size inb).toLoadRect f3 = krows I.K (pos (n + 3)) :=
    fun inb => (View.readAt_unit _ _ inb o13 (rows_inb (koff_le _))).trans (by rw [krows, hK])
  have L14 : ∀ inb, arg1.view.readAt (Elt F) (Rect.unit (s := S1x1x5x256x256) (k0_off14 w13 w14) S1x1x1x256x256.size inb).toLoadRect f1 = btile I.B (pos (n + 3)) :=
    fun inb => (View.readAt_unit _ _ inb o14 (kind_inb (kind_le _))).trans (by rw [btile, hB])
  have L17 : ∀ inb, arg2.view.readAt (Elt F) (Rect.unit (s := S8448x128) (k0_off17 w13 w14) S256x128.size inb).toLoadRect f2 = qrows I.Q (pos (n + 4)) :=
    fun inb => (View.readAt_unit _ _ inb o17 (rows_inb (qoff_le _))).trans (by rw [qrows, hQ])
  have L18 : ∀ inb, arg3.view.readAt (Elt F) (Rect.unit (s := S8448x128) (k0_off18 w13 w14) S256x128.size inb).toLoadRect f3 = krows I.K (pos (n + 4)) :=
    fun inb => (View.readAt_unit _ _ inb o18 (rows_inb (koff_le _))).trans (by rw [krows, hK])
  have L19 : ∀ inb, arg1.view.readAt (Elt F) (Rect.unit (s := S1x1x5x256x256) (k0_off19 w13 w14) S1x1x1x256x256.size inb).toLoadRect f1 = btile I.B (pos (n + 4)) :=
    fun inb => (View.readAt_unit _ _ inb o19 (kind_inb (kind_le _))).trans (by rw [btile, hB])
  have L22 : ∀ inb, arg2.view.readAt (Elt F) (Rect.unit (s := S8448x128) (k0_off22 w13 w14) S256x128.size inb).toLoadRect f2 = qrows I.Q (pos (n + 5)) :=
    fun inb => (View.readAt_unit _ _ inb o22 (rows_inb (qoff_le _))).trans (by rw [qrows, hQ])
  have L23 : ∀ inb, arg3.view.readAt (Elt F) (Rect.unit (s := S8448x128) (k0_off23 w13 w14) S256x128.size inb).toLoadRect f3 = krows I.K (pos (n + 5)) :=
    fun inb => (View.readAt_unit _ _ inb o23 (rows_inb (koff_le _))).trans (by rw [krows, hK])
  have L24 : ∀ inb, arg1.view.readAt (Elt F) (Rect.unit (s := S1x1x5x256x256) (k0_off24 w13 w14) S1x1x1x256x256.size inb).toLoadRect f1 = btile I.B (pos (n + 5)) :=
    fun inb => (View.readAt_unit _ _ inb o24 (kind_inb (kind_le _))).trans (by rw [btile, hB])
  have L10 : ∀ inb, arg4.view.readAt (Elt F) (Rect.unit (s := S8448x128) (k0_off10 w17 w18) S256x128.size inb).toLoadRect f4 = krows I.V (pos n) :=
    fun inb => (View.readAt_unit _ _ inb o10 (rows_inb (koff_le _))).trans (by rw [krows, hV])
  have L15 : ∀ inb, arg4.view.readAt (Elt F) (Rect.unit (s := S8448x128) (k0_off15 w15 w16) S256x128.size inb).toLoadRect f4 = krows I.V (pos (n + 1)) :=
    fun inb => (View.readAt_unit _ _ inb o15 (rows_inb (koff_le _))).trans (by rw [krows, hV])
  have L20 : ∀ inb, arg4.view.readAt (Elt F) (Rect.unit (s := S8448x128) (k0_off20 w13 w14) S256x128.size inb).toLoadRect f4 = krows I.V (pos (n + 2)) :=
    fun inb => (View.readAt_unit _ _ inb o20 (rows_inb (koff_le _))).trans (by rw [krows, hV])
  have L25 : ∀ inb, arg4.view.readAt (Elt F) (Rect.unit (s := S8448x128) (k0_off25 w13 w14) S256x128.size inb).toLoadRect f4 = krows I.V (pos (n + 3)) :=
    fun inb => (View.readAt_unit _ _ inb o25 (rows_inb (koff_le _))).trans (by rw [krows, hV])
  obtain ⟨tri, htri⟩ : ∃ tri, tri = TRI I := ⟨_, rfl⟩
  rw [← htri]
  unfold k0_t1_body
  iintro ⟨H1, H2, H3, H4, H7, H8, H9, H10, H11, Hk⟩
  sl_exec
  sl_step
  iapply Hk
  iexists _, _, _, _, _
  isplitl [H1]; · iexact H1
  isplitl [H2]; · iexact H2
  isplitl [H3]; · iexact H3
  isplitl [H4]; · iexact H4
  isplitl [H7]; · iexact H7
  isplitl [H8]; · iexact H8
  isplitl [H9]; · iexact H9
  isplitl [H10]; · iexact H10
  isplitl [H11]; · iexact H11
  ipureintro
  have w3a : trip.sl.v291 w13 w14 = wd (pos (n + 3)).1 := q2.1
  have w3b : trip.sl.v293 w13 w14 = wd (pos (n + 3)).2 := q2.2
  have w4a : trip.sl.v387 w13 w14 = wd (pos (n + 4)).1 :=
    (show _ = nw1 (trip.sl.v291 w13 w14) (trip.sl.v293 w13 w14) from rfl).trans (by rw [w3a, w3b]; exact q3.1)
  have w4b : trip.sl.v389 w13 w14 = wd (pos (n + 4)).2 :=
    (show _ = nw2 (trip.sl.v291 w13 w14) (trip.sl.v293 w13 w14) from rfl).trans (by rw [w3a, w3b]; exact q3.2)
  have w5a : trip.sl.v483 w13 w14 = wd (pos (n + 5)).1 :=
    (show _ = nw1 (trip.sl.v387 w13 w14) (trip.sl.v389 w13 w14) from rfl).trans (by rw [w4a, w4b]; exact q4.1)
  have w5b : trip.sl.v485 w13 w14 = wd (pos (n + 5)).2 :=
    (show _ = nw2 (trip.sl.v387 w13 w14) (trip.sl.v389 w13 w14) from rfl).trans (by rw [w4a, w4b]; exact q4.2)
  have w6a : trip.sl.v579 w13 w14 = wd (pos (n + 6)).1 :=
    (show _ = nw1 (trip.sl.v483 w13 w14) (trip.sl.v485 w13 w14) from rfl).trans (by rw [w5a, w5b]; exact q5.1)
  have w6b : trip.sl.v581 w13 w14 = wd (pos (n + 6)).2 :=
    (show _ = nw2 (trip.sl.v483 w13 w14) (trip.sl.v485 w13 w14) from rfl).trans (by rw [w5a, w5b]; exact q5.2)
  have e1r : trip.sl.v284 I n w18 r = (RA I (n + 1)).1 := by rw [hr, a18]; rfl
  have e1a : trip.sl.v277 I n w18 r acc = (RA I (n + 1)).2 := by rw [hr, hacc, a18]; rfl
  have d1 : trip.sl.v356 arg8 arg9 arg10 I n tri = D I (n + 1) := by
    delta trip.sl.v356 trip.sl.H10_2
    rw [rc_other (a := 0) (h := by decide), rc_same, htri]; rfl
  have s1 : trip.sl.v378 arg9 arg11 I n tri = RS I (n + 1) := by
    delta trip.sl.v378 trip.sl.H11_2
    rw [rc_other (a := 0) (h := by decide), rc_same, htri]; rfl
  have e2r : trip.sl.v380 arg9 arg11 I n w16 w18 r tri = (RA I (n + 2)).1 := by
    delta trip.sl.v380 trip.sl.v379 trip.sl.v353
    rw [e1r, s1, a16]; rfl
  have e2a : trip.sl.v373 arg8 arg9 arg10 I n w16 w18 r acc tri = (RA I (n + 2)).2 := by
    delta trip.sl.v373 trip.sl.v372 trip.sl.v371 trip.sl.v360 trip.sl.v359 trip.sl.v358 trip.sl.v357 trip.sl.v370 trip.sl.v355 trip.sl.v353
    rw [e1a, e1r, d1, a16]; rfl
  have d2 : trip.sl.v452 arg8 arg9 arg10 I n tri = D I (n + 2) := by
    delta trip.sl.v452 trip.sl.H10_3 trip.sl.H10_2
    rw [rc_other (a := 0) (h := by decide), rc_same]
    delta trip.sl.v346 trip.sl.v343 trip.sl.v342 trip.sl.v341 trip.sl.v340 trip.sl.v339 trip.sl.v338 trip.sl.H8_2 trip.sl.H9_2
    rw [rc_other (a := 0) (h := by decide), rc_same, rc_other (a := 0) (h := by decide), rc_same, htri]; rfl
  have s2 : trip.sl.v474 arg9 arg11 I n tri = RS I (n + 2) := by
    delta trip.sl.v474 trip.sl.H11_3 trip.sl.H11_2
    rw [rc_other (a := 0) (h := by decide), rc_same]
    delta trip.sl.v350 trip.sl.v347 trip.sl.v340 trip.sl.v339 trip.sl.v338 trip.sl.H9_2
    rw [rc_other (a := 0) (h := by decide), rc_same, htri]; rfl
  have e3r : trip.sl.v476 arg9 arg11 I n w14 w16 w18 r tri = (RA I (n + 3)).1 := by
    delta trip.sl.v476 trip.sl.v475 trip.sl.v449
    rw [e2r, s2, a14]; rfl
  have e3a : trip.sl.v469 arg8 arg9 arg10 arg11 I n w14 w16 w18 r acc tri = (RA I (n + 3)).2 := by
    delta trip.sl.v469 trip.sl.v468 trip.sl.v467 trip.sl.v456 trip.sl.v455 trip.sl.v454 trip.sl.v453 trip.sl.v466 trip.sl.v451 trip.sl.v449
    rw [e2a, e2r, d2, a14]; rfl
  have d3 : trip.sl.v548 arg8 arg9 arg10 I n tri = D I (n + 3) := by
    delta trip.sl.v548 trip.sl.H10_4 trip.sl.H10_3
    rw [rc_other (a := 0) (h := by decide), rc_same]
    delta trip.sl.v442 trip.sl.v439 trip.sl.v438 trip.sl.v437 trip.sl.r_3 trip.sl.v434 trip.sl.H8_3 trip.sl.H9_3 trip.sl.H8_2 trip.sl.H9_2
    rw [rc_other (a := 0) (h := by decide), rc_same, rc_other (a := 0) (h := by decide), rc_same, htri]; rfl
  have s3 : trip.sl.v570 arg9 arg11 I n tri = RS I (n + 3) := by
    delta trip.sl.v570 trip.sl.H11_4 trip.sl.H11_3
    rw [rc_other (a := 0) (h := by decide), rc_same]
    delta trip.sl.v446 trip.sl.v443 trip.sl.r_3 trip.sl.v434 trip.sl.H9_3 trip.sl.H9_2
    rw [rc_other (a := 0) (h := by decide), rc_same, htri]; rfl
  have e4r : trip.sl.v572 arg9 arg11 I n w13 w14 w16 w18 r tri = (RA I (n + 4)).1 := by
    delta trip.sl.v572 trip.sl.v571 trip.sl.v545 trip.sl.v543
    rw [w3b, e3r, s3]; rfl
  have e4a : trip.sl.v565 arg8 arg9 arg10 arg11 I n w13 w14 w16 w18 r acc tri = (RA I (n + 4)).2 := by
    delta trip.sl.v565 trip.sl.v564 trip.sl.v563 trip.sl.v552 trip.sl.v551 trip.sl.v550 trip.sl.v549 trip.sl.v562 trip.sl.v547 trip.sl.v545 trip.sl.v543
    rw [w3b, e3a, e3r, d3]; rfl
  constructor
  case z0 =>
    delta trip.sl.H8_4 trip.sl.H8_3
    rw [ws_other (a := 0) (h := by decide), ws_same]; rfl
  case z1 =>
    delta trip.sl.H8_4
    rw [ws_same]; rfl
  case s0 =>
    delta trip.sl.H9_4 trip.sl.H9_3
    rw [ws_other (a := 0) (h := by decide), ws_same]; rfl
  case s1 =>
    delta trip.sl.H9_4
    rw [ws_same]; rfl
  case d0 =>
    delta trip.sl.H10_4
    rw [ws_same]
    delta trip.sl.v530 trip.sl.v533 trip.sl.H9_4 trip.sl.H9_3 trip.sl.H8_4 trip.sl.H8_3
    rw [rc_other (a := 0) (h := by decide), rc_same, rc_other (a := 0) (h := by decide), rc_same, htri]; rfl
  case r0 =>
    delta trip.sl.H11_4
    rw [ws_same]
    delta trip.sl.v542 trip.sl.r_4 trip.sl.v530 trip.sl.H9_4 trip.sl.H9_3
    rw [rc_other (a := 0) (h := by decide), rc_same, htri]; rfl
  case a =>
    rw [w4a, w4b, w5a, w5b, w6a, w6b]
    rw [e4r, e4a]
  case out =>
    rw [View.read_writes_cons_put (h := o26), View.read_writes_cons_put (h := o21), View.read_writes_cons_put (h := o16),
      View.read_writes_cons_put (h := o11), View.writes_nil, hout, e4a, e3a, e2a, e1a]; rfl

end

end Cert.KernelIdeal.Attn

end
-- ==== Proof.Attn.Body.lean ====
module

public import proofs.«01_k».proof.Proof.Attn.Trip

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section

variable (c : Dev nD) (arg1 : Memref sig .tc .vmem S1x1x5x256x256 .f32) (harg1 : arg1.IsWhole) (arg2 : Memref sig .tc .vmem S8448x128 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S256x256 .bf16) (harg5 : arg5.IsWhole) (arg6 : Memref sig .tc .vmem S256x128 .f32) (harg6 : arg6.IsWhole) (arg7 : Memref sig .tc .vmem S8448x128 .f32) (harg7 : arg7.IsWhole) (arg8 : Memref sig .tc .vmem S2x256x256 .f32) (harg8 : arg8.IsWhole) (arg9 : Memref sig .tc .vmem S2x256x256 .bf16) (harg9 : arg9.IsWhole) (arg10 : Memref sig .tc .vmem S2x256x256 .f32) (harg10 : arg10.IsWhole) (arg11 : Memref sig .tc .vmem S2x256x1 .f32) (harg11 : arg11.IsWhole)
  (f1 : Bf (F := F) c arg1) (f2 : Bf (F := F) c arg2) (f3 : Bf (F := F) c arg3) (f4 : Bf (F := F) c arg4)
  (f5 : Bf (F := F) c arg5) (f6 : Bf (F := F) c arg6)

/-- The loop's invariant: before trip `k` the state is the stream's before position `4 * k`. -/
def inv (I : In F) (o : Vec F S8448x128 .f32) (k : ℕ) (a : Carry F) : sProp 𝕄 :=
  iprop(pt c arg1 f1 ∗ pt c arg2 f2 ∗ pt c arg3 f3 ∗ pt c arg4 f4
    ∗ (∃ f7 f8 f9 f10 f11, pt c arg7 f7 ∗ pt c arg8 f8 ∗ pt c arg9 f9 ∗ pt c arg10 f10 ∗ pt c arg11 f11
      ∗ ⌜St arg7 arg8 arg9 arg10 arg11 I o (4 * k) a f7 f8 f9 f10 f11⌝)
    ∗ ⌜k0_chk10 a.2.2.1⌝ ∗ ⌜k0_chk9 a.2.2.1 a.2.2.2.1⌝ ∗ ⌜k0_chk8 a.2.2.2.2.1⌝ ∗ ⌜k0_chk7 a.2.2.2.2.1 a.2.2.2.2.2.1⌝)

/-- The checks after the loop hold of the positions carried. -/
theorem St.chks {I : In F} {o : Vec F S8448x128 .f32} {n : ℕ} {a : Carry F} {f7 : Bf (F := F) c arg7} {f8 : Bf (F := F) c arg8} {f9 : Bf (F := F) c arg9} {f10 : Bf (F := F) c arg10} {f11 : Bf (F := F) c arg11}
    (h : St arg7 arg8 arg9 arg10 arg11 I o n a f7 f8 f9 f10 f11) (hn : n < 561) :
    k0_chk10 a.2.2.1 ∧ k0_chk9 a.2.2.1 a.2.2.2.1 ∧ k0_chk8 a.2.2.2.2.1 ∧ k0_chk7 a.2.2.2.2.1 a.2.2.2.2.2.1 := by
  rw [h.a]
  obtain ⟨-, -, -, -, -, h7, h8, -⟩ := own_pos n (by omega)
  obtain ⟨-, -, -, -, -, -, -, h9, h10, -⟩ := own_pos (n + 1) (by omega)
  exact ⟨h10, h9, h8, h7⟩

/-- The loop with its invariant. -/
def loopInv (i : grid0.Coords) (v8 v10 v118 v120 : BitVec 32) (v121 : FVec F S256x1 .f32) (v122 : FVec F S256x128 .f32) (c93 c94 c95 c96 : BitVec 32) (init : Carry F)
    (o : Vec F S8448x128 .f32) (I : In F) (tri : FVec F S256x256 .bf16) (htri : tri = TRI I)
    (hB : I.B = arg1.view.read (Elt F) f1) (hQ : I.Q = arg2.view.read (Elt F) f2) (hK : I.K = arg3.view.read (Elt F) f3) (hV : I.V = arg4.view.read (Elt F) f4) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 tri v8 v10 v118 v120 v121 v122 c93 c94 c95 c96 init where
  inv := inv c arg1 arg2 arg3 arg4 arg7 arg8 arg9 arg10 arg11 f1 f2 f3 f4 I o
  step k a := by
    subst htri
    unfold inv
    iintro ⟨H1, H2, H3, H4, ⟨%f7, %f8, %f9, %f10, %f11, H7, H8, H9, H10, H11, %hst⟩, -⟩
    iapply (trip c arg1 harg1 arg2 harg2 arg3 harg3 arg4 harg4 arg5 harg5 arg6 harg6 arg7 harg7 arg8 harg8 arg9 harg9 arg10 harg10 arg11 harg11 f1 f2 f3 f4 i v8 v10 v118 v120 v121 v122 c93 c94 c95 c96 k a o I (4 * k.val) rfl hB hQ hK hV f7 f8 f9 f10 f11 hst)
    isplitl [H1]; · iexact H1
    isplitl [H2]; · iexact H2
    isplitl [H3]; · iexact H3
    isplitl [H4]; · iexact H4
    isplitl [H7]; · iexact H7
    isplitl [H8]; · iexact H8
    isplitl [H9]; · iexact H9
    isplitl [H10]; · iexact H10
    isplitl [H11]; · iexact H11
    iintro %a ⟨%f7, %f8, %f9, %f10, %f11, H1, H2, H3, H4, H7, H8, H9, H10, H11, %hst⟩
    isplitl [H1]; · iexact H1
    isplitl [H2]; · iexact H2
    isplitl [H3]; · iexact H3
    isplitl [H4]; · iexact H4
    have hk : k.val < 140 := lt_of_lt_of_le k.isLt (by decide)
    obtain ⟨h10, h9, h8, h7⟩ := hst.chks _ _ _ _ _ _ (by omega)
    isplitl [H7 H8 H9 H10 H11]
    · iexists f7, f8, f9, f10, f11
      isplitl [H7]; · iexact H7
      isplitl [H8]; · iexact H8
      isplitl [H9]; · iexact H9
      isplitl [H10]; · iexact H10
      isplitl [H11]; · iexact H11
      ipureintro
      exact hst
    isplitr; · ipureintro; exact h10
    isplitr; · ipureintro; exact h9
    isplitr; · ipureintro; exact h8
    ipureintro; exact h7

/-- The output block the body leaves: the stream's, and below the rows that exist the fill. -/
def FIN (I : In F) (o : Vec F S8448x128 .f32) (fill : Vec F S256x128 .f32) : Vec F S8448x128 .f32 :=
  VecWindow.put (OUT I o 562) ![8208, 0] S240x128.size (k0_pay1 (VecWindow.window fill ![16, 0] S240x128.size inb_S256x128_S240x128_16_0))

set_option maxHeartbeats 4000000 in
/-- The whole body: run from any buffers, its output block is `FIN`. -/
theorem body (i : grid0.Coords) (f7 : Bf (F := F) c arg7) (f8 : Bf (F := F) c arg8) (f9 : Bf (F := F) c arg9) (f10 : Bf (F := F) c arg10) (f11 : Bf (F := F) c arg11) (Q : PUnit → sProp 𝕄)
    (I : In F) (hB : I.B = arg1.view.read (Elt F) f1) (hQ : I.Q = arg2.view.read (Elt F) f2) (hK : I.K = arg3.view.read (Elt F) f3) (hV : I.V = arg4.view.read (Elt F) f4)
    (hT : I.T = arg5.view.read (Elt F) f5) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11
      ∗ (∀ g7 g8 g9 g10 g11, pt c arg1 f1 ∗ pt c arg2 f2 ∗ pt c arg3 f3 ∗ pt c arg4 f4 ∗ pt c arg5 f5 ∗ pt c arg6 f6 ∗ pt c arg7 g7 ∗ pt c arg8 g8 ∗ pt c arg9 g9 ∗ pt c arg10 g10 ∗ pt c arg11 g11
          ∗ ⌜arg7.view.read (Elt F) g7 = FIN I (arg7.view.read (Elt F) f7) (arg6.view.read (Elt F) f6)⌝ -∗ Q ⟨⟩))
    ⊢ wp frame (wpE (defs₀ (F := F)) Variants.none (c : Thread nD τ) none) Set.univ (cc0_attn_prompt (F := F) i arg1 harg1 arg2 harg2 arg3 harg3 arg4 harg4 arg5 harg5 arg6 harg6 arg7 harg7 arg8 harg8 arg9 harg9 arg10 harg10 arg11 harg11) Q := by
  simp only [cc0_attn_prompt_eq_skeleton]; unfold cc0_attn_prompt_skel
  iintro ⟨H1, H2, H3, H4, H5, H6, H7, H8, H9, H10, H11, Hk⟩
  set_option sl_exec.stopBefore "k0_part16" in sl_exec_parts
  have htri : body.sl.v1 c arg5 f5 = TRI I := by
    delta body.sl.v1
    rw [TRI, hT]
    congr 1
    exact View.readAt_full arg5.view f5 _
  have hst : St arg7 arg8 arg9 arg10 arg11 I (arg7.view.read (Elt F) f7) (4 * 0) ((1#32, 0#32, 0#32, 1#32, 0#32, 0#32, body.sl.v121, body.sl.v122) : Carry F) f7
      (arg8.view.writes (Elt F) f8 (body.sl.H8_2 c arg1 arg2 arg3 f1 f2 f3)) (arg9.view.writes (Elt F) f9 (body.sl.H9_2 c arg1 arg2 arg3 f1 f2 f3))
      (arg10.view.writes (Elt F) f10 [⟨Rect.unit ![0, 0, 0] S1x256x256.size inb_S2x256x256_S1x256x256_0_0_0, body.sl.v107 c arg1 arg2 arg3 arg5 arg8 arg9 f1 f2 f3 f5⟩])
      (arg11.view.writes (Elt F) f11 [⟨Rect.unit ![0, 0, 0] S1x256x1.size inb_S2x256x1_S1x256x1_0_0_0, body.sl.v111 c arg1 arg2 arg3 arg5 arg9 f1 f2 f3 f5⟩]) := by
    have o1 : k0_off1 = ![qoff (pos 0), 0] := by decide
    have b1 : ∀ inb, arg2.view.readAt (Elt F) (Rect.unit (s := S8448x128) k0_off1 S256x128.size inb).toLoadRect f2 = qrows I.Q (pos 0) :=
      fun inb => (View.readAt_unit _ _ inb o1 (rows_inb (qoff_le _))).trans (by rw [qrows, hQ])
    have o2 : k0_off2 = ![koff (pos 0), 0] := by decide
    have b2 : ∀ inb, arg3.view.readAt (Elt F) (Rect.unit (s := S8448x128) k0_off2 S256x128.size inb).toLoadRect f3 = krows I.K (pos 0) :=
      fun inb => (View.readAt_unit _ _ inb o2 (rows_inb (koff_le _))).trans (by rw [krows, hK])
    have o3 : k0_off3 = ![0, 0, kind (pos 0), 0, 0] := by decide
    have b3 : ∀ inb, arg1.view.readAt (Elt F) (Rect.unit (s := S1x1x5x256x256) k0_off3 S1x1x1x256x256.size inb).toLoadRect f1 = btile I.B (pos 0) :=
      fun inb => (View.readAt_unit _ _ inb o3 (kind_inb (kind_le _))).trans (by rw [btile, hB])
    have o4 : k0_off4 = ![qoff (pos 1), 0] := by decide
    have b4 : ∀ inb, arg2.view.readAt (Elt F) (Rect.unit (s := S8448x128) k0_off4 S256x128.size inb).toLoadRect f2 = qrows I.Q (pos 1) :=
      fun inb => (View.readAt_unit _ _ inb o4 (rows_inb (qoff_le _))).trans (by rw [qrows, hQ])
    have o5 : k0_off5 = ![koff (pos 1), 0] := by decide
    have b5 : ∀ inb, arg3.view.readAt (Elt F) (Rect.unit (s := S8448x128) k0_off5 S256x128.size inb).toLoadRect f3 = krows I.K (pos 1) :=
      fun inb => (View.readAt_unit _ _ inb o5 (rows_inb (koff_le _))).trans (by rw [krows, hK])
    have o6 : k0_off6 = ![0, 0, kind (pos 1), 0, 0] := by decide
    have b6 : ∀ inb, arg1.view.readAt (Elt F) (Rect.unit (s := S1x1x5x256x256) k0_off6 S1x1x1x256x256.size inb).toLoadRect f1 = btile I.B (pos 1) :=
      fun inb => (View.readAt_unit _ _ inb o6 (kind_inb (kind_le _))).trans (by rw [btile, hB])
    constructor
    case z0 =>
      delta body.sl.H8_2 body.sl.H8_1 body.sl.v26 body.sl.v15 body.sl.v25
      rw [ws_other (a := 0) (h := by decide), ws_same, b1, b2, b3]; rfl
    case z1 =>
      delta body.sl.H8_2 body.sl.r
      rw [ws_same, b4, b5, b6]; rfl
    case s0 =>
      delta body.sl.H9_2 body.sl.H9_1 body.sl.v26 body.sl.v15 body.sl.v25
      rw [ws_other (a := 0) (h := by decide), ws_same, b1, b2, b3]; rfl
    case s1 =>
      delta body.sl.H9_2 body.sl.v98 body.sl.r_1 body.sl.r
      rw [ws_same, b4, b5, b6]; rfl
    case d0 =>
      rw [ws_same]
      delta body.sl.v107 body.sl.v104 body.sl.v103 body.sl.v102 body.sl.v101 body.sl.v100 body.sl.v99 body.sl.H8_2 body.sl.H9_2 body.sl.H8_1 body.sl.H9_1 body.sl.v26 body.sl.v15 body.sl.v25
      rw [rc_other (a := 0) (h := by decide), rc_same, rc_other (a := 0) (h := by decide), rc_same, b1, b2, b3, htri]; rfl
    case r0 =>
      rw [ws_same]
      delta body.sl.v111 body.sl.v108 body.sl.v101 body.sl.v100 body.sl.v99 body.sl.H9_2 body.sl.H9_1 body.sl.v26 body.sl.v15 body.sl.v25
      rw [rc_other (a := 0) (h := by decide), rc_same, b1, b2, b3, htri]; rfl
    case out => rfl
    case a => rfl
  generalize body.sl.v1 c arg5 f5 = tri at htri ⊢
  generalize (body.sl.v121 : FVec F S256x1 .f32) = r0 at hst ⊢
  generalize (body.sl.v122 : FVec F S256x128 .f32) = acc0 at hst ⊢
  generalize arg8.view.writes (Elt F) f8 _ = g8 at hst ⊢
  generalize arg9.view.writes (Elt F) f9 _ = g9 at hst ⊢
  generalize arg10.view.writes (Elt F) f10 _ = g10 at hst ⊢
  generalize arg11.view.writes (Elt F) f11 _ = g11 at hst ⊢
  obtain ⟨h10, h9, h8, h7⟩ := hst.chks _ _ _ _ _ _ (by omega)
  dsimp only at h10 h9 h8 h7
  let L := loopInv c arg1 harg1 arg2 harg2 arg3 harg3 arg4 harg4 arg5 harg5 arg6 harg6 arg7 harg7 arg8 harg8 arg9 harg9 arg10 harg10 arg11 harg11 f1 f2 f3 f4 i 0#32 1#32 1#32 0#32 r0 acc0 0#32 0#32 0#32 1#32 (1#32, 0#32, 0#32, 1#32, 0#32, 0#32, r0, acc0)
    (arg7.view.read (Elt F) f7) I tri htri hB hQ hK hV
  sl_exec
  sl_step
  rename_i acc
  have hn : 4 * Scf.trips k0_t1_loop.lb k0_t1_loop.ub k0_t1_loop.st = 560 := by decide
  rw [hn] at hL9
  obtain ⟨hz0, hz1, hs0, hs1, hd0, hr0, hout, ha⟩ := hL9
  clear L
  subst ha
  obtain ⟨-, -, -, -, -, -, -, -, -, -, -, -, -, -, -, -, -, -, o27, o28, -, -⟩ := own_pos 560 (by omega)
  obtain ⟨-, -, -, -, -, -, -, -, -, -, -, -, -, -, -, -, -, -, -, -, o29, o30⟩ := own_pos 561 (by omega)
  have L27 : ∀ inb, arg4.view.readAt (Elt F) (Rect.unit (s := S8448x128) (k0_off27 (wd (pos 560).1) (wd (pos 560).2)) S256x128.size inb).toLoadRect f4 = krows I.V (pos 560) :=
    fun inb => (View.readAt_unit _ _ inb o27 (rows_inb (koff_le _))).trans (by rw [krows, hV])
  have L29 : ∀ inb, arg4.view.readAt (Elt F) (Rect.unit (s := S8448x128) (k0_off29 (wd (pos 561).1) (wd (pos 561).2)) S256x128.size inb).toLoadRect f4 = krows I.V (pos 561) :=
    fun inb => (View.readAt_unit _ _ inb o29 (rows_inb (koff_le _))).trans (by rw [krows, hV])
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  ipureintro
  rw [View.read_writes_cons_put (h := rfl), View.read_writes_cons_put (h := o30), View.read_writes_cons_put (h := o28), View.writes_nil, hout]
  have e1 : body.sl.v160 c arg4 arg10 f4 (wd (pos (560 + 2)).1, wd (pos (560 + 2)).2, wd (pos (560 + 1)).1, wd (pos (560 + 1)).2, wd (pos 560).1, wd (pos 560).2, (RA I 560).1, (RA I 560).2) f10L3 hL13 = (RA I 561).2 := by
    delta body.sl.v160 body.sl.v159 body.sl.v158 body.sl.v157 body.sl.v156 body.sl.r_8 body.sl.v143 body.sl.r_4 body.sl.r_5 body.sl.r_7
    dsimp only
    rw [L27, hd0]; rfl
  have e0 : body.sl.v167 c arg11 (wd (pos (560 + 2)).1, wd (pos (560 + 2)).2, wd (pos (560 + 1)).1, wd (pos (560 + 1)).2, wd (pos 560).1, wd (pos 560).2, (RA I 560).1, (RA I 560).2) f11L4 = (RA I 561).1 := by
    delta body.sl.v167 body.sl.v166 body.sl.v165 body.sl.r_6
    rw [hr0]; rfl
  have e2 : body.sl.v190 c arg4 arg8 arg9 arg10 arg11 f4 tri (wd (pos (560 + 2)).1, wd (pos (560 + 2)).2, wd (pos (560 + 1)).1, wd (pos (560 + 1)).2, wd (pos 560).1, wd (pos 560).2, (RA I 560).1, (RA I 560).2) f8L1 f9L2 f10L3 f11L4 hL11 hL13 = (RA I 562).2 := by
    delta body.sl.v190 body.sl.v189 body.sl.v188 body.sl.v187 body.sl.v186 body.sl.v177 body.sl.v176 body.sl.v175 body.sl.v174 body.sl.v173 body.sl.v172 body.sl.v170 body.sl.H10_1
    rw [e1, e0, rc_same, hz1, hs1, htri]
    delta body.sl.r_2 body.sl.r_3
    dsimp only
    rw [L29]; rfl
  rw [e1, e2, View.readAt_unit (h := rfl)]
  rfl

end

end Cert.KernelIdeal.Attn

end
-- ==== Proof.Attn.Out.lean ====
module

public import proofs.«01_k».proof.Proof.Attn.Body
public import Idealize.ShloMosaic.Lib.ValueIdxCore
public import Idealize.ShloMosaic.Lib.Pipeline.Value

@[expose] public section

set_option maxRecDepth 16384

noncomputable section

namespace Cert.KernelIdeal.Attn

open Cert.KernelIdeal Cert.KernelIdeal.Gen
open Idealize.ShloMosaic

variable {F : FTy → Type} [FloatOps F] [Named F]

/-- The stream position of row block `b`'s last tile. -/
def last (b : ℕ) : ℕ := if b = 32 then 561 else (b + 1) * (b + 4) / 2 - 1

/-- It is a position of that row block. -/
theorem last_facts : ∀ b, b < 33 → last b < 562 ∧ (pos (last b)).1 = b := by
  have : ∀ b : Fin 33, last b < 562 ∧ (pos (last b)).1 = b := by decide +kernel
  exact fun b h => this ⟨b, h⟩

/-- And the last one. -/
theorem le_last : ∀ n, n < 562 → n ≤ last (pos n).1 := by
  have : ∀ n : Fin 562, n.val ≤ last (pos n).1 := by decide +kernel
  exact fun n h => this ⟨n, h⟩

/-- Once row block `b`'s last tile is past, its rows hold what that tile left. -/
theorem OUT_row (I : In F) (o : Vec F S8448x128 .f32) (b : ℕ) (hb : b < 33) (y : S8448x128.Idx) (h0 : 256 * b ≤ (y 0).val) (h1 : (y 0).val < 256 * b + 256) :
    ∀ n, n ≤ 562 → last b < n → OUT I o n y = (RA I (last b + 1)).2 (ValueIdx.ix2 ⟨(y 0).val - 256 * b, by omega⟩ (y 1))
  | 0, _, h => absurd h (Nat.not_lt_zero _)
  | n + 1, hn, h => by
    have hp := (pos_ok n (by omega)).1
    rw [OUT]
    unfold VecWindow.put
    by_cases e : last b = n
    · have hq : qoff (pos n) = 256 * b := by
        have := (last_facts b hb).2
        rw [e] at this
        rw [qoff, this]; omega
      have hc : ∀ a : Fin 2, (![qoff (pos n), 0] : Fin 2 → ℕ) a ≤ (y a).val ∧ (y a).val < (![qoff (pos n), 0] : Fin 2 → ℕ) a + S256x128.size a := by
        intro a
        match a with
        | 0 => exact ⟨by show qoff (pos n) ≤ _; omega, by show _ < qoff (pos n) + 256; omega⟩
        | 1 => exact ⟨Nat.zero_le _, by show _ < 0 + 128; have : (y 1).val < 128 := (y 1).isLt; omega⟩
      rw [dif_pos hc, e]
      refine congrArg _ (funext fun a => ?_)
      match a with
      | 0 => exact Fin.ext (by show (y 0).val - qoff (pos n) = _; rw [hq])
      | 1 => rfl
    · have hlt : last b < n := by omega
      have hl := le_last n (by omega)
      have hne : (pos n).1 ≠ b := fun hh => by rw [hh] at hl; omega
      rw [dif_neg]
      · exact OUT_row I o b hb y h0 h1 n (by omega) hlt
      · intro hall
        obtain ⟨u1, u2⟩ := hall 0
        replace u1 : qoff (pos n) ≤ (y 0).val := u1
        replace u2 : (y 0).val < qoff (pos n) + 256 := u2
        rw [qoff] at u1 u2
        omega

/-- The output block the body leaves, row by row: below row 8208 what the row block's last tile left, from there the fill. -/
def outv (I : In F) (fill : Vec F S256x128 .f32) : Vec F S8448x128 .f32 := fun y =>
  if h : 8208 ≤ (y 0).val then fill (ValueIdx.ix2 ⟨(y 0).val - 8208 + 16, by have : (y 0).val < 8448 := (y 0).isLt; omega⟩ (y 1))
  else (RA I (last ((y 0).val / 256) + 1)).2 (ValueIdx.ix2 ⟨(y 0).val % 256, Nat.mod_lt _ (by omega)⟩ (y 1))

/-- The body's output block does not depend on what the buffer held. -/
theorem FIN_eq (I : In F) (o : Vec F S8448x128 .f32) (fill : Vec F S256x128 .f32) : FIN I o fill = outv I fill := by
  funext y
  have hy : (y 0).val < 8448 := (y 0).isLt
  have hy1 : (y 1).val < 128 := (y 1).isLt
  unfold FIN VecWindow.put outv
  by_cases h : 8208 ≤ (y 0).val
  · have hc : ∀ a : Fin 2, (![8208, 0] : Fin 2 → ℕ) a ≤ (y a).val ∧ (y a).val < (![8208, 0] : Fin 2 → ℕ) a + S240x128.size a := by
      intro a
      match a with
      | 0 => exact ⟨h, by show _ < 8208 + 240; omega⟩
      | 1 => exact ⟨Nat.zero_le _, by show _ < 0 + 128; omega⟩
    rw [dif_pos hc, dif_pos h]
    unfold k0_pay1 VecWindow.window
    dsimp only
    rw [shapeCast_self]
    refine congrArg _ (funext fun a => ?_)
    match a with
    | 0 => exact Fin.ext (by show 16 + 1 * ((y 0).val - 8208) = (y 0).val - 8208 + 16; omega)
    | 1 => exact Fin.ext (by show 0 + 1 * ((y 1).val - 0) = (y 1).val; omega)
  · rw [dif_neg (fun hc => h (hc 0).1), dif_neg h]
    have hb : (y 0).val / 256 < 33 := by omega
    rw [OUT_row I o _ hb y (by omega) (by omega) 562 le_rfl (last_facts _ hb).1]
    refine congrArg _ (funext fun a => ?_)
    match a with
    | 0 => exact Fin.ext (by show (y 0).val - 256 * ((y 0).val / 256) = (y 0).val % 256; omega)
    | 1 => rfl

end Cert.KernelIdeal.Attn

end
-- ==== Proof.Attn.Run.lean ====
module

public import proofs.«01_k».proof.Proof.Attn.Out
public import Idealize.ShloMosaic.Lib.Claim

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The inputs of one grid point, from its blocks. -/
abbrev ins (x1 : Vec F S1x1x5x256x256 .f32) (x2 x3 x4 : Vec F S8448x128 .bf16) (x5 : Vec F S256x256 .bf16) : In F := ⟨x1, x2, x3, x4, x5⟩

/-- The body on whole buffers: the inputs stay, the output block is `outv` of them, the scratch buffers end at anything. -/
theorem sound_kernel (c : Dev nD) (i : grid0.Coords) (arg1 : Memref sig .tc .vmem S1x1x5x256x256 .f32) (harg1 : arg1.IsWhole) (arg2 : Memref sig .tc .vmem S8448x128 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S256x256 .bf16) (harg5 : arg5.IsWhole) (arg6 : Memref sig .tc .vmem S256x128 .f32) (harg6 : arg6.IsWhole) (arg7 : Memref sig .tc .vmem S8448x128 .f32) (harg7 : arg7.IsWhole) (arg8 : Memref sig .tc .vmem S2x256x256 .f32) (harg8 : arg8.IsWhole) (arg9 : Memref sig .tc .vmem S2x256x256 .bf16) (harg9 : arg9.IsWhole) (arg10 : Memref sig .tc .vmem S2x256x256 .f32) (harg10 : arg10.IsWhole) (arg11 : Memref sig .tc .vmem S2x256x1 .f32) (harg11 : arg11.IsWhole)
    (x1 : Vec F S1x1x5x256x256 .f32) (x2 x3 x4 : Vec F S8448x128 .bf16) (x5 : Vec F S256x256 .bf16) (x6 : Vec F S256x128 .f32) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (outv (ins x1 x2 x3 x4 x5) x6) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ Q ⟨⟩))
      ⊢ wp frame (wpE (defs₀ (F := F)) Variants.none (c : Thread nD τ) none) Set.univ (cc0_attn_prompt (F := F) i arg1 harg1 arg2 harg2 arg3 harg3 arg4 harg4 arg5 harg5 arg6 harg6 arg7 harg7 arg8 harg8 arg9 harg9 arg10 harg10 arg11 harg11) Q := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  subst hf1 hf2 hf3 hf4 hf5 hf6
  iapply (body c arg1 harg1 arg2 harg2 arg3 harg3 arg4 harg4 arg5 harg5 arg6 harg6 arg7 harg7 arg8 harg8 arg9 harg9 arg10 harg10 arg11 harg11 f1 f2 f3 f4 f5 f6 i f7 f8 f9 f10 f11 Q (ins (arg1.view.read (Elt F) f1) (arg2.view.read (Elt F) f2) (arg3.view.read (Elt F) f3) (arg4.view.read (Elt F) f4) (arg5.view.read (Elt F) f5)) rfl rfl rfl rfl rfl)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro %g7 %g8 %g9 %g10 %g11 ⟨H1, H2, H3, H4, H5, H6, H7, H8, H9, H10, H11, %ho⟩
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists g7; isplitr; · ipureintro; exact ho.trans (FIN_eq _ _ _)
    iexact H7
  isplitl [H8]
  · iexists _; iexists g8; isplitr; · ipureintro; rfl
    iexact H8
  isplitl [H9]
  · iexists _; iexists g9; isplitr; · ipureintro; rfl
    iexact H9
  isplitl [H10]
  · iexists _; iexists g10; isplitr; · ipureintro; rfl
    iexact H10
  iexists _; iexists g11; isplitr; · ipureintro; rfl
  iexact H11

/-! ## The pipeline's proof data -/

/-- What grid point `t` leaves in the output's buffer. -/
def outAt (c : Dev nD) (t : Fin cfg0.N) : Vec F S8448x128 .f32 :=
  outv (ins (iblk m c 0 t) (iblk m c 1 t) (iblk m c 2 t) (iblk m c 3 t) (iblk m c 4 t)) (iblk m c 5 t)

/-- The proof data: arrays as the region finds them, inputs left in place, the output at `outAt`; each input's share is what the
    windows on its array are dealt. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The scoped buffers and the generator register, buffer by buffer. -/
theorem Phi_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA
  rw [scopedRest0_eq]
  simp only [owns_whole]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, Phi_eq, outAt]
  iintro ⟨⟨⟨S0, S1, S2, S3⟩, Hr⟩, Ho, ⟨%d0, H0⟩, ⟨%d1, H1⟩, ⟨%d2, H2⟩, ⟨%d3, H3⟩, ⟨%d4, H4⟩, ⟨%d5, H5⟩, ⟨%d6, H6⟩⟩
  iapply (sound_kernel c (grid0.coords t) _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 Hr]
  · isplitr [Hr]
    · isplitl [S0]; · iexact S0
      isplitl [S1]; · iexact S1
      isplitl [S2]; · iexact S2
      iexact S3
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array at what the proof data compute, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun c w _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the argument arrays end unchanged and every counter ends at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Attn

end
-- ==== Proof.Attn.Bits.lean ====
module

public import proofs.«01_k».proof.Defs
public import proofs.«01_k».proof.Proof.Gen.Kernel
public import proofs.«01_k».proof.Proof.Attn.Run

@[expose] public section

set_option maxRecDepth 16384

noncomputable section

namespace Cert.Proof

open Idealize.ShloMosaic

/-- The float words with each named constant read as the word it replaces. -/
abbrev wordsNamed : Named Bits := ⟨fun _ _ {φ} w => Scalar.ofBits φ w⟩

attribute [local instance] wordsNamed

set_option maxHeartbeats 4000000 in
/-- The kernel's body is the ideal text's with the named constants at their words. -/
theorem body_eq : Cert.Kernel.cc0_attn_prompt (F := Bits) = Cert.KernelIdeal.cc0_attn_prompt (F := Bits) := rfl

set_option maxHeartbeats 4000000 in
/-- And so is its table of bodies, -/
theorem defs₀_eq : Cert.Kernel.defs₀ (F := Bits) = Cert.KernelIdeal.defs₀ (F := Bits) := by
  funext p l a
  match p, l, a with
  | .tc, ⟨0, _⟩, (t, s) =>
    show Cert.Kernel.cc0_attn_prompt (F := Bits) _ _ _ _ _ _ _ _ _ _ _ _ _ _ _ _ _ _ _ _ _ _ _ = Cert.KernelIdeal.cc0_attn_prompt (F := Bits) _ _ _ _ _ _ _ _ _ _ _ _ _ _ _ _ _ _ _ _ _ _ _
    rw [body_eq]; rfl
  | .tc, ⟨n + 1, h⟩, _ => exact absurd h (Nat.not_lt.2 (Nat.le_add_left _ _))
  | .scScalar _, _, _ => rfl
  | .scVector _ _, _, _ => rfl

set_option maxHeartbeats 4000000 in
/-- the table with the pipeline's own, -/
theorem defs_eq : Cert.Kernel.defs (F := Bits) = Cert.KernelIdeal.defs (F := Bits) := by
  show Pipeline.defs Cert.Kernel.pcfgs Cert.Kernel.defs₀ = Pipeline.defs Cert.KernelIdeal.pcfgs Cert.KernelIdeal.defs₀
  rw [defs₀_eq]; rfl

set_option maxHeartbeats 4000000 in
/-- and its main. -/
theorem main_eq : Cert.Kernel.main (F := Bits) = Cert.KernelIdeal.main (F := Bits) := rfl

set_option maxHeartbeats 4000000 in
/-- The kernel's frame: its text is the ideal one with the named constants at their words. -/
theorem frame_kernel : Cert.quiescent_Kernel := fun m ρ _ => by
  rw [defs_eq, main_eq]
  exact Cert.KernelIdeal.Attn.frame_holds (F := Bits) m ρ

end Cert.Proof

end
-- ==== Proof.Attn.Math.lean ====
/-
  The mathematics of stick breaking over the extended reals: the softplus in two spellings (the base e of the reference, the
  base two of the kernel), and the weight of a key in both.
-/
module

public import Idealize.ShloMosaic.PureOps.Ideal.Laws
public import Idealize.ShloMosaic.Lib.IdealHost

@[expose] public section

noncomputable section

namespace Cert.Stick

open Idealize.ShloMosaic

/-- The real 1 / ln 2. -/
def L : EReal := (((Real.log 2)⁻¹ : ℝ) : EReal)

theorem log2_pos : 0 < Real.log 2 := Real.log_pos (by norm_num)

theorem L_nonneg : 0 ≤ L := EReal.coe_nonneg.mpr (inv_nonneg.mpr log2_pos.le)

theorem L_ne_top : L ≠ ⊤ := EReal.coe_ne_top _

/-- The softplus as the reference has it. -/
def soft (z : EReal) : EReal := max z 0 + Ideal.log1p (Ideal.exp (-(max z (-z))))

/-- The softplus in the base two, of a logit in the base two, as the kernel has it. -/
def sp (y : EReal) : EReal := max (Ideal.log (1 + Ideal.exp2 y) * L) y

theorem soft_bot : soft ⊥ = 0 := by
  simp [soft, Ideal.log1p]
  rw [show (1 : EReal) = ((1 : ℝ) : EReal) from rfl, Ideal.log_coe]; simp

theorem soft_top : soft ⊤ = ⊤ := by
  simp [soft, Ideal.log1p]
  rw [show (1 : EReal) = ((1 : ℝ) : EReal) from rfl, Ideal.log_coe]; simp

/-- At a real logit the softplus is ln (1 + eʳ). -/
theorem soft_coe (r : ℝ) : soft (r : EReal) = ((Real.log (1 + Real.exp r) : ℝ) : EReal) := by
  have h1 : ∀ x : ℝ, (1 : EReal) + ((Real.exp x : ℝ) : EReal) = ((1 + Real.exp x : ℝ) : EReal) := fun x => by push_cast; rfl
  have hp : ∀ x : ℝ, ¬ (1 + Real.exp x) ≤ 0 := fun x => not_le.mpr (by positivity)
  unfold soft Ideal.log1p
  rcases le_total 0 r with h | h
  · rw [max_eq_left (by exact_mod_cast h), max_eq_left (by rw [← EReal.coe_neg]; exact_mod_cast (by linarith : -r ≤ r)),
      ← EReal.coe_neg, Ideal.exp_coe, h1, Ideal.log_coe, if_neg (hp _), ← EReal.coe_add]
    congr 1
    have : 1 + Real.exp r = Real.exp r * (1 + Real.exp (-r)) := by rw [mul_add, ← Real.exp_add]; simp [add_comm]
    rw [this, Real.log_mul (Real.exp_pos _).ne' (by positivity), Real.log_exp]
  · rw [max_eq_right (by exact_mod_cast h), max_eq_right (by rw [← EReal.coe_neg]; exact_mod_cast (by linarith : r ≤ -r)),
      neg_neg, Ideal.exp_coe, h1, Ideal.log_coe, if_neg (hp _), zero_add]

theorem soft_nonneg (z : EReal) : 0 ≤ soft z := by
  induction z using EReal.rec with
  | bot => rw [soft_bot]
  | top => rw [soft_top]; exact le_top
  | coe r => rw [soft_coe]; exact EReal.coe_nonneg.mpr (Real.log_nonneg (by linarith [Real.exp_pos r]))

theorem bot_mul_L : (⊥ : EReal) * L = ⊥ := EReal.bot_mul_coe_of_pos (inv_pos.mpr log2_pos)
theorem top_mul_L : (⊤ : EReal) * L = ⊤ := EReal.top_mul_coe_of_pos (inv_pos.mpr log2_pos)

theorem exp2_coe_L (r : ℝ) : Ideal.exp2 ((r : EReal) * L) = ((Real.exp r : ℝ) : EReal) := by
  rw [L, ← EReal.coe_mul, Ideal.exp2_coe]
  congr 1
  show (2 : ℝ) ^ (r * (Real.log 2)⁻¹) = _
  rw [Real.rpow_def_of_pos (by norm_num)]
  congr 1
  field_simp [log2_pos.ne']

theorem sp_bot : sp ⊥ = 0 := by
  unfold sp
  rw [Ideal.exp2_bot, add_zero, show (1 : EReal) = ((1 : ℝ) : EReal) from rfl, Ideal.log_coe]; simp

/-- The kernel's softplus is the reference's in the base two. -/
theorem sp_mul_L (z : EReal) : sp (z * L) = soft z * L := by
  induction z using EReal.rec with
  | bot => rw [bot_mul_L, sp_bot, soft_bot, zero_mul]
  | top => rw [top_mul_L, soft_top, top_mul_L, sp, max_eq_right le_top]
  | coe r =>
    rw [soft_coe, sp, exp2_coe_L, show (1 : EReal) + ((Real.exp r : ℝ) : EReal) = ((1 + Real.exp r : ℝ) : EReal) from by push_cast; rfl,
      Ideal.log_coe, if_neg (not_le.mpr (by positivity))]
    refine max_eq_left (mul_le_mul_of_nonneg_right (EReal.coe_le_coe_iff.mpr ?_) L_nonneg)
    rw [Real.le_log_iff_exp_le (by positivity)]; linarith

theorem sp_nonneg (y : EReal) : 0 ≤ sp y := by
  have h : y * ((Real.log 2 : ℝ) : EReal) * L = y := by
    rw [mul_assoc, L, ← EReal.coe_mul, mul_inv_cancel₀ log2_pos.ne', EReal.coe_one, mul_one]
  rw [← h, sp_mul_L]; exact mul_nonneg (soft_nonneg _) L_nonneg

/-- The weight of a key, both ways: 2 to its logit less all softplus from it on, in the base two; and e to its own log
    sigmoid plus the other keys' log of what they leave, summed as a running sum less the key's own term. -/
theorem weight (z S : EReal) (hS : 0 ≤ S) :
    Ideal.exp2 (z * L - (soft z + S) * L) = Ideal.exp (-soft (-z) + (-(soft z + S) - -soft z)) := by
  induction z using EReal.rec with
  | bot => rw [bot_mul_L, EReal.bot_sub, EReal.neg_bot, soft_top, EReal.neg_top, EReal.bot_add, Ideal.exp2_bot, Ideal.exp_bot]
  | top =>
    have hS' : S ≠ ⊥ := fun h => by rw [h] at hS; exact absurd hS (by simp)
    rw [soft_top, EReal.top_add_of_ne_bot hS', top_mul_L, EReal.sub_top, EReal.neg_top, EReal.bot_sub, EReal.add_bot, Ideal.exp2_bot, Ideal.exp_bot]
  | coe r =>
    rw [← EReal.coe_neg, soft_coe, soft_coe]
    set s := Real.log (1 + Real.exp r)
    induction S using EReal.rec with
    | bot => exact absurd hS (by simp)
    | top =>
      rw [EReal.coe_add_top, top_mul_L, EReal.sub_top, EReal.neg_top, EReal.bot_sub, EReal.add_bot, Ideal.exp2_bot, Ideal.exp_bot]
    | coe x =>
      have e : Real.log (1 + Real.exp (-r)) = s - r := by
        have : 1 + Real.exp r = Real.exp r * (1 + Real.exp (-r)) := by rw [mul_add, ← Real.exp_add]; simp [add_comm]
        show _ = Real.log (1 + Real.exp r) - r
        rw [this, Real.log_mul (Real.exp_pos _).ne' (by positivity), Real.log_exp]; ring
      rw [e, show (r : EReal) * L - ((s : EReal) + (x : EReal)) * L = ((r - (s + x) : ℝ) : EReal) * L from by
        rw [L]; norm_cast; ring, exp2_coe_L,
        show -((s - r : ℝ) : EReal) + (-((s : EReal) + (x : EReal)) - -(s : EReal)) = ((r - (s + x) : ℝ) : EReal) from by norm_cast; ring,
        Ideal.exp_coe]

theorem ne_bot_of_nonneg {x : EReal} (h : 0 ≤ x) : x ≠ ⊥ := fun e => by rw [e] at h; exact absurd h (by simp)

/-- Two nonnegative terms taken off one after the other are taken off together. -/
theorem sub_sub_nonneg (x y r : EReal) (hy : 0 ≤ y) (hr : 0 ≤ r) : x - y - r = x - (y + r) := by
  rw [sub_eq_add_neg, sub_eq_add_neg, sub_eq_add_neg, EReal.neg_add (Or.inl (ne_bot_of_nonneg hy)) (Or.inr (ne_bot_of_nonneg hr)),
    sub_eq_add_neg, add_assoc]

/-- A sum times 1 / ln 2, term by term. -/
theorem sum_mul_L {ι : Type} (s : Finset ι) (f : ι → EReal) : (∑ i ∈ s, f i) * L = ∑ i ∈ s, f i * L := by
  classical
  induction s using Finset.induction with
  | empty => simp
  | insert a s h ih =>
    rw [Finset.sum_insert h, Finset.sum_insert h, EReal.right_distrib_of_nonneg_of_ne_top L_nonneg L_ne_top, ih]

/-- A sum of nonnegatives negated, term by term. -/
theorem neg_sum_nonneg {ι : Type} (s : Finset ι) (f : ι → EReal) (h : ∀ i, 0 ≤ f i) : -(∑ i ∈ s, f i) = ∑ i ∈ s, -f i := by
  classical
  induction s using Finset.induction with
  | empty => simp
  | insert a s ha ih =>
    rw [Finset.sum_insert ha, Finset.sum_insert ha,
      EReal.neg_add (Or.inl (ne_bot_of_nonneg (h a))) (Or.inr (ne_bot_of_nonneg (Finset.sum_nonneg fun i _ => h i))), sub_eq_add_neg, ih]

end Cert.Stick

end
-- ==== Proof.Attn.Tile.lean ====
/-
  One stream position at the ideal instance: what the sum carried and the weighted values carried become, row by row, in
  terms of the position's tile of logits.
-/
module

public import proofs.«01_k».proof.Proof.Attn.Stage
public import proofs.«01_k».proof.Proof.Attn.Math
public import Idealize.ShloMosaic.Lib.Pointwise
public import Idealize.ShloMosaic.Lib.ValueIdx

@[expose] public section

noncomputable section

namespace Cert.KernelIdeal.Attn

open Cert.KernelIdeal Cert.KernelIdeal.Gen Cert.Stick
open Idealize.ShloMosaic

variable (I : In Ideal)

/-- The logit of row `p` and column `c` of the tile at stream position `n`, in the base two. -/
def LG (n : ℕ) (p c : Fin 256) : EReal :=
  ∑ k : Fin 128, I.Q (ix2 (⟨qoff (pos n) + p.val, by have := qoff_le (pos n); omega⟩ : Fin 8448) k) * I.K (ix2 (⟨koff (pos n) + c.val, by have := koff_le (pos n); omega⟩ : Fin 8448) k)
    + I.B (ix5 0 0 (⟨kind (pos n), by have := kind_le (pos n); omega⟩ : Fin 5) p c)

theorem pay2_eq (n : ℕ) (p c : Fin 256) :
    k0_pay2 (F := Ideal) (qrows I.Q (pos n)) (krows I.K (pos n)) (btile I.B (pos n)) (ix2 p c) = LG I n p c := by
  pointwise [k0_pay2]
  unfold LG
  refine congrArg₂ (· + ·) (Finset.sum_congr rfl fun k _ => congrArg₂ (· * ·) ?_ ?_) ?_
  · refine congrArg I.Q (funext fun a => ?_)
    match a with
    | 0 => exact Fin.ext (by show qoff (pos n) + 1 * p.val = _; rw [one_mul]; rfl)
    | 1 => exact Fin.ext (by show 0 + 1 * k.val = k.val; omega)
  · refine congrArg I.K (funext fun a => ?_)
    match a with
    | 0 => exact Fin.ext (by show koff (pos n) + 1 * c.val = _; rw [one_mul]; rfl)
    | 1 => exact Fin.ext (by show 0 + 1 * k.val = k.val; omega)
  · refine congrArg I.B (funext fun a => ?_)
    match a with
    | 0 => rfl
    | 1 => rfl
    | 2 => exact Fin.ext (by show kind (pos n) + 1 * 0 = kind (pos n); omega)
    | 3 => exact Fin.ext (by show 0 + 1 * p.val = p.val; omega)
    | 4 => exact Fin.ext (by show 0 + 1 * c.val = c.val; omega)

theorem cap_eq : Named.named (F := Ideal) κ "cap" (φ := .f32) 0x42FC0000#32 = (⊤ : EReal) :=
  IdealRules.named_const.ideal_named_scalar _ _ _ _ rfl

theorem log2e_eq : Named.named (F := Ideal) κ "log2e" (φ := .f32) 0x3FB8AA3B#32 = L :=
  IdealRules.named_const.ideal_named_scalar _ _ _ _ rfl

theorem SP_eq (n : ℕ) (p c : Fin 256) : SP I n (ix3 0 p c) = sp (LG I n p c) := by
  unfold SP
  pointwise [k0_pay6, k0_pay3, k0_pay4]
  rw [cap_eq, log2e_eq, min_eq_left le_top]
  unfold sp
  rw [← pay2_eq]
  rfl

theorem Z_eq (n : ℕ) (p c : Fin 256) : Z I n (ix3 0 p c) = LG I n p c := by
  unfold Z
  pointwise [k0_pay5]
  exact pay2_eq I n p c

theorem tri_sum (hT : ∀ a b : Fin 256, I.T (ix2 a b) = if b ≤ a then (1 : EReal) else 0) (n : ℕ) (p c : Fin 256) :
    ∑ k : Fin 256, SP I n (ix3 0 p k) * TRI I (ix2 k c) = ∑ k : Fin 256, if c ≤ k then sp (LG I n p k) else 0 := by
  refine Finset.sum_congr rfl fun k _ => ?_
  rw [SP_eq, TRI, shapeCast_self, hT]
  split <;> simp

theorem D_eq (hT : ∀ a b : Fin 256, I.T (ix2 a b) = if b ≤ a then (1 : EReal) else 0) (n : ℕ) (p c : Fin 256) :
    D I n (ix3 0 p c) = LG I n p c - ∑ k : Fin 256, if c ≤ k then sp (LG I n p k) else 0 := by
  rw [← tri_sum I hT, ← Z_eq]
  unfold D
  pointwise [k0_pay8, k0_pay7]

theorem wd_eq {j : ℕ} (hj : j < 100) : (Scalar.cmpi .eq (wd j) 0#32 = 1) ↔ j = 0 := by
  have : ∀ j : Fin 100, (Scalar.cmpi .eq (wd j.val) 0#32 = 1) ↔ j.val = 0 := by decide +kernel
  exact this ⟨j, hj⟩

theorem pay10_eq {j : ℕ} (hj : j < 100) (r : FVec Ideal S256x1 .f32) (x : S256x1.Idx) :
    k0_pay10 (F := Ideal) (wd j) r x = if j = 0 then (0 : EReal) else r x := by
  unfold k0_pay10 Scalar.select
  by_cases h : j = 0
  · rw [if_pos ((wd_eq hj).mpr h), if_pos h]; exact Ideal.ofBits_zero_f32
  · rw [if_neg (fun e => h ((wd_eq hj).mp e)), if_neg h]

theorem pay11_eq {j : ℕ} (hj : j < 100) (r : FVec Ideal S256x128 .f32) (x : S256x128.Idx) :
    k0_pay11 (F := Ideal) (wd j) r x = if j = 0 then (0 : EReal) else r x := by
  unfold k0_pay11 Scalar.select
  by_cases h : j = 0
  · rw [if_pos ((wd_eq hj).mpr h), if_pos h]; exact Ideal.ofBits_zero_f32
  · rw [if_neg (fun e => h ((wd_eq hj).mp e)), if_neg h]

/-- The sum carried after a position: the one carried before, or zero at a row block's first tile, and the tile's softplus. -/
theorem RA_sum (hT : ∀ a b : Fin 256, I.T (ix2 a b) = if b ≤ a then (1 : EReal) else 0) (n : ℕ) (hj : (pos n).2 < 100) (p : Fin 256) :
    (RA I (n + 1)).1 (ix2 p 0) = (if (pos n).2 = 0 then (0 : EReal) else (RA I n).1 (ix2 p 0)) + ∑ c : Fin 256, sp (LG I n p c) := by
  rw [← pay10_eq hj]
  show k0_pay13 (F := Ideal) (k0_pay10 (F := Ideal) (wd (pos n).2) (RA I n).1) (RS I n) (ix2 p 0) = _
  unfold RS
  pointwise [k0_pay13, k0_pay9, k0_pay7]
  congr 1
  refine (tri_sum I hT n p 0).trans (Finset.sum_congr rfl fun k _ => if_pos (Fin.zero_le _))

/-- The weighted values after a position: those before, or zero at a row block's first tile, and the tile's values weighted. -/
theorem RA_acc (hT : ∀ a b : Fin 256, I.T (ix2 a b) = if b ≤ a then (1 : EReal) else 0) (n : ℕ) (hj : (pos n).2 < 100) (p : Fin 256) (d : Fin 128) :
    (RA I (n + 1)).2 (ix2 p d) = (if (pos n).2 = 0 then (0 : EReal) else (RA I n).2 (ix2 p d))
      + ∑ c : Fin 256, Ideal.exp2 (LG I n p c - (∑ k : Fin 256, if c ≤ k then sp (LG I n p k) else 0) - (if (pos n).2 = 0 then (0 : EReal) else (RA I n).1 (ix2 p 0)))
          * I.V (ix2 (⟨koff (pos n) + c.val, by have := koff_le (pos n); omega⟩ : Fin 8448) d) := by
  rw [← pay10_eq hj, ← pay11_eq hj]
  show k0_pay12 (F := Ideal) (k0_pay10 (F := Ideal) (wd (pos n).2) (RA I n).1) (k0_pay11 (F := Ideal) (wd (pos n).2) (RA I n).2) (D I n) (krows I.V (pos n)) (ix2 p d) = _
  pointwise [k0_pay12]
  congr 1
  refine Finset.sum_congr rfl fun c _ => congrArg₂ (· * ·) ?_ ?_
  · rw [D_eq I hT]; rfl
  · refine congrArg I.V (funext fun a => ?_)
    match a with
    | 0 => exact Fin.ext (by show koff (pos n) + 1 * c.val = _; rw [one_mul]; rfl)
    | 1 => exact Fin.ext (by show 0 + 1 * d.val = d.val; omega)

end Cert.KernelIdeal.Attn

end
-- ==== Proof.Attn.Spec.lean ====
/-
  Stick-breaking attention by position, as both programs compute it.
-/
module

public import proofs.«01_k».proof.Proof.Attn.Math
public import Idealize.ShloMosaic.Lib.Pointwise

@[expose] public section

noncomputable section

namespace Cert.Stick

open Idealize.ShloMosaic Finset

/-- The attention of position `t` over the earlier positions, of logits `z` and values `v`: each value weighted by 2 to its
    logit less all softplus from it on, in the base two. -/
def att (t : ℕ) (z v : ℕ → EReal) : EReal := ∑ s ∈ range t, Ideal.exp2 (z s * L - (∑ s' ∈ Ico s t, soft (z s')) * L) * v s

/-- The position a row of the arrays holds. -/
def rp (y : ℕ) : ℕ := if y < 8192 then y + 16 else y - 8192

/-- The logits of head `h`, by query position and key position. -/
def logits (q k : FVec Ideal ⟨3, ![8208, 8, 128]⟩ .f32) (b : FVec Ideal ⟨1, ![8]⟩ .f32) (h : Fin 8) (t s : ℕ) : EReal :=
  if H : t < 8208 ∧ s < 8208 then
    (∑ x : Fin 128, q (ix3 (⟨t, H.1⟩ : Fin 8208) h x) * k (ix3 (⟨s, H.2⟩ : Fin 8208) h x)) * Ideal.ofBits .f32 0x3DB504F3#32 + b (ix1 h)
  else 0

/-- The values of head `h`, by key position. -/
def vals (v : FVec Ideal ⟨3, ![8208, 8, 128]⟩ .f32) (h : Fin 8) (s : ℕ) (d : Fin 128) : EReal :=
  if H : s < 8208 then v (ix3 (⟨s, H⟩ : Fin 8208) h d) else 0

/-- The result's row `t` and column `y`: the attention of the row's position, or zero past the last. -/
def out (q k v : FVec Ideal ⟨3, ![8208, 8, 128]⟩ .f32) (b : FVec Ideal ⟨1, ![8]⟩ .f32) (t : Fin 8448) (y : Fin 1024) : EReal :=
  if t.val < 8208 then att (rp t.val) (logits q k b ⟨y.val / 128, by omega⟩ (rp t.val)) (fun s => vals v ⟨y.val / 128, by omega⟩ s ⟨y.val % 128, by omega⟩)
  else 0

end Cert.Stick

end
-- ==== Proof.Attn.Fold.lean ====
/-
  The fold over a row block's key tiles, at the ideal instance: after its last tile a row holds the stick-breaking attention of
  its position.
-/
module

public import proofs.«01_k».proof.Proof.Attn.Tile
public import proofs.«01_k».proof.Proof.Attn.Spec
public import proofs.«01_k».proof.Proof.Attn.Out

@[expose] public section

noncomputable section

namespace Cert.Stick

open Idealize.ShloMosaic Finset

/-- The logits of position `t` in the base two, the masked ones at minus infinity. -/
def masked (t : ℕ) (z : ℕ → EReal) (s : ℕ) : EReal := if s < t then z s * L else ⊥

/-- The softplus of positions `a` to `e`. -/
def rsum (M : ℕ → EReal) (a e : ℕ) : EReal := ∑ s ∈ Ico a e, sp (M s)

/-- The weighted values of positions `a` to `e`. -/
def asum (M v : ℕ → EReal) (a e : ℕ) : EReal := ∑ s ∈ Ico a e, Ideal.exp2 (M s - rsum M s e) * v s

theorem rsum_nonneg (M : ℕ → EReal) (a e : ℕ) : 0 ≤ rsum M a e := Finset.sum_nonneg fun _ _ => sp_nonneg _

/-- A sum over a tile's columns of which the first `n` count is one over positions. -/
theorem tile_sum (g : ℕ → EReal) (a n : ℕ) (hn : n ≤ 256) : (∑ c : Fin 256, if c.val < n then g (a + c.val) else 0) = ∑ s ∈ Ico a (a + n), g s := by
  rw [Fin.sum_univ_eq_sum_range (fun c => if c < n then g (a + c) else 0) 256, Finset.sum_Ico_eq_sum_range, Nat.add_sub_cancel_left,
    ← Finset.sum_filter]
  refine Finset.sum_congr (Finset.ext fun x => ?_) fun _ _ => rfl
  simp only [Finset.mem_filter, Finset.mem_range]; omega

section Step

variable {M v : ℕ → EReal} {a n e : ℕ} (hn : n ≤ 256) (he : a + n ≤ e) {z w : Fin 256 → EReal}
  (hz : ∀ c : Fin 256, z c = if c.val < n then M (a + c.val) else ⊥) (hw : ∀ c : Fin 256, c.val < n → w c = v (a + c.val))

include hn hz

theorem tile_sp : ∑ c : Fin 256, sp (z c) = rsum M a (a + n) := by
  rw [rsum, ← tile_sum _ _ _ hn]
  refine Finset.sum_congr rfl fun c _ => ?_
  rw [hz]; split; · rfl
  exact sp_bot

theorem tile_tail (c : Fin 256) (hc : c.val < n) : (∑ k : Fin 256, if c ≤ k then sp (z k) else 0) = rsum M (a + c.val) (a + n) := by
  have : (∑ k : Fin 256, if c ≤ k then sp (z k) else 0) = ∑ k : Fin 256, if k.val < n then (if a + c.val ≤ a + k.val then sp (M (a + k.val)) else 0) else 0 := by
    refine Finset.sum_congr rfl fun k _ => ?_
    rw [hz]
    by_cases h : k.val < n
    · rw [if_pos h, if_pos h]
      by_cases h' : c ≤ k
      · rw [if_pos h', if_pos (Nat.add_le_add_left h' a)]
      · rw [if_neg h', if_neg (fun e => h' (Nat.le_of_add_le_add_left e))]
    · rw [if_neg h, if_neg h, sp_bot, ite_self]
  rw [this, tile_sum (fun s => if a + c.val ≤ s then sp (M s) else 0) _ _ hn, ← Finset.sum_filter, rsum]
  refine Finset.sum_congr (Finset.ext fun x => ?_) fun _ _ => rfl
  simp only [Finset.mem_filter, Finset.mem_Ico]; omega

include he

/-- One tile more: the softplus. -/
theorem rsum_step : rsum M (a + n) e + ∑ c : Fin 256, sp (z c) = rsum M a e := by
  rw [tile_sp hn hz, add_comm]
  exact Finset.sum_Ico_consecutive _ (Nat.le_add_right _ _) he

include hw

/-- One tile more: the weighted values. -/
theorem asum_step : asum M v (a + n) e + ∑ c : Fin 256, Ideal.exp2 (z c - (∑ k : Fin 256, if c ≤ k then sp (z k) else 0) - rsum M (a + n) e) * w c = asum M v a e := by
  have : (∑ c : Fin 256, Ideal.exp2 (z c - (∑ k : Fin 256, if c ≤ k then sp (z k) else 0) - rsum M (a + n) e) * w c)
      = ∑ s ∈ Ico a (a + n), Ideal.exp2 (M s - rsum M s e) * v s := by
    rw [← tile_sum (fun s => Ideal.exp2 (M s - rsum M s e) * v s) _ _ hn]
    refine Finset.sum_congr rfl fun c _ => ?_
    by_cases h : c.val < n
    · rw [tile_tail hn hz c h, hz, if_pos h, if_pos h, hw c h, sub_sub_nonneg _ _ _ (rsum_nonneg _ _ _) (rsum_nonneg _ _ _)]
      congr 3
      exact Finset.sum_Ico_consecutive _ (by omega) he
    · rw [hz, if_neg h, if_neg h, EReal.bot_sub, EReal.bot_sub, Ideal.exp2_bot, zero_mul]
  rw [this, add_comm]
  exact Finset.sum_Ico_consecutive _ (Nat.le_add_right _ _) he

end Step

/-- All tiles together are the attention. -/
theorem asum_att (t e : ℕ) (h : t ≤ e) (z v : ℕ → EReal) : asum (masked t z) v 0 e = att t z v := by
  have hr : ∀ s, s < t → rsum (masked t z) s e = (∑ s' ∈ Ico s t, soft (z s')) * L := fun s hs => by
    rw [rsum, ← Finset.sum_Ico_consecutive _ hs.le h, sum_mul_L]
    rw [Finset.sum_congr (g := fun _ => (0 : EReal)) (s₁ := Ico t e) rfl fun x hx => by
      rw [masked, if_neg (by rw [Finset.mem_Ico] at hx; omega), sp_bot], Finset.sum_const_zero, add_zero]
    exact Finset.sum_congr rfl fun x hx => by rw [masked, if_pos (Finset.mem_Ico.mp hx).2, sp_mul_L]
  rw [asum, att, ← Finset.sum_Ico_consecutive _ (Nat.zero_le t) h]
  rw [Finset.sum_congr (g := fun _ => (0 : EReal)) (s₁ := Ico t e) rfl fun x hx => by
      rw [masked, if_neg (by rw [Finset.mem_Ico] at hx; omega), EReal.bot_sub, Ideal.exp2_bot, zero_mul], Finset.sum_const_zero, add_zero,
    ← Nat.Ico_zero_eq_range]
  exact Finset.sum_congr rfl fun x hx => by
    have := (Finset.mem_Ico.mp hx).2
    rw [hr x this, masked, if_pos this]

end Cert.Stick

namespace Cert.KernelIdeal.Attn

open Cert.KernelIdeal Cert.KernelIdeal.Gen Cert.Stick
open Idealize.ShloMosaic

/-- The first position of the key tile at a stream position. -/
def st (p : ℕ × ℕ) : ℕ := if p.1 < 32 ∧ p.2 ≤ p.1 then 256 * (p.1 - p.2) + 16 else 0

/-- How many of the tile's columns count. -/
def ef (p : ℕ × ℕ) : ℕ := if p.1 = 32 then (if p.2 = 0 then 16 else 0) else if p.2 ≤ p.1 then 256 else 16

/-- Where a row block's positions end. -/
def en (i : ℕ) : ℕ := if i = 32 then 16 else 256 * (i + 1) + 16

/-- The position of a row of a row block. -/
def tp (i p : ℕ) : ℕ := if i = 32 then p else 16 + 256 * i + p

/-- Whether a bias tile keeps an entry. -/
def kp (κ p c : ℕ) : Prop := κ = 0 ∨ (κ = 1 ∧ c < p) ∨ (κ = 2 ∧ c < 16) ∨ (κ = 3 ∧ c < 16 ∧ c < p)

instance (κ p c : ℕ) : Decidable (kp κ p c) := inferInstanceAs (Decidable (_ ∨ _))

/-- What the inputs of a grid point hold: the logits of its head in the base two, masked; its values; the triangle. -/
structure Holds (I : In Ideal) (z : ℕ → ℕ → EReal) (v : ℕ → Fin 128 → EReal) : Prop where
  T : ∀ a b : Fin 256, I.T (ix2 a b) = if b ≤ a then (1 : EReal) else 0
  B : ∃ β : EReal, (∀ (κ : Fin 5) (p c : Fin 256), I.B (ix5 0 0 κ p c) = if kp κ.val p.val c.val then β else ⊥)
    ∧ ∀ y ρ : Fin 8448, y.val < 8208 → ρ.val < 8208 → ∑ k : Fin 128, I.Q (ix2 y k) * I.K (ix2 ρ k) + β = z (rp y.val) (rp ρ.val) * L
  V : ∀ (ρ : Fin 8448) (d : Fin 128), ρ.val < 8208 → I.V (ix2 ρ d) = v (rp ρ.val) d

variable {I : In Ideal} {z : ℕ → ℕ → EReal} {v : ℕ → Fin 128 → EReal} (H : Holds I z v)

theorem pos_facts : ∀ n, n < 562 → (pos n).2 < 100 ∧ st (pos n) + ef (pos n) ≤ en (pos n).1
    ∧ ((pos n).2 = 0 → st (pos n) + ef (pos n) = en (pos n).1) := by
  have : ∀ n : Fin 562, (pos n).2 < 100 ∧ st (pos n) + ef (pos n) ≤ en (pos n).1
    ∧ ((pos n).2 = 0 → st (pos n) + ef (pos n) = en (pos n).1) := by decide +kernel
  exact fun n h => this ⟨n, h⟩

theorem pos_succ : ∀ n, n + 1 < 562 → (pos (n + 1)).2 ≠ 0 → (pos (n + 1)).1 = (pos n).1 ∧ st (pos (n + 1)) + ef (pos (n + 1)) = st (pos n) := by
  have : ∀ n : Fin 561, (pos (n + 1)).2 ≠ 0 → (pos (n + 1)).1 = (pos n).1 ∧ st (pos (n + 1)) + ef (pos (n + 1)) = st (pos n) := by decide +kernel
  exact fun n h => this ⟨n, by omega⟩

theorem ef_le (p : ℕ × ℕ) : ef p ≤ 256 := by unfold ef; (repeat' split) <;> omega

/-- The four sorts of stream position, in numbers. -/
theorem sorts (q : ℕ × ℕ) (h : Ok q) :
    (q.1 = 32 ∧ kind q = 3 ∧ ef q = 16 ∧ st q = 0 ∧ qoff q = 8192 ∧ koff q = 8192)
    ∨ (q.1 = 32 ∧ kind q = 4 ∧ ef q = 0)
    ∨ (q.1 < 32 ∧ kind q = 1 ∧ ef q = 256 ∧ st q = 256 * q.1 + 16 ∧ qoff q = 256 * q.1 ∧ koff q = 256 * q.1)
    ∨ (q.1 < 32 ∧ kind q = 0 ∧ ef q = 256 ∧ (∃ r, r < q.1 ∧ st q = 256 * r + 16 ∧ qoff q = 256 * q.1 ∧ koff q = 256 * r))
    ∨ (q.1 < 32 ∧ kind q = 2 ∧ ef q = 16 ∧ st q = 0 ∧ qoff q = 256 * q.1 ∧ koff q = 8192) := by
  obtain ⟨i, j⟩ := q
  obtain ⟨o1, o2⟩ := h
  dsimp only at *
  unfold cnt at o2
  unfold kind ef st qoff koff
  dsimp only
  by_cases hi : i = 32
  · subst hi
    by_cases hj : j = 0
    · left; subst hj; simp
    · right; left; simp [hj]
  · have hi2 : i < 32 := by omega
    rw [if_neg hi] at o2
    have hm : min (256 * i) 8192 = 256 * i := by omega
    by_cases hj : j = 0
    · right; right; left; subst hj; simp [hi, hi2, hm]
    · by_cases hji : j ≤ i
      · right; right; right; left
        refine ⟨hi2, by simp [hi, hj, hji], by simp [hi, hji], i - j, by omega, ?_, hm, ?_⟩ <;> simp [hi2, hji]
      · right; right; right; right
        simp [hi, hi2, hj, hji, hm]

include H

/-- The logits of a tile are the masked logits of its positions. -/
theorem LG_eq (n : ℕ) (hn : n < 562) (p c : Fin 256) (hp : (pos n).1 = 32 → p.val < 16) :
    LG I n p c = if c.val < ef (pos n) then masked (tp (pos n).1 p.val) (z (tp (pos n).1 p.val)) (st (pos n) + c.val) else ⊥ := by
  obtain ⟨β, hB, hZ⟩ := H.B
  have hpc := p.isLt
  have hcc := c.isLt
  obtain ⟨o1, o2⟩ := pos_ok n hn
  have hk4 := kind_le (pos n)
  unfold LG
  rw [hB]
  dsimp only
  by_cases hk : kp (kind (pos n)) p.val c.val
  · rw [if_pos hk]
    have key : c.val < ef (pos n) ∧ st (pos n) + c.val < tp (pos n).1 p.val ∧ rp (qoff (pos n) + p.val) = tp (pos n).1 p.val
        ∧ rp (koff (pos n) + c.val) = st (pos n) + c.val ∧ qoff (pos n) + p.val < 8208 ∧ koff (pos n) + c.val < 8208 := by
      unfold kp at hk
      unfold tp rp
      rcases sorts _ (pos_ok n hn) with ⟨e0, e1, e2, e3, e4, e5⟩ | ⟨e0, e1, e2⟩ | ⟨e0, e1, e2, e3, e4, e5⟩ | ⟨e0, e1, e2, r, hr, e3, e4, e5⟩ | ⟨e0, e1, e2, e3, e4, e5⟩
      · have := hp e0
        rw [e1] at hk; rw [e2, e3, e4, e5, if_pos e0, if_neg (by omega), if_neg (by omega)]; omega
      · rw [e1] at hk; omega
      · rw [e1] at hk; rw [e2, e3, e4, e5, if_neg (by omega), if_pos (by omega), if_pos (by omega)]; omega
      · rw [e1] at hk; rw [e2, e3, e4, e5, if_neg (by omega), if_pos (by omega), if_pos (by omega)]; omega
      · rw [e1] at hk; rw [e2, e3, e4, e5, if_neg (by omega), if_pos (by omega), if_neg (by omega)]; omega
    obtain ⟨k1, k2, k3, k4, k5, k6⟩ := key
    rw [hZ _ _ k5 k6, if_pos k1, masked, if_pos k2, k3, k4]
  · rw [if_neg hk, EReal.add_bot]
    by_cases hc : c.val < ef (pos n)
    · rw [if_pos hc, masked, if_neg]
      intro hlt
      refine hk ?_
      unfold kp
      unfold tp at hlt
      rcases sorts _ (pos_ok n hn) with ⟨e0, e1, e2, e3, e4, e5⟩ | ⟨e0, e1, e2⟩ | ⟨e0, e1, e2, e3, e4, e5⟩ | ⟨e0, e1, e2, r, hr, e3, e4, e5⟩ | ⟨e0, e1, e2, e3, e4, e5⟩
      · rw [if_pos e0] at hlt; omega
      · omega
      · rw [if_neg (by omega)] at hlt; omega
      · omega
      · omega
    · rw [if_neg hc]

/-- The values of a tile's counting columns are those of its positions. -/
theorem V_eq (n : ℕ) (hn : n < 562) (c : Fin 256) (d : Fin 128) (hc : c.val < ef (pos n)) :
    I.V (ix2 (⟨koff (pos n) + c.val, by have := koff_le (pos n); omega⟩ : Fin 8448) d) = v (st (pos n) + c.val) d := by
  have hcc := c.isLt
  obtain ⟨o1, o2⟩ := pos_ok n hn
  have key : rp (koff (pos n) + c.val) = st (pos n) + c.val ∧ koff (pos n) + c.val < 8208 := by
    unfold rp
    rcases sorts _ (pos_ok n hn) with ⟨e0, e1, e2, e3, e4, e5⟩ | ⟨e0, e1, e2⟩ | ⟨e0, e1, e2, e3, e4, e5⟩ | ⟨e0, e1, e2, r, hr, e3, e4, e5⟩ | ⟨e0, e1, e2, e3, e4, e5⟩
    · rw [e3, e5, if_neg (by omega)]; omega
    · omega
    · rw [e3, e5, if_pos (by omega)]; omega
    · rw [e3, e5, if_pos (by omega)]; omega
    · rw [e3, e5, if_neg (by omega)]; omega
  rw [H.V _ _ key.2]
  dsimp only
  rw [key.1]

/-- After each stream position a row carries the softplus and the weighted values of the positions met so far. -/
theorem RA_inv (p : Fin 256) (d : Fin 128) : ∀ n, n < 562 → ((pos n).1 = 32 → p.val < 16) →
    (RA I (n + 1)).1 (ix2 p 0) = rsum (masked (tp (pos n).1 p.val) (z (tp (pos n).1 p.val))) (st (pos n)) (en (pos n).1)
    ∧ (RA I (n + 1)).2 (ix2 p d) = asum (masked (tp (pos n).1 p.val) (z (tp (pos n).1 p.val))) (fun s => v s d) (st (pos n)) (en (pos n).1) := by
  intro n hn hp
  obtain ⟨f1, f2, f3⟩ := pos_facts n hn
  have hpre : (if (pos n).2 = 0 then (0 : EReal) else (RA I n).1 (ix2 p 0)) = rsum (masked (tp (pos n).1 p.val) (z (tp (pos n).1 p.val))) (st (pos n) + ef (pos n)) (en (pos n).1)
      ∧ (if (pos n).2 = 0 then (0 : EReal) else (RA I n).2 (ix2 p d)) = asum (masked (tp (pos n).1 p.val) (z (tp (pos n).1 p.val))) (fun s => v s d) (st (pos n) + ef (pos n)) (en (pos n).1) := by
    by_cases h : (pos n).2 = 0
    · rw [if_pos h, if_pos h, f3 h, rsum, asum, Finset.Ico_self, Finset.sum_empty, Finset.sum_empty]; exact ⟨rfl, rfl⟩
    · rw [if_neg h, if_neg h]
      match n, hn, hp, h with
      | 0, _, _, h => exact absurd rfl h
      | n + 1, hn, hp, h =>
        obtain ⟨g1, g2⟩ := pos_succ n hn h
        rw [g1, g2]
        exact RA_inv p d n (by omega) (g1 ▸ hp)
  have hz := fun c => LG_eq H n hn p c hp
  constructor
  · rw [RA_sum I H.T n f1, hpre.1]
    exact rsum_step (ef_le _) f2 hz
  · rw [RA_acc I H.T n f1, hpre.1, hpre.2]
    exact asum_step (ef_le _) f2 hz (fun c hc => V_eq H n hn c d hc)
termination_by n => n

omit H in
theorem last_st : ∀ b, b < 33 → st (pos (last b)) = 0 := by
  have : ∀ b : Fin 33, st (pos (last b)) = 0 := by decide +kernel
  exact fun b h => this ⟨b, h⟩

/-- After row block `b`'s last tile row `p` holds the attention of its position. -/
theorem RA_att (b : ℕ) (hb : b < 33) (p : Fin 256) (d : Fin 128) (hp : b = 32 → p.val < 16) :
    (RA I (last b + 1)).2 (ix2 p d) = att (tp b p.val) (z (tp b p.val)) fun s => v s d := by
  obtain ⟨l1, l2⟩ := last_facts b hb
  rw [(RA_inv H p d (last b) l1 (l2.symm ▸ hp)).2, l2, last_st b hb]
  refine asum_att _ _ ?_ _ _
  have := p.isLt
  unfold tp en
  split <;> rename_i h
  · have := hp h; omega
  · omega

end Cert.KernelIdeal.Attn

end
-- ==== Proof.Attn.Host.lean ====
/-
  What the call's windows hold at a grid point, in terms of the arguments.
-/
module

public import proofs.«01_k».proof.Proof.Attn.Run
public import proofs.«01_k».proof.Proof.Attn.Fold
public import Idealize.ShloMosaic.Lib.Pipeline.ValueKit
public import Idealize.ShloMosaic.Lib.Claim
public import Idealize.ShloMosaic.Lib.StableHlo.ReadAt

@[expose] public section

noncomputable section

namespace Cert.KernelIdeal.Attn

open Cert.KernelIdeal Cert.KernelIdeal.Gen Cert.Stick
open Idealize.ShloMosaic Idealize.ShloMosaic.TcCoe Idealize.SL.Sem

variable (m : (ℓ : Loc nD τ sig) → Buf (Elt Ideal) ℓ) (c : Dev nD)

/-- The arguments' arrays. -/
abbrev aq : FVec Ideal S8208x8x128 .f32 := m ((c : Thread nD τ).loc main_arg0)
abbrev ak : FVec Ideal S8208x8x128 .f32 := m ((c : Thread nD τ).loc main_arg1)
abbrev av : FVec Ideal S8208x8x128 .f32 := m ((c : Thread nD τ).loc main_arg2)
abbrev ab : FVec Ideal S8 .f32 := m ((c : Thread nD τ).loc main_arg3)

/-- An argument's rows in the call's order. -/
def rowsK (a : FVec Ideal S8208x8x128 .f32) : FVec Ideal S8448x1024 .f32 :=
  concatenate S8448x1024 0 [⟨S8192x1024, extractStridedSlice S8192x1024 ![16, 0] (shapeCast S8208x1024 a shapeCasts_S8208x8x128_S8208x1024) slices_S8208x1024_S8192x1024_16_0⟩,
    ⟨S16x1024, extractStridedSlice S16x1024 ![0, 0] (shapeCast S8208x1024 a shapeCasts_S8208x8x128_S8208x1024) slices_S8208x1024_S16x1024_0_0⟩,
    ⟨S240x1024, broadcastInDim S240x1024 ![] bcast_S_S240x1024 (constant S_ .f32 0x00000000#32)⟩] concatenates_S8192x1024_S16x1024_S240x1024_S8448x1024_d0

/-- The natural logarithm of two. -/
def ln2 : FVec Ideal S_ .f32 := Host.log (constant S_ .f32 0x40000000#32)

/-- The queries' rows, scaled. -/
def qK (a : FVec Ideal S8208x8x128 .f32) : FVec Ideal S8448x1024 .bf16 :=
  truncf .bf16 (Host.divf (mulf (rowsK a) (broadcastInDim S8448x1024 ![] bcast_S_S8448x1024 (constant S_ .f32 0x3DB504F3#32)))
    (broadcastInDim S8448x1024 ![] bcast_S_S8448x1024 ln2)) bitsLt_bf16_f32

/-- Queries, keys and values side by side. -/
def projK : FVec Ideal S8448x3072 .bf16 :=
  concatenate S8448x3072 1 [⟨S8448x1024, qK (aq m c)⟩, ⟨S8448x1024, truncf .bf16 (rowsK (ak m c)) bitsLt_bf16_f32⟩, ⟨S8448x1024, truncf .bf16 (rowsK (av m c)) bitsLt_bf16_f32⟩]
    concatenates_S8448x1024_S8448x1024_S8448x1024_S8448x3072_d1

def rowI : IVec S256x256 32 := broadcastInDim S256x256 ![0] bcast_S256_S256x256_0 (iotaInDim S256 32 0)
def colI : IVec S256x256 32 := broadcastInDim S256x256 ![1] bcast_S256_S256x256_1 (iotaInDim S256 32 0)
def numI (n : BitVec 32) : IVec S256x256 32 := broadcastInDim S256x256 ![] bcast_S_S256x256 (constantI S_ 32 n)
def lead (x : IVec S256x256 1) : IVec S1x256x256 1 := broadcastInDim S1x256x256 ![1, 2] bcast_S256x256_S1x256x256_1_2 x

/-- The five masks. -/
def keepK : IVec S5x256x256 1 :=
  concatenate S5x256x256 0 [⟨S1x256x256, lead (cmpi .sge rowI (numI 0#32))⟩, ⟨S1x256x256, lead (cmpi .slt colI rowI)⟩, ⟨S1x256x256, lead (cmpi .slt colI (numI 16#32))⟩,
    ⟨S1x256x256, lead (andi (cmpi .slt colI (numI 16#32)) (cmpi .slt colI rowI))⟩, ⟨S1x256x256, lead (cmpi .slt rowI (numI 0#32))⟩]
    concatenates_S1x256x256_S1x256x256_S1x256x256_S1x256x256_S1x256x256_S5x256x256_d0

/-- The bias in the base two. -/
def biasK (b : FVec Ideal S8 .f32) : FVec Ideal S1x8x1x1x1 .f32 :=
  broadcastInDim S1x8x1x1x1 ![0, 1] bcast_S1x8_S1x8x1x1x1_0_1 (Host.divf (broadcastInDim S1x8 ![1] bcast_S8_S1x8_1 b) (broadcastInDim S1x8 ![] bcast_S_S1x8 ln2))

/-- The bias tiles. -/
def tilesK (b : FVec Ideal S8 .f32) : FVec Ideal S1x8x5x256x256 .f32 :=
  select (broadcastInDim S1x8x5x256x256 ![0, 1, 2, 3, 4] bcast_S1x1x5x256x256_S1x8x5x256x256_0_1_2_3_4 (broadcastInDim S1x1x5x256x256 ![2, 3, 4] bcast_S5x256x256_S1x1x5x256x256_2_3_4 keepK))
    (broadcastInDim S1x8x5x256x256 ![0, 1, 2, 3, 4] bcast_S1x8x1x1x1_S1x8x5x256x256_0_1_2_3_4 (biasK b))
    (broadcastInDim S1x8x5x256x256 ![] bcast_S_S1x8x5x256x256 (id (constant S_ .f32 0xFF800000#32)))

/-- The triangle. -/
def triK : FVec Ideal S256x256 .bf16 := uitofp .bf16 (cmpi .sge
        (broadcastInDim S256x256 ![0, 1] bcast_S256x1_S256x256_0_1 (broadcastInDim S256x1 ![0] bcast_S256_S256x1_0 (iotaInDim S256 32 0)))
        (broadcastInDim S256x256 ![0, 1] bcast_S1x256_S256x256_0_1 (broadcastInDim S1x256 ![1] bcast_S256_S1x256_1 (iotaInDim S256 32 0))))

/-- The fill. -/
def fillK : FVec Ideal S256x1024 .f32 := broadcastInDim S256x1024 ![] bcast_S_S256x1024 (constant S_ .f32 0x00000000#32)

theorem V_tri : (V m c main_v30 : FVec Ideal S256x256 .bf16) = triK := by
  unfold V
  rw [List.flatten_cons, List.flatten_cons, List.flatten_cons, List.flatten_nil, List.append_nil]
  after_reads_simp
  rfl

theorem V_proj : (V m c main_v23 : FVec Ideal S8448x3072 .bf16) = projK m c := by
  unfold V
  rw [List.flatten_cons, List.flatten_cons, List.flatten_cons, List.flatten_nil, List.append_nil]
  after_reads_simp
  rfl

/-- The five masks' reads. -/
theorem mask0 : StableHlo.upto (hostOps0 ++ (hostOps0_1 ++ hostOps0_2)) (fun b => m (c, b)) 61
      (Proc.tc.devRef (![main_v47, main_v48, main_v49, main_v50, main_v51] 0)) = (lead (cmpi .sge rowI (numI 0#32)) : IVec S1x256x256 1) := by
  show StableHlo.upto (hostOps0 ++ (hostOps0_1 ++ hostOps0_2)) (fun b => m (c, b)) 61 (Proc.tc.devRef main_v47) = _
  after_reads_simp
  rfl

theorem mask1 : StableHlo.upto (hostOps0 ++ (hostOps0_1 ++ hostOps0_2)) (fun b => m (c, b)) 61
      (Proc.tc.devRef (![main_v47, main_v48, main_v49, main_v50, main_v51] 1)) = (lead (cmpi .slt colI rowI) : IVec S1x256x256 1) := by
  show StableHlo.upto (hostOps0 ++ (hostOps0_1 ++ hostOps0_2)) (fun b => m (c, b)) 61 (Proc.tc.devRef main_v48) = _
  after_reads_simp
  rfl

theorem mask2 : StableHlo.upto (hostOps0 ++ (hostOps0_1 ++ hostOps0_2)) (fun b => m (c, b)) 61
      (Proc.tc.devRef (![main_v47, main_v48, main_v49, main_v50, main_v51] 2)) = (lead (cmpi .slt colI (numI 16#32)) : IVec S1x256x256 1) := by
  show StableHlo.upto (hostOps0 ++ (hostOps0_1 ++ hostOps0_2)) (fun b => m (c, b)) 61 (Proc.tc.devRef main_v49) = _
  after_reads_simp
  rfl

theorem mask3 : StableHlo.upto (hostOps0 ++ (hostOps0_1 ++ hostOps0_2)) (fun b => m (c, b)) 61
      (Proc.tc.devRef (![main_v47, main_v48, main_v49, main_v50, main_v51] 3)) = (lead (andi (cmpi .slt colI (numI 16#32)) (cmpi .slt colI rowI)) : IVec S1x256x256 1) := by
  show StableHlo.upto (hostOps0 ++ (hostOps0_1 ++ hostOps0_2)) (fun b => m (c, b)) 61 (Proc.tc.devRef main_v50) = _
  after_reads_simp
  rfl

theorem mask4 : StableHlo.upto (hostOps0 ++ (hostOps0_1 ++ hostOps0_2)) (fun b => m (c, b)) 61
      (Proc.tc.devRef (![main_v47, main_v48, main_v49, main_v50, main_v51] 4)) = (lead (cmpi .slt rowI (numI 0#32)) : IVec S1x256x256 1) := by
  show StableHlo.upto (hostOps0 ++ (hostOps0_1 ++ hostOps0_2)) (fun b => m (c, b)) 61 (Proc.tc.devRef main_v51) = _
  after_reads_simp
  rfl

theorem V_bias : (V m c main_v55 : FVec Ideal S1x8x5x256x256 .f32) = tilesK (ab m c) := by
  unfold V
  rw [List.flatten_cons, List.flatten_cons, List.flatten_cons, List.flatten_nil, List.append_nil]
  after_reads_simp
  rw [mask0 m c, mask1 m c, mask2 m c, mask3 m c, mask4 m c]
  rfl

theorem V_fill : (V m c main_v56 : FVec Ideal S256x1024 .f32) = fillK := by
  unfold V
  rw [List.flatten_cons, List.flatten_cons, List.flatten_cons, List.flatten_nil, List.append_nil]
  after_reads_simp
  rfl

/-- Two, of its bits. -/
theorem two_bits : Ideal.ofBits .f32 0x40000000#32 = ((2 : ℝ) : EReal) := by
  simp [Ideal.ofBits, Ideal.ieee, -EReal.coe_mul]; norm_num

/-- The scale of the logits, of its bits. -/
theorem scale_bits : Ideal.ofBits .f32 0x3DB504F3#32 = ((11863283 / 134217728 : ℝ) : EReal) := by
  simp [Ideal.ofBits, Ideal.ieee, -EReal.coe_mul]; norm_num

/-- Minus infinity, of its bits. -/
theorem bot_bits : Ideal.ofBits .f32 0xFF800000#32 = ⊥ := by
  simp [Ideal.ofBits, Ideal.ieee]

theorem ln2_apply : ln2 ix0 = ((Real.log 2 : ℝ) : EReal) := by
  show Ideal.log (Ideal.ofBits .f32 0x40000000#32) = _
  rw [two_bits, Ideal.log_coe, if_neg (by norm_num)]

/-- Dividing by the logarithm of two is multiplying by its inverse. -/
theorem div_ln2 (x : EReal) : Ideal.div x (ln2 ix0) = x * L := by
  rw [ln2_apply, Ideal.div_coe log2_pos.ne', L, one_div]

set_option maxRecDepth 100000 in
theorem rowsK_apply (a : FVec Ideal S8208x8x128 .f32) (t : Fin 8448) (y : Fin 1024) (h : t.val < 8208) :
    rowsK a (ix2 t y) = a (ix3 ⟨rp t.val, by unfold rp; split <;> omega⟩ ⟨y.val / 128, by omega⟩ ⟨y.val % 128, by omega⟩) := by
  unfold rowsK
  pointwise
  unfold rp
  by_cases h1 : t.val < 8192
  · rw [dif_pos h1]
    refine congrArg a (congrArg (ix3 · _ _) (Fin.ext ?_))
    show 16 + t.val = if t.val < 8192 then t.val + 16 else _
    rw [if_pos h1, add_comm]
  · rw [dif_neg h1, dif_pos (by omega)]
    refine congrArg a (congrArg (ix3 · _ _) (Fin.ext ?_))
    show _ = if t.val < 8192 then t.val + 16 else _
    rw [if_neg h1]

theorem qK_apply (a : FVec Ideal S8208x8x128 .f32) (t : Fin 8448) (y : Fin 1024) :
    qK a (ix2 t y) = rowsK a (ix2 t y) * Ideal.ofBits .f32 0x3DB504F3#32 * L := by
  unfold qK
  pointwise
  exact div_ln2 _

theorem cmp_lt (a b : Fin 256) : IntOp.cmpi .slt (BitVec.ofNat 32 a.val) (BitVec.ofNat 32 b.val) = BitVec.ofBool (decide (a.val < b.val)) := by
  have ha := a.isLt
  have hb := b.isLt
  unfold IntOp.cmpi
  congr 1
  show BitVec.slt _ _ = _
  rw [BitVec.slt_eq_decide, BitVec.toInt_ofNat', BitVec.toInt_ofNat']
  congr 1
  have e : ∀ n : ℕ, n < 256 → ((n : ℕ) : ℤ).bmod (2 ^ 32) = n := fun n hn => by
    rw [Int.bmod_eq_of_le] <;> omega
  rw [e _ ha, e _ hb, Nat.cast_lt]

theorem cmp_ge (a b : Fin 256) : IntOp.cmpi .sge (BitVec.ofNat 32 a.val) (BitVec.ofNat 32 b.val) = BitVec.ofBool (decide (b.val ≤ a.val)) := by
  have ha := a.isLt
  have hb := b.isLt
  unfold IntOp.cmpi
  congr 1
  show BitVec.sle _ _ = _
  rw [BitVec.sle_eq_decide, BitVec.toInt_ofNat', BitVec.toInt_ofNat']
  congr 1
  have e : ∀ n : ℕ, n < 256 → ((n : ℕ) : ℤ).bmod (2 ^ 32) = n := fun n hn => by
    rw [Int.bmod_eq_of_le] <;> omega
  rw [e _ ha, e _ hb, Nat.cast_le]

theorem ofBool_and (a b : Bool) : IntOp.andi (BitVec.ofBool a) (BitVec.ofBool b) = BitVec.ofBool (a && b) := by
  cases a <;> cases b <;> rfl

theorem keepK_apply (k : Fin 5) (p q : Fin 256) : keepK (ix3 k p q) = BitVec.ofBool (decide (kp k.val p.val q.val)) := by
  unfold keepK lead rowI colI numI
  pointwise
  rw [cmp_lt q p, show (0#32 : BitVec 32) = BitVec.ofNat 32 (0 : Fin 256).val from rfl, show (16#32 : BitVec 32) = BitVec.ofNat 32 (16 : Fin 256).val from rfl,
    cmp_lt q 16, cmp_ge p 0, cmp_lt p 0, ofBool_and]
  have h16 : (16 : Fin 256).val = 16 := rfl
  have h0 : (0 : Fin 256).val = 0 := rfl
  rw [h16, h0]
  unfold kp
  match k with
  | 0 => simp
  | 1 => simp
  | 2 => simp
  | 3 => simp
  | 4 => simp

theorem tilesK_apply (b : FVec Ideal S8 .f32) (h : Fin 8) (k : Fin 5) (p q : Fin 256) : tilesK b (ix5 0 h k p q) = if kp k.val p.val q.val then b (ix1 h) * L else ⊥ := by
  unfold tilesK biasK
  pointwise
  rw [keepK_apply, div_ln2]
  unfold Scalar.select
  by_cases hk : kp k.val p.val q.val
  · rw [if_pos hk, decide_eq_true hk]; rfl
  · rw [if_neg hk, decide_eq_false hk]; exact bot_bits

theorem idx : ∀ t : Fin cfg0.N, win0_0.index t = ![0, t.val, 0, 0, 0] ∧ win0_1.index t = ![0, t.val] ∧ win0_2.index t = ![0, 8 + t.val] ∧ win0_3.index t = ![0, 16 + t.val]
    ∧ win0_4.index t = ![0, 0] ∧ win0_5.index t = ![0, t.val] ∧ win0_6.index t = ![0, t.val] :=
  (by decide +kernel : ∀ t : Fin grid0.N, _)

theorem lt8 (t : Fin cfg0.N) : t.val < 8 := t.isLt

theorem blk0 (t : Fin cfg0.N) (k : Fin 5) (p q : Fin 256) : (iblk m c 0 t : FVec Ideal S1x1x5x256x256 .f32) (ix5 0 0 k p q) = tilesK (ab m c) (ix5 0 ⟨t.val, lt8 t⟩ k p q) := by
  rw [← V_bias]
  blk_ext [iblk, idx t]
theorem blk1 (t : Fin cfg0.N) (y : Fin 8448) (k : Fin 128) : (iblk m c 1 t : FVec Ideal S8448x128 .bf16) (ix2 y k) = projK m c (ix2 y ⟨128 * t.val + k.val, by have := lt8 t; omega⟩) := by
  rw [← V_proj]
  blk_ext [iblk, idx t]
theorem blk2 (t : Fin cfg0.N) (y : Fin 8448) (k : Fin 128) : (iblk m c 2 t : FVec Ideal S8448x128 .bf16) (ix2 y k) = projK m c (ix2 y ⟨128 * (8 + t.val) + k.val, by have := lt8 t; omega⟩) := by
  rw [← V_proj]
  blk_ext [iblk, idx t]
theorem blk3 (t : Fin cfg0.N) (y : Fin 8448) (k : Fin 128) : (iblk m c 3 t : FVec Ideal S8448x128 .bf16) (ix2 y k) = projK m c (ix2 y ⟨128 * (16 + t.val) + k.val, by have := lt8 t; omega⟩) := by
  rw [← V_proj]
  blk_ext [iblk, idx t]
theorem blk4 (t : Fin cfg0.N) (a b : Fin 256) : (iblk m c 4 t : FVec Ideal S256x256 .bf16) (ix2 a b) = (V m c main_v30 : FVec Ideal S256x256 .bf16) (ix2 a b) := by
  blk_ext [iblk, idx t]
theorem blk5 (t : Fin cfg0.N) (a : Fin 256) (b : Fin 128) : (iblk m c 5 t : FVec Ideal S256x128 .f32) (ix2 a b) = (V m c main_v56 : FVec Ideal S256x1024 .f32) (ix2 a ⟨128 * t.val + b.val, by have := lt8 t; omega⟩) := by
  blk_ext [iblk, idx t]

theorem tri_blk (t : Fin cfg0.N) (a b : Fin 256) : (iblk m c 4 t : FVec Ideal S256x256 .bf16) (ix2 a b) = if b ≤ a then (1 : EReal) else 0 := by
  rw [blk4, V_tri]
  unfold triK
  pointwise
  rw [cmp_ge a b]
  by_cases h : b ≤ a
  · rw [if_pos h, decide_eq_true (Fin.le_def.mp h)]
    show (((BitVec.ofBool true).toNat : ℝ) : EReal) = 1
    simp
  · rw [if_neg h, decide_eq_false (fun e => h (Fin.le_def.mpr e))]
    show (((BitVec.ofBool false).toNat : ℝ) : EReal) = 0
    simp

theorem fill_blk (t : Fin cfg0.N) (a : Fin 256) (b : Fin 128) : (iblk m c 5 t : FVec Ideal S256x128 .f32) (ix2 a b) = (0 : EReal) := by
  rw [blk5, V_fill]
  exact Ideal.ofBits_zero_f32

theorem projK_q (t : Fin 8448) (h : Fin 8) (k : Fin 128) (hy : 128 * h.val + k.val < 3072) :
    projK m c (ix2 t ⟨128 * h.val + k.val, hy⟩) = qK (aq m c) (ix2 t ⟨128 * h.val + k.val, by omega⟩) := by
  unfold projK
  pointwise
  rw [dif_pos (by omega)]

theorem projK_k (t : Fin 8448) (h : Fin 8) (k : Fin 128) (hy : 128 * (8 + h.val) + k.val < 3072) :
    projK m c (ix2 t ⟨128 * (8 + h.val) + k.val, hy⟩) = rowsK (ak m c) (ix2 t ⟨128 * h.val + k.val, by omega⟩) := by
  unfold projK
  pointwise
  rw [dif_neg (by omega), dif_pos (by omega)]
  exact congrArg (rowsK (ak m c)) (congrArg (ix2 t) (Fin.ext (by show 128 * (8 + h.val) + k.val - 1024 = 128 * h.val + k.val; omega)))

theorem projK_v (t : Fin 8448) (h : Fin 8) (k : Fin 128) (hy : 128 * (16 + h.val) + k.val < 3072) :
    projK m c (ix2 t ⟨128 * (16 + h.val) + k.val, hy⟩) = rowsK (av m c) (ix2 t ⟨128 * h.val + k.val, by omega⟩) := by
  unfold projK
  pointwise
  rw [dif_neg (by omega), dif_neg (by omega)]
  exact congrArg (rowsK (av m c)) (congrArg (ix2 t) (Fin.ext (by show 128 * (16 + h.val) + k.val - 1024 - 1024 = 128 * h.val + k.val; omega)))

theorem head_row (a : FVec Ideal S8208x8x128 .f32) (t : Fin 8448) (h : Fin 8) (k : Fin 128) (ht : t.val < 8208) (hy : 128 * h.val + k.val < 1024) :
    rowsK a (ix2 t ⟨128 * h.val + k.val, hy⟩) = a (ix3 ⟨rp t.val, by unfold rp; split <;> omega⟩ h k) := by
  rw [rowsK_apply a t _ ht]
  have e1 : (⟨(128 * h.val + k.val) / 128, by omega⟩ : Fin 8) = h := Fin.ext (by show (128 * h.val + k.val) / 128 = h.val; omega)
  have e2 : (⟨(128 * h.val + k.val) % 128, by omega⟩ : Fin 128) = k := Fin.ext (by show (128 * h.val + k.val) % 128 = k.val; omega)
  exact congrArg a (congrArg₂ (ix3 _) e1 e2)

/-- A sum times a nonnegative real, term by term. -/
theorem sum_mul_real {ι : Type} (s : Finset ι) (f : ι → EReal) (x : EReal) (h0 : 0 ≤ x) (h1 : x ≠ ⊤) : (∑ i ∈ s, f i) * x = ∑ i ∈ s, f i * x := by
  classical
  induction s using Finset.induction with
  | empty => simp
  | insert a s h ih =>
    rw [Finset.sum_insert h, Finset.sum_insert h, EReal.right_distrib_of_nonneg_of_ne_top h0 h1, ih]

theorem swap (x a l k : EReal) : x * a * l * k = x * k * a * l := by
  rw [mul_right_comm (x * a) l k, mul_right_comm x a k]

/-- The grid point's inputs. -/
def I0 (t : Fin cfg0.N) : In Ideal := ins (iblk m c 0 t) (iblk m c 1 t) (iblk m c 2 t) (iblk m c 3 t) (iblk m c 4 t)

/-- The logits in the base two. -/
theorem logit_blk (t : Fin cfg0.N) (y ρ : Fin 8448) (hy : y.val < 8208) (hρ : ρ.val < 8208) (β : EReal) (hβ : β = ab m c (ix1 ⟨t.val, lt8 t⟩) * L) :
    ∑ k : Fin 128, (I0 m c t).Q (ix2 y k) * (I0 m c t).K (ix2 ρ k) + β
      = logits (aq m c) (ak m c) (ab m c) ⟨t.val, lt8 t⟩ (rp y.val) (rp ρ.val) * L := by
  rw [hβ]
  have ht := lt8 t
  have r1 : rp y.val < 8208 := by unfold rp; split <;> omega
  have r2 : rp ρ.val < 8208 := by unfold rp; split <;> omega
  have hc0 : (0 : EReal) ≤ Ideal.ofBits .f32 0x3DB504F3#32 := by rw [scale_bits]; exact EReal.coe_nonneg.mpr (by norm_num)
  have hc1 : Ideal.ofBits .f32 0x3DB504F3#32 ≠ ⊤ := by rw [scale_bits]; exact EReal.coe_ne_top _
  rw [logits, dif_pos ⟨r1, r2⟩, EReal.right_distrib_of_nonneg_of_ne_top L_nonneg L_ne_top, sum_mul_real _ _ _ hc0 hc1, sum_mul_L]
  refine congrArg (· + _) (Finset.sum_congr rfl fun k _ => ?_)
  have e1 : (I0 m c t).Q (ix2 y k) = _ := blk1 m c t y k
  have e2 : (I0 m c t).K (ix2 ρ k) = _ := blk2 m c t ρ k
  rw [e1, e2, projK_q m c y ⟨t.val, ht⟩ k, projK_k m c ρ ⟨t.val, ht⟩ k, qK_apply, head_row _ _ _ _ hy, head_row _ _ _ _ hρ]
  exact swap _ _ _ _

theorem val_blk (t : Fin cfg0.N) (ρ : Fin 8448) (d : Fin 128) (hρ : ρ.val < 8208) :
    (iblk m c 3 t : FVec Ideal S8448x128 .bf16) (ix2 ρ d) = vals (av m c) ⟨t.val, lt8 t⟩ (rp ρ.val) d := by
  have ht := lt8 t
  have r2 : rp ρ.val < 8208 := by unfold rp; split <;> omega
  rw [blk3, projK_v m c ρ ⟨t.val, ht⟩ d, head_row _ _ _ _ hρ, vals, dif_pos r2]

/-- A grid point's bias tiles. -/
theorem bias_blk (t : Fin cfg0.N) (β : EReal) (hβ : β = ab m c (ix1 ⟨t.val, lt8 t⟩) * L) (κ : Fin 5) (p q : Fin 256) :
    tilesK (ab m c) (ix5 0 ⟨t.val, lt8 t⟩ κ p q) = if kp κ.val p.val q.val then β else ⊥ := by
  subst hβ
  exact tilesK_apply (ab m c) ⟨t.val, lt8 t⟩ κ p q

theorem bias_in (t : Fin cfg0.N) (κ : Fin 5) (p q : Fin 256) :
    (I0 m c t).B (ix5 0 0 κ p q) = tilesK (ab m c) (ix5 0 ⟨t.val, lt8 t⟩ κ p q) := blk0 m c t κ p q

set_option maxHeartbeats 2000000 in
/-- A grid point's inputs hold its head's logits and values. -/
theorem holds (t : Fin cfg0.N) :
    Holds (I0 m c t) (logits (aq m c) (ak m c) (ab m c) ⟨t.val, lt8 t⟩) (vals (av m c) ⟨t.val, lt8 t⟩) := by
  obtain ⟨β, hβ⟩ : ∃ β : EReal, β = ab m c (ix1 ⟨t.val, lt8 t⟩) * L := ⟨_, rfl⟩
  have hL := fun y ρ hy hρ => logit_blk m c t y ρ hy hρ β hβ
  have hB : ∀ (κ : Fin 5) (p q : Fin 256), (I0 m c t).B (ix5 0 0 κ p q) = if kp κ.val p.val q.val then β else ⊥ :=
    fun κ p q => (bias_in m c t κ p q).trans (bias_blk m c t β hβ κ p q)
  have hT : ∀ a b : Fin 256, (I0 m c t).T (ix2 a b) = if b ≤ a then (1 : EReal) else 0 := fun a b => tri_blk m c t a b
  have hV : ∀ (ρ : Fin 8448) (d : Fin 128), ρ.val < 8208 → (I0 m c t).V (ix2 ρ d) = vals (av m c) ⟨t.val, lt8 t⟩ (rp ρ.val) d :=
    fun ρ d hρ => val_blk m c t ρ d hρ
  clear hβ
  generalize I0 m c t = I at *
  exact ⟨hT, ⟨β, hB, hL⟩, hV⟩

end Cert.KernelIdeal.Attn

end
-- ==== Proof.Attn.RefVal.lean ====
/-
  What the reference computes, read at an index: stick-breaking attention by position.
-/
module

public import proofs.«01_k».proof.Proof.Gen.ReferenceIdeal.Run
public import proofs.«01_k».proof.Proof.Attn.Spec
public import Idealize.ShloMosaic.Lib.Pointwise
public import Idealize.ShloMosaic.Lib.ValueIdx

@[expose] public section

noncomputable section

namespace Cert.ReferenceIdeal.Attn

open Cert.ReferenceIdeal Cert.ReferenceIdeal.Gen Cert.ReferenceIdeal.Value Cert.Stick
open Idealize.ShloMosaic Idealize.ShloMosaic.TcCoe Idealize.SL.Sem

abbrev Sq := FVec Ideal S8x8208x8208 .f32

/-- The zero square. -/
def zero : Sq := broadcastInDim S8x8208x8208 ![] bcast_S_S8x8208x8208 (constant S_ .f32 0x00000000#32)

/-- The logits. -/
def logit (q k : FVec Ideal S8208x8x128 .f32) (b : FVec Ideal S8 .f32) : Sq :=
  addf (mulf (Host.dotGeneral dot_S8208x8x128_S8208x8x128_S8x8208x8208_2_2_0_0_1_1 none q k)
      (broadcastInDim S8x8208x8208 ![] bcast_S_S8x8208x8208 (constant S_ .f32 0x3DB504F3#32)))
    (broadcastInDim S8x8208x8208 ![0, 1, 2] bcast_S8x1x1_S8x8208x8208_0_1_2 (broadcastInDim S8x1x1 ![0] bcast_S8_S8x1x1_0 b))

/-- The softplus of an array. -/
def jsp (x : Sq) : Sq :=
  select (cmpf .une (subf x zero) (subf x zero)) (addf x zero) (addf (maximumf x zero) (Host.log1p (Host.exp (Host.negf (Host.absf (subf x zero))))))

/-- The causal mask. -/
def mask : IVec S8x8208x8208 1 :=
  broadcastInDim S8x8208x8208 ![1, 2] bcast_S8208x8208_S8x8208x8208_1_2
    (cmpi .slt (broadcastInDim S8208x8208 ![0, 1] bcast_S1x8208_S8208x8208_0_1 (broadcastInDim S1x8208 ![1] bcast_S8208_S1x8208_1 (iotaInDim S8208 32 0)))
      (broadcastInDim S8208x8208 ![0, 1] bcast_S8208x1_S8208x8208_0_1 (broadcastInDim S8208x1 ![0] bcast_S8208_S8208x1_0 (iotaInDim S8208 32 0))))

/-- The logarithm of what a key leaves. -/
def keep (z : Sq) : Sq := select mask (Host.negf (jsp (Host.negf (Host.negf z)))) zero

/-- The sums from a key on. -/
def later (x : Sq) : Sq :=
  Host.reduceWindowAdd ![1, 1, 8208] ![1, 1, 1] ![0, 0, 0] ![0, 0, 8207] x (broadcastInDim S_ ![] bcast_S_S_ (constant S_ .f32 0x00000000#32) : FVec Ideal S_ .f32)
    reduceWindows_S8x8208x8208_S8x8208x8208_w1s1p0_0_w1s1p0_0_w8208s1p0_8207 h_S_

/-- The weights. -/
def wgt (z : Sq) : Sq := select mask (Host.exp (addf (Host.negf (jsp (Host.negf z))) (subf (later (keep z)) (keep z)))) zero

/-- The attention's rows, by position. -/
def rows (v : FVec Ideal S8208x8x128 .f32) (w : Sq) : FVec Ideal S8208x1024 .f32 :=
  shapeCast S8208x1024 (transpose S8208x8x128 [2, 0, 1] (Host.dotGeneral dot_S8208x8x128_S8x8208x8208_S8x128x8208_0_2_2_1_1_0 none v w) transposes_S8x128x8208_S8208x8x128_2_0_1)
    shapeCasts_S8208x8x128_S8208x1024

/-- The rows in the result's order. -/
def order (x : FVec Ideal S8208x1024 .f32) : FVec Ideal S8448x1024 .f32 :=
  concatenate S8448x1024 0 [⟨S8192x1024, extractStridedSlice S8192x1024 ![16, 0] x slices_S8208x1024_S8192x1024_16_0⟩,
    ⟨S16x1024, extractStridedSlice S16x1024 ![0, 0] x slices_S8208x1024_S16x1024_0_0⟩,
    ⟨S240x1024, broadcastInDim S240x1024 ![] bcast_S_S240x1024 (constant S_ .f32 0x00000000#32)⟩] concatenates_S8192x1024_S16x1024_S240x1024_S8448x1024_d0

set_option maxRecDepth 8192 in
theorem res_eq (m : (ℓ : Loc nD τ sig) → Buf (Elt Ideal) ℓ) (c : Dev nD) :
    res_main_v27 m c = order (rows (m ((c.tc : Thread nD τ).loc main_arg2))
      (wgt (logit (m ((c.tc : Thread nD τ).loc main_arg0)) (m ((c.tc : Thread nD τ).loc main_arg1)) (m ((c.tc : Thread nD τ).loc main_arg3))))) := rfl

theorem logit_apply (q k : FVec Ideal S8208x8x128 .f32) (b : FVec Ideal S8 .f32) (h : Fin 8) (t s : Fin 8208) :
    logit q k b (ix3 h t s) = (∑ x : Fin 128, q (ix3 t h x) * k (ix3 s h x)) * Ideal.ofBits .f32 0x3DB504F3#32 + b (ix1 h) := by
  pointwise [logit]

theorem jsp_apply (x : Sq) (j : S8x8208x8208.Idx) : jsp x j = soft (x j) := by
  unfold jsp
  pointwise [zero]
  exact if_neg (fun h => h rfl)

theorem mask_apply (h : Fin 8) (t s : Fin 8208) : mask (ix3 h t s) = BitVec.ofBool (decide (s.val < t.val)) := by
  unfold mask
  pointwise
  have hs := s.isLt
  have ht := t.isLt
  unfold IntOp.cmpi
  congr 1
  show BitVec.slt _ _ = _
  rw [BitVec.slt_eq_decide, BitVec.toInt_ofNat', BitVec.toInt_ofNat']
  congr 1
  have e : ∀ n : ℕ, n < 8208 → ((n : ℕ) : ℤ).bmod (2 ^ 32) = n := fun n hn => by
    rw [Int.bmod_eq_of_le] <;> omega
  rw [e _ hs, e _ ht, Nat.cast_lt]

/-- A fold that adds is a sum. -/
theorem foldl_sum {n : ℕ} (g : Fin n → EReal) (v : EReal) : (List.finRange n).foldl (fun r i => r + g i) v = v + ∑ i, g i := by
  have : ∀ (L : List (Fin n)) (v : EReal), L.foldl (fun r i => r + g i) v = v + (L.map g).sum := by
    intro L
    induction L with
    | nil => intro v; simp
    | cons a L ih => intro v; rw [List.foldl_cons, ih, List.map_cons, List.sum_cons, add_assoc]
  rw [this, ← List.sum_ofFn, List.ofFn_eq_map]

/-- The window's places. -/
def place (N : ℕ) : Fin N ≃ Fin (⟨3, ![1, 1, N]⟩ : Shape).numel :=
  (⟨fun k => ix3 0 0 k, fun i => i 2, fun _ => rfl, fun i => by
      funext a
      match a with
      | 0 => exact (Fin.fin_one_eq_zero _).symm
      | 1 => exact (Fin.fin_one_eq_zero _).symm
      | 2 => rfl⟩ : Fin N ≃ (⟨3, ![1, 1, N]⟩ : Shape).Idx).trans (⟨3, ![1, 1, N]⟩ : Shape).rowMajor

/-- A window sum along the last axis, padded high, is the sum from an index on. -/
theorem window_sum {A B N : ℕ} (x : (⟨3, ![A, B, N]⟩ : Shape).Idx → EReal) (hi : Fin 3 → ℕ)
    (hr : (⟨3, ![A, B, N]⟩ : Shape).ReduceWindows ![1, 1, N] ![1, 1, 1] ![0, 0, 0] hi ⟨3, ![A, B, N]⟩) (hu : 0 < (⟨0, ![]⟩ : Shape).numel)
    (h : Fin A) (t : Fin B) (s : Fin N) :
    Host.reduceWindow (s := ⟨3, ![A, B, N]⟩) (t := ⟨3, ![A, B, N]⟩) (· + ·) ![1, 1, N] ![1, 1, 1] ![0, 0, 0] hi x (fun _ : (⟨0, ![]⟩ : Shape).Idx => (0 : EReal)) hr hu (ix3 h t s)
      = ∑ n ∈ Finset.Ico s.val N, if hn : n < N then x (ix3 h t ⟨n, hn⟩) else 0 := by
  unfold Host.reduceWindow
  dsimp only
  have e : ∀ g : Fin (⟨3, ![1, 1, N]⟩ : Shape).numel → EReal, ∀ v : EReal, (List.finRange (⟨3, ![1, 1, N]⟩ : Shape).numel).foldl (fun r i => r + g i) v
      = v + ∑ k : Fin N, g (place N k) := fun g v => by rw [foldl_sum, Equiv.sum_comp (place N) g]
  refine (e _ _).trans ?_
  rw [zero_add]
  have hl : ∀ k : Fin N, (⟨3, ![1, 1, N]⟩ : Shape).rowMajor.symm (place N k) = ix3 0 0 k := fun k => by
    unfold place; rw [Equiv.trans_apply, Equiv.symm_apply_apply]; rfl
  simp only [hl]
  have hs := s.isLt
  have hh := h.isLt
  have ht := t.isLt
  let g : ℕ → EReal := fun n => if hn : n < N then x (ix3 h t ⟨n, hn⟩) else 0
  rw [Finset.sum_Ico_eq_sum_range]
  refine Eq.trans ?_ (Eq.trans (Fin.sum_univ_eq_sum_range (fun n => if n < N - s.val then g (s.val + n) else 0) N) ?_)
  · refine Finset.sum_congr rfl fun k _ => ?_
    have hk := k.isLt
    by_cases hc : k.val < N - s.val
    · rw [dif_pos (by
        intro a
        match a with
        | 0 => exact ⟨Nat.zero_le _, by show h.val * 1 + 0 - 0 < A; omega⟩
        | 1 => exact ⟨Nat.zero_le _, by show t.val * 1 + 0 - 0 < B; omega⟩
        | 2 => exact ⟨Nat.zero_le _, by show s.val * 1 + k.val - 0 < N; omega⟩)]
      show _ = if k.val < N - s.val then g (s.val + k.val) else 0
      rw [if_pos hc]
      show _ = if hn : s.val + k.val < N then x (ix3 h t ⟨s.val + k.val, hn⟩) else 0
      rw [dif_pos (by omega)]
      refine congrArg x (funext fun a => ?_)
      match a with
      | 0 => exact Fin.ext (by show h.val * 1 + 0 - 0 = h.val; omega)
      | 1 => exact Fin.ext (by show t.val * 1 + 0 - 0 = t.val; omega)
      | 2 => exact Fin.ext (by show s.val * 1 + k.val - 0 = s.val + k.val; omega)
    · rw [dif_neg (fun hall => hc (by have : s.val * 1 + k.val - 0 < N := (hall 2).2; omega))]
      exact (if_neg hc).symm
  · rw [← Finset.sum_filter]
    refine Finset.sum_congr (Finset.ext fun n => ?_) fun _ _ => rfl
    simp only [Finset.mem_filter, Finset.mem_range]; omega

theorem later_apply (x : Sq) (h : Fin 8) (t s : Fin 8208) :
    later x (ix3 h t s) = ∑ n ∈ Finset.Ico s.val 8208, if hn : n < 8208 then x (ix3 h t ⟨n, hn⟩) else 0 := by
  unfold later Host.reduceWindowAdd
  rw [Ideal.hostReduceWindowAdd_def,
    show (broadcastInDim S_ ![] bcast_S_S_ (constant S_ .f32 0x00000000#32) : FVec Ideal S_ .f32) (Shape.Idx.first h_S_) = (0 : EReal) from Ideal.ofBits_zero_f32]
  unfold Ideal.hostReduceWindowAdd
  exact window_sum x _ _ _ h t s

theorem rows_apply (v : FVec Ideal S8208x8x128 .f32) (w : Sq) (t : Fin 8208) (y : Fin 1024) :
    rows v w (ix2 t y) = ∑ s : Fin 8208, v (ix3 s ⟨y.val / 128, by omega⟩ ⟨y.val % 128, by omega⟩) * w (ix3 ⟨y.val / 128, by omega⟩ t s) := by
  unfold rows
  pointwise

set_option maxRecDepth 100000 in
theorem order_apply (x : FVec Ideal S8208x1024 .f32) (t : Fin 8448) (y : Fin 1024) :
    order x (ix2 t y) = if h : t.val < 8208 then x (ix2 ⟨rp t.val, by unfold rp; split <;> omega⟩ y) else (0 : EReal) := by
  unfold order
  pointwise
  unfold rp
  by_cases h : t.val < 8192
  · rw [dif_pos h, dif_pos (by omega)]
    refine congrArg x (congrArg (ix2 · y) (Fin.ext ?_))
    show 16 + t.val = if t.val < 8192 then t.val + 16 else _
    rw [if_pos h, add_comm]
  · rw [dif_neg h]
    by_cases h' : t.val < 8208
    · rw [dif_pos (by omega), dif_pos h']
      refine congrArg x (congrArg (ix2 · y) (Fin.ext ?_))
      show _ = if t.val < 8192 then t.val + 16 else _
      rw [if_neg h]
    · rw [dif_neg (by omega), dif_neg h']

theorem keep_apply (z : Sq) (h : Fin 8) (t s : Fin 8208) : keep z (ix3 h t s) = if s.val < t.val then -soft (z (ix3 h t s)) else 0 := by
  have e : keep z (ix3 h t s) = Scalar.select (mask (ix3 h t s)) (-jsp (Host.negf (Host.negf z)) (ix3 h t s)) (zero (ix3 h t s)) := rfl
  rw [e, mask_apply, jsp_apply, show Host.negf (Host.negf z) (ix3 h t s) = - -z (ix3 h t s) from rfl, neg_neg,
    show zero (ix3 h t s) = (0 : EReal) from Ideal.ofBits_zero_f32]
  unfold Scalar.select
  by_cases hs : s.val < t.val
  · rw [if_pos hs, decide_eq_true hs]; rfl
  · rw [if_neg hs, decide_eq_false hs]; rfl

theorem wgt_apply (z : Sq) (h : Fin 8) (t s : Fin 8208) :
    wgt z (ix3 h t s) = if s.val < t.val then Ideal.exp (-soft (-z (ix3 h t s)) + (later (keep z) (ix3 h t s) - keep z (ix3 h t s))) else 0 := by
  have e : wgt z (ix3 h t s) = Scalar.select (mask (ix3 h t s)) (Ideal.exp (-jsp (Host.negf z) (ix3 h t s) + (later (keep z) (ix3 h t s) - keep z (ix3 h t s)))) (zero (ix3 h t s)) := rfl
  rw [e, mask_apply, jsp_apply, show Host.negf z (ix3 h t s) = -z (ix3 h t s) from rfl,
    show zero (ix3 h t s) = (0 : EReal) from Ideal.ofBits_zero_f32]
  unfold Scalar.select
  by_cases hs : s.val < t.val
  · rw [if_pos hs, decide_eq_true hs]; rfl
  · rw [if_neg hs, decide_eq_false hs]; rfl

/-- The weight of an earlier key, in the base two. -/
theorem wgt_att (z : Sq) (Z : ℕ → EReal) (h : Fin 8) (t s : Fin 8208) (hz : ∀ n (hn : n < 8208), z (ix3 h t ⟨n, hn⟩) = Z n) (hs : s.val < t.val) :
    wgt z (ix3 h t s) = Ideal.exp2 (Z s.val * L - (∑ n ∈ Finset.Ico s.val t.val, soft (Z n)) * L) := by
  have ht := t.isLt
  have hl : later (keep z) (ix3 h t s) = -(soft (Z s.val) + ∑ n ∈ Finset.Ico (s.val + 1) t.val, soft (Z n)) := by
    rw [← Finset.sum_eq_sum_Ico_succ_bot hs (fun n => soft (Z n)), neg_sum_nonneg _ _ (fun _ => soft_nonneg _), later_apply,
      ← Finset.sum_Ico_consecutive _ hs.le ht.le]
    rw [Finset.sum_congr (g := fun _ => (0 : EReal)) (s₁ := Finset.Ico t.val 8208) rfl fun n hn => by
        have hn' := Finset.mem_Ico.mp hn
        rw [dif_pos hn'.2, keep_apply, if_neg (by dsimp only; omega)], Finset.sum_const_zero, add_zero]
    refine Finset.sum_congr rfl fun n hn => ?_
    have hn' := Finset.mem_Ico.mp hn
    rw [dif_pos (by omega), keep_apply, if_pos (by dsimp only; omega), hz]
  rw [wgt_apply, if_pos hs, hl, keep_apply, if_pos hs, hz s.val s.isLt, Finset.sum_eq_sum_Ico_succ_bot hs (fun n => soft (Z n)), weight]
  exact Finset.sum_nonneg fun _ _ => soft_nonneg _

/-- The rows by position are the attention. -/
theorem rows_att (v : FVec Ideal S8208x8x128 .f32) (z : Sq) (Z : ℕ → EReal) (v' : ℕ → EReal) (t : Fin 8208) (y : Fin 1024)
    (hz : ∀ n (hn : n < 8208), z (ix3 ⟨y.val / 128, by omega⟩ t ⟨n, hn⟩) = Z n)
    (hv : ∀ n (hn : n < 8208), v (ix3 ⟨n, hn⟩ ⟨y.val / 128, by omega⟩ ⟨y.val % 128, by omega⟩) = v' n) :
    rows v (wgt z) (ix2 t y) = att t.val Z v' := by
  have ht := t.isLt
  rw [rows_apply]
  rw [Finset.sum_congr (g := fun s : Fin 8208 => (fun n => if n < t.val then Ideal.exp2 (Z n * L - (∑ s' ∈ Finset.Ico n t.val, soft (Z s')) * L) * v' n else 0) s.val) rfl fun s _ => by
    dsimp only
    by_cases hs : s.val < t.val
    · rw [if_pos hs, wgt_att z Z _ t s hz hs, ← hv s.val s.isLt, mul_comm]
    · rw [if_neg hs, wgt_apply, if_neg hs, mul_zero],
    Fin.sum_univ_eq_sum_range (fun n => if n < t.val then Ideal.exp2 (Z n * L - (∑ s' ∈ Finset.Ico n t.val, soft (Z s')) * L) * v' n else 0) 8208,
    ← Finset.sum_filter, att]
  refine Finset.sum_congr (Finset.ext fun n => ?_) fun _ _ => rfl
  simp only [Finset.mem_filter, Finset.mem_range]; omega

/-- The reference's result, element by element. -/
theorem res_out (m : (ℓ : Loc nD τ sig) → Buf (Elt Ideal) ℓ) (c : Dev nD) (t : Fin 8448) (y : Fin 1024) :
    (res_main_v27 m c : FVec Ideal S8448x1024 .f32) (ix2 t y) = out (m ((c.tc : Thread nD τ).loc main_arg0)) (m ((c.tc : Thread nD τ).loc main_arg1)) (m ((c.tc : Thread nD τ).loc main_arg2))
      (m ((c.tc : Thread nD τ).loc main_arg3)) t y := by
  rw [res_eq, order_apply, out]
  by_cases h : t.val < 8208
  · have hr : rp t.val < 8208 := by unfold rp; split <;> omega
    rw [dif_pos h, if_pos h]
    refine rows_att _ _ _ _ ⟨rp t.val, hr⟩ y (fun n hn => ?_) (fun n hn => ?_)
    · rw [logit_apply, logits, dif_pos ⟨hr, hn⟩]
    · rw [vals, dif_pos hn]
  · rw [dif_neg h, if_neg h]

end Cert.ReferenceIdeal.Attn
end
-- ==== Proof.Attn.Value.lean ====
/-
  The attention call's array: at every row and column the attention's output there.
-/
module

public import proofs.«01_k».proof.Proof.Attn.Host
public import proofs.«01_k».proof.Proof.Attn.RefVal

@[expose] public section

noncomputable section

namespace Cert.KernelIdeal.Attn

open Cert.KernelIdeal Cert.KernelIdeal.Gen Cert.Stick
open Idealize.ShloMosaic Idealize.ShloMosaic.TcCoe Idealize.SL.Sem
open Idealize.ShloMosaic (ix2)

variable (m : (ℓ : Loc nD τ sig) → Buf (Elt Ideal) ℓ) (c : Dev nD)

/-- The rows of the call are the rows of the tiles. -/
theorem tp_rp (y : ℕ) (h : y < 8208) : tp (y / 256) (y % 256) = rp y := by
  unfold tp rp
  split <;> split <;> omega

/-- What a grid point leaves is its head's output. -/
theorem outAt_apply (t : Fin cfg0.N) (y : Fin 8448) (d : Fin 128) :
    outAt m c t (ix2 y d) = out (aq m c) (ak m c) (av m c) (ab m c) y ⟨128 * t.val + d.val, by have := lt8 t; omega⟩ := by
  have ht := lt8 t
  unfold outAt outv out
  by_cases h : 8208 ≤ y.val
  · rw [dif_pos (show 8208 ≤ ((ix2 y d) 0).val from h), if_neg (by omega)]
    exact fill_blk m c t _ _
  · have e1 : (⟨(128 * t.val + d.val) / 128, by omega⟩ : Fin 8) = ⟨t.val, ht⟩ := Fin.ext (by show (128 * t.val + d.val) / 128 = t.val; omega)
    have e2 : (⟨(128 * t.val + d.val) % 128, by omega⟩ : Fin 128) = d := Fin.ext (by show (128 * t.val + d.val) % 128 = d.val; omega)
    rw [dif_neg (show ¬ 8208 ≤ ((ix2 y d) 0).val from h), if_pos (by omega)]
    have := RA_att (holds m c t) (y.val / 256) (by omega) ⟨y.val % 256, by omega⟩ d (fun hb => by show y.val % 256 < 16; omega)
    rw [show ((⟨y.val % 256, by omega⟩ : Fin 256).val) = y.val % 256 from rfl, tp_rp y.val (by omega)] at this
    rw [e1, e2]
    exact this

/-- The array after the call. -/
theorem arr_out : (dats m 0 c).arrAt 6 cfg0.N
    = ((fun i => out (aq m c) (ak m c) (av m c) (ab m c) (i 0) (i 1) : FVec Ideal S8448x1024 .f32)) := by
  refine (dats m 0 c).arrAt_eq_of_covers 6 _ (by decide +kernel) fun t hf y => ?_
  blk_simp
  rw [after0_6]
  have e : (y : S8448x128.Idx) = ix2 (y 0 : Fin 8448) (y 1 : Fin 128) := funext fun a => by
    match a with
    | 0 => rfl
    | 1 => rfl
  have e0 : (win0_6.blk t).view.emb y 0 = (y 0 : Fin 8448) := Fin.ext (by
    show win0_6.index t 0 * 8448 + 1 * (y 0).val = (y 0).val
    rw [(idx t).2.2.2.2.2.2]
    show 0 * 8448 + 1 * (y 0).val = _
    omega)
  have e1 : (win0_6.blk t).view.emb y 1 = (⟨128 * t.val + (y 1).val, by have := lt8 t; have : (y 1).val < 128 := (y 1).isLt; omega⟩ : Fin 1024) := Fin.ext (by
    show win0_6.index t 1 * 128 + 1 * (y 1).val = 128 * t.val + (y 1).val
    rw [(idx t).2.2.2.2.2.2]
    show t.val * 128 + 1 * (y 1).val = _
    omega)
  rw [e0, e1]
  refine Eq.trans ?_ (outAt_apply m c t (y 0) (y 1))
  exact congrArg (outAt m c t) e

end Cert.KernelIdeal.Attn

end
-- ==== Proof.Attn.Claims.lean ====
/-
  The claims about the attention call: the three frames, that the ideal program is the kernel with its two named
  constants at the reals that they stand for, and that the ideal program and the reference leave one array.
-/
module

public import proofs.«01_k».proof.Defs
public import proofs.«01_k».proof.Proof.Attn.Bits
public import proofs.«01_k».proof.Proof.Gen.ReferenceIdeal.Run
public import proofs.«01_k».proof.Proof.Attn.Value
public import Idealize.ShloMosaic.Lib.Quiescent
public import Idealize.ShloMosaic.Lib.Claim

@[expose] public section

noncomputable section

namespace Cert.Proof

open Idealize.ShloMosaic Idealize.ShloMosaic.TcCoe Idealize.SL.Sem

/-- The ideal kernel's frame. -/
theorem frame_ideal : Cert.quiescent_KernelIdeal := fun m ρ _ => Cert.KernelIdeal.Attn.frame_holds m ρ

/-- The reference's frame: it has host operations alone and no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The table of names gives the exponent's cap the value ∞ and log₂ e the value 1 / ln 2. -/
theorem preserves_kernel : Cert.preserves_Kernel_KernelIdeal :=
  ⟨IdealRules.named_const.statement Cert.KernelIdeal.κ "cap" .f32 0x42FC0000#32 ⊤ rfl,
    IdealRules.named_const.statement Cert.KernelIdeal.κ "log2e" .f32 0x3FB8AA3B#32 (((Real.log 2)⁻¹ : ℝ) : EReal) rfl⟩

/-- The attention's array. -/
def outA (q k v : FVec Ideal ⟨3, ![8208, 8, 128]⟩ .f32) (b : FVec Ideal ⟨1, ![8]⟩ .f32) : FVec Ideal ⟨2, ![8448, 1024]⟩ .f32 := fun i =>
  Cert.Stick.out q k v b (i 0) (i 1)

/-- The ideal kernel and the reference leave the same array: the attention of every row, head by head. -/
theorem algebraic_kernel : Cert.algebraic_KernelIdeal_ReferenceIdeal := by
  intro m g m' g' _ hagree
  refine ⟨fun c => outA (m ((c.tc : Thread _ _).loc Cert.KernelIdeal.main_arg0)) (m ((c.tc : Thread _ _).loc Cert.KernelIdeal.main_arg1))
    (m ((c.tc : Thread _ _).loc Cert.KernelIdeal.main_arg2)) (m ((c.tc : Thread _ _).loc Cert.KernelIdeal.main_arg3)), ?_, ?_⟩
  · run_from (Cert.KernelIdeal.Attn.run_main (F := Ideal) m g) & (Cert.KernelIdeal.Attn.unchanged (F := Ideal) m g)
    exact Cert.KernelIdeal.Attn.arr_out m c
  · refine (θ_run Cert.ReferenceIdeal.defs _ _).mono (fun r h c => ⟨(h c).1.trans ?_, (h c).2⟩) (Cert.ReferenceIdeal.Value.run (F := Ideal) m' g')
    obtain ⟨e0, e1, e2, e3⟩ := hagree c
    refine Eq.trans (?_ : _ = outA (m' ((c.tc : Thread _ _).loc Cert.ReferenceIdeal.main_arg0)) (m' ((c.tc : Thread _ _).loc Cert.ReferenceIdeal.main_arg1))
      (m' ((c.tc : Thread _ _).loc Cert.ReferenceIdeal.main_arg2)) (m' ((c.tc : Thread _ _).loc Cert.ReferenceIdeal.main_arg3))) ?_
    · funext i
      exact (congrArg (Cert.ReferenceIdeal.Value.res_main_v27 m' c) (ValueIdx.eq_ix2 i)).trans (Cert.ReferenceIdeal.Attn.res_out m' c (i 0) (i 1))
    · exact congr (congr (congr (congrArg outA e0) e1) e2) e3

end Cert.Proof

end
-- ==== Proof.Ffn.Spec.lean ====
/-
  The feed-forward half-step of one row over the extended reals: the row's RMS norm, its gated hidden values, and the
  row plus half the hidden values' projection. The projection's sum over the 5632 hidden values is also written as
  a sum over an initial range of the naturals, in which the kernel's chunks of 256 follow one another.
-/
module

public import Idealize.ShloMosaic.Lib.Pipeline.ValueKit

@[expose] public section

noncomputable section

namespace Cert.HalfStep

open Idealize.ShloMosaic
open Idealize.ShloMosaic (ix2 ix3)

/-- The activations. -/
abbrev Acts := FVec Ideal ⟨2, ![8448, 2048]⟩ .f32
/-- The norm's gains, of the two layers. -/
abbrev Gains := FVec Ideal ⟨2, ![2, 2048]⟩ .f32
/-- The gate's and the values' weights, of the two layers. -/
abbrev InWeights := FVec Ideal ⟨3, ![2, 2048, 5632]⟩ .f32
/-- The projection's weights, of the two layers. -/
abbrev OutWeights := FVec Ideal ⟨3, ![2, 5632, 2048]⟩ .f32

variable (x : Acts) (g : Gains) (wg wu : InWeights) (wd : OutWeights)

/-- The normed row: each entry by the reciprocal root of the squares' mean and by its gain. -/
def normed (r : Fin 8448) (k : Fin 2048) : EReal :=
  x (ix2 r k) * Ideal.rsqrt (Ideal.div (∑ j, x (ix2 r j) * x (ix2 r j)) (Ideal.ofBits .f32 0x45000000#32) + Ideal.ofBits .f32 0x358637BD#32)
    * g (ix2 0 k)

/-- The normed row against a column of the gate's or the values' weights. -/
def lin (w : InWeights) (r : Fin 8448) (f : Fin 5632) : EReal := ∑ k, normed x g r k * w (ix3 0 k f)

/-- A hidden value: the gate's product with its logistic, times the value. -/
def hidden (r : Fin 8448) (f : Fin 5632) : EReal := lin x g wg r f * Ideal.logistic (lin x g wg r f) * lin x g wu r f

/-- The half-step: the row plus half the projection of its hidden values. -/
def out (r : Fin 8448) (d : Fin 2048) : EReal :=
  x (ix2 r d) + Ideal.ofBits .f32 0x3F000000#32 * ∑ f, hidden x g wg wu r f * wd (ix3 0 f d)

/-- The projection's term at hidden value `f`, nothing from 5632 on. -/
def term (r : Fin 8448) (d : Fin 2048) (f : ℕ) : EReal :=
  if h : f < 5632 then hidden x g wg wu r ⟨f, h⟩ * wd (ix3 0 ⟨f, h⟩ d) else 0

/-- The sum of the terms below `n`. -/
def part (r : Fin 8448) (d : Fin 2048) (n : ℕ) : EReal := ∑ f ∈ Finset.range n, term x g wg wu wd r d f

/-- The first chunk is the sum of the terms below 256. -/
theorem part_first (r : Fin 8448) (d : Fin 2048) :
    0 + ∑ f ∈ Finset.range 256, term x g wg wu wd r d (256 * 0 + f) = part x g wg wu wd r d (256 * (0 + 1)) := by
  unfold part; simp only [Nat.mul_zero, Nat.zero_add, zero_add, Nat.mul_one]

/-- A further chunk takes the sum 256 terms on. -/
theorem part_next (r : Fin 8448) (d : Fin 2048) (j : ℕ) :
    part x g wg wu wd r d (256 * j) + ∑ f ∈ Finset.range 256, term x g wg wu wd r d (256 * j + f) = part x g wg wu wd r d (256 * (j + 1)) := by
  unfold part; rw [Nat.mul_succ, Finset.sum_range_add]

/-- All 5632 terms are the projection. -/
theorem part_all (r : Fin 8448) (d : Fin 2048) : part x g wg wu wd r d 5632 = ∑ f, hidden x g wg wu r f * wd (ix3 0 f d) := by
  unfold part
  rw [Finset.sum_range]
  exact Finset.sum_congr rfl fun f _ => by unfold term; rw [dif_pos f.isLt]

end Cert.HalfStep

end
-- ==== Proof.Ffn.Value.lean ====
/-
  What the feed-forward call's launch leaves: after each of the 176 points the scratch holds the row block's normed rows
  and the output block the projection's sum over the chunks so far, the whole half-step at a row block's last point.
-/
module

public import proofs.«01_k».proof.Proof.Gen.Kernel2Ideal.Value
public import proofs.«01_k».proof.Proof.Ffn.Spec
public import Idealize.ShloMosaic.Lib.StableHlo.ReadAt
public import Idealize.ShloMosaic.Lib.Pipeline.ReadBack
public import Idealize.ShloMosaic.Lib.Pipeline.ValueKit
public import Idealize.ShloMosaic.Lib.Claim

@[expose] public section

noncomputable section

namespace Cert.Kernel2Ideal.Ffn

open Cert.Kernel2Ideal Cert.Kernel2Ideal.Gen Cert.HalfStep
open Idealize.ShloMosaic Idealize.ShloMosaic.TcCoe Idealize.SL.Sem
open Idealize.ShloMosaic (ix0 ix1 ix2 ix3)

variable (m : (ℓ : Loc nD τ sig) → Buf (Elt Ideal) ℓ) (c : Dev nD)

/-- The activations, the gains and the three weights, as the program gets them. -/
def aX : FVec Ideal S8448x2048 .f32 := m ((c : Thread nD τ).loc main_arg0)
def aG : FVec Ideal S2x2048 .f32 := m ((c : Thread nD τ).loc main_arg1)
def aWg : FVec Ideal S2x2048x5632 .f32 := m ((c : Thread nD τ).loc main_arg2)
def aWu : FVec Ideal S2x2048x5632 .f32 := m ((c : Thread nD τ).loc main_arg3)
def aWd : FVec Ideal S2x5632x2048 .f32 := m ((c : Thread nD τ).loc main_arg4)

theorem lt176 (t : Fin cfg0.N) : t.val < 176 := t.isLt

/-- The row of the array at row `p` of point `t`'s row block. -/
def row (t : Fin cfg0.N) (p : Fin 1056) : Fin 8448 := ⟨1056 * (t.val / 22) + p.val, by have := lt176 t; omega⟩

/-- The hidden value at place `f` of point `t`'s chunk. -/
def col (t : Fin cfg0.N) (f : Fin 256) : Fin 5632 := ⟨256 * (t.val % 22) + f.val, by omega⟩

/-! ## The blocks of a point -/

theorem idx : ∀ t : Fin cfg0.N, win0_0.index t = ![t.val / 22, 0] ∧ win0_1.index t = ![0, 0, 0] ∧ win0_2.index t = ![0, 0, t.val % 22]
    ∧ win0_3.index t = ![0, 0, t.val % 22] ∧ win0_4.index t = ![0, t.val % 22, 0] :=
  (by decide +kernel : ∀ t : Fin grid0.N, _)

/-- The gains with a unit axis between, which the launch takes. -/
theorem V_gain : (V m c main_v0 : FVec Ideal S2x1x2048 .f32) = broadcastInDim S2x1x2048 ![0, 2] bcast_S2x2048_S2x1x2048_0_2 (aG m c) := by
  unfold V
  after_reads_simp
  rfl

theorem V_x : (V m c main_arg0 : FVec Ideal S8448x2048 .f32) = aX m c := by
  unfold V
  after_reads_simp
  rfl
theorem V_wg : (V m c main_arg2 : FVec Ideal S2x2048x5632 .f32) = aWg m c := by
  unfold V
  after_reads_simp
  rfl
theorem V_wu : (V m c main_arg3 : FVec Ideal S2x2048x5632 .f32) = aWu m c := by
  unfold V
  after_reads_simp
  rfl
theorem V_wd : (V m c main_arg4 : FVec Ideal S2x5632x2048 .f32) = aWd m c := by
  unfold V
  after_reads_simp
  rfl

theorem blk0 (t : Fin cfg0.N) (p : Fin 1056) (k : Fin 2048) : (iblk m c 0 t : FVec Ideal S1056x2048 .f32) (ix2 p k) = aX m c (ix2 (row t p) k) := by
  rw [← V_x]
  blk_ext [iblk, idx t, row]
theorem blk1 (t : Fin cfg0.N) (k : Fin 2048) : (iblk m c 1 t : FVec Ideal S1x1x2048 .f32) (ix3 0 0 k) = aG m c (ix2 0 k) := by
  refine Eq.trans (b := (V m c main_v0 : FVec Ideal S2x1x2048 .f32) (ix3 0 0 k)) ?_ ?_
  · blk_ext [iblk, idx t]
  · rw [V_gain]
    pointwise
theorem blk2 (t : Fin cfg0.N) (k : Fin 2048) (f : Fin 256) : (iblk m c 2 t : FVec Ideal S1x2048x256 .f32) (ix3 0 k f) = aWg m c (ix3 0 k (col t f)) := by
  rw [← V_wg]
  blk_ext [iblk, idx t, col]
theorem blk3 (t : Fin cfg0.N) (k : Fin 2048) (f : Fin 256) : (iblk m c 3 t : FVec Ideal S1x2048x256 .f32) (ix3 0 k f) = aWu m c (ix3 0 k (col t f)) := by
  rw [← V_wu]
  blk_ext [iblk, idx t, col]
theorem blk4 (t : Fin cfg0.N) (f : Fin 256) (k : Fin 2048) : (iblk m c 4 t : FVec Ideal S1x256x2048 .f32) (ix3 0 f k) = aWd m c (ix3 0 (col t f) k) := by
  rw [← V_wd]
  blk_ext [iblk, idx t, col]

/-! ## The body's stores -/

set_option maxRecDepth 100000 in
/-- The scratch's store is the normed rows of the row block. -/
theorem pay1_apply (t : Fin cfg0.N) (p : Fin 1056) (k : Fin 2048) :
    k0_pay1 (F := Ideal) (iblk m c 0 t) (iblk m c 1 t) (ix2 p k) = normed (aX m c) (aG m c) (row t p) k := by
  have h0 := blk0 m c t p
  have h1 := blk1 m c t
  generalize (iblk m c 0 t : FVec Ideal S1056x2048 .f32) = x at h0 ⊢
  generalize (iblk m c 1 t : FVec Ideal S1x1x2048 .f32) = g at h1 ⊢
  pointwise [k0_pay1]
  simp only [h0, h1]
  rfl

set_option maxRecDepth 100000 in
/-- The output's store adds the chunk's terms to what the block held, the scratch holding the normed rows. -/
theorem pay3_apply (t : Fin cfg0.N) (h : FVec Ideal S1056x2048 .bf16) (a : FVec Ideal S1056x2048 .f32) (p : Fin 1056) (d : Fin 2048)
    (hh : ∀ k, h (ix2 p k) = normed (aX m c) (aG m c) (row t p) k) :
    k0_pay3 (F := Ideal) h (iblk m c 2 t) (iblk m c 3 t) a (iblk m c 4 t) (ix2 p d)
      = a (ix2 p d) + ∑ f ∈ Finset.range 256, term (aX m c) (aG m c) (aWg m c) (aWu m c) (aWd m c) (row t p) d (256 * (t.val % 22) + f) := by
  have h2 := blk2 m c t
  have h3 := blk3 m c t
  have h4 := blk4 m c t
  generalize (iblk m c 2 t : FVec Ideal S1x2048x256 .f32) = w at h2 ⊢
  generalize (iblk m c 3 t : FVec Ideal S1x2048x256 .f32) = u at h3 ⊢
  generalize (iblk m c 4 t : FVec Ideal S1x256x2048 .f32) = v at h4 ⊢
  pointwise [k0_pay3]
  rw [Finset.sum_range]
  congr 1
  refine Finset.sum_congr rfl fun f _ => ?_
  simp only [hh, h2, h3, h4]
  unfold term
  rw [dif_pos (show 256 * (t.val % 22) + f.val < 5632 from (col t f).isLt)]
  rfl

/-- The last point's store is the row plus half of what the block held. -/
theorem pay4_apply (t : Fin cfg0.N) (a : FVec Ideal S1056x2048 .f32) (p : Fin 1056) (d : Fin 2048) :
    k0_pay4 (F := Ideal) (iblk m c 0 t) a (ix2 p d) = aX m c (ix2 (row t p) d) + Ideal.ofBits .f32 0x3F000000#32 * a (ix2 p d) := by
  have h0 := blk0 m c t p
  generalize (iblk m c 0 t : FVec Ideal S1056x2048 .f32) = x at h0 ⊢
  pointwise [k0_pay4]
  simp only [h0]

theorem pay2_apply (p : Fin 1056) (d : Fin 2048) : k0_pay2 (F := Ideal) (ix2 p d) = 0 := by
  pointwise [k0_pay2]

/-! ## The points -/

/-- A row block's first point. -/
theorem at_A (t : Fin cfg0.N) (h0 : t.val % 22 = 0) (h1 : ¬t.val % 22 = 21) :
    outsAt0 m c t.val t.isLt = (k0_pay3 (k0_pay1 (iblk m c 0 t) (iblk m c 1 t)) (iblk m c 2 t) (iblk m c 3 t) (k0_pay2 (F := Ideal)) (iblk m c 4 t),
      k0_pay1 (iblk m c 0 t) (iblk m c 1 t)) := by
  rw [outsAt0_A m c t h0 h1]
  frame_out

/-- A row block's middle points. -/
theorem at_B (t : Fin cfg0.N) (h0 : ¬t.val % 22 = 0) (h1 : ¬t.val % 22 = 21) (o : FVec Ideal S1056x2048 .f32 × FVec Ideal S1056x2048 .bf16)
    (ho : outsAt0 m c (t.val - 1) (Nat.lt_of_le_of_lt (Nat.sub_le _ _) t.isLt) = o) :
    outsAt0 m c t.val t.isLt = (k0_pay3 o.2 (iblk m c 2 t) (iblk m c 3 t) o.1 (iblk m c 4 t), o.2) := by
  rw [outsAt0_B m c t h0 h1, ho]
  frame_out
  simp only [sout0_B_0, read_unread_whole]

/-- A row block's last point. -/
theorem at_C (t : Fin cfg0.N) (h0 : ¬t.val % 22 = 0) (h1 : t.val % 22 = 21) (o : FVec Ideal S1056x2048 .f32 × FVec Ideal S1056x2048 .bf16)
    (ho : outsAt0 m c (t.val - 1) (Nat.lt_of_le_of_lt (Nat.sub_le _ _) t.isLt) = o) :
    outsAt0 m c t.val t.isLt = (k0_pay4 (iblk m c 0 t) (k0_pay3 o.2 (iblk m c 2 t) (iblk m c 3 t) o.1 (iblk m c 4 t)), o.2) := by
  rw [outsAt0_C m c t h0 h1, ho]
  frame_out
  simp only [sout0_C_0, read_unread_whole]

/-- What a point leaves: the normed rows in the scratch; in the output block the sum over the chunks so far, the half-step
    at the last. -/
structure Holds (t : Fin cfg0.N) (o : FVec Ideal S1056x2048 .f32 × FVec Ideal S1056x2048 .bf16) : Prop where
  norm : ∀ p k, o.2 (ix2 p k) = normed (aX m c) (aG m c) (row t p) k
  sum : t.val % 22 ≠ 21 → ∀ p d, o.1 (ix2 p d) = part (aX m c) (aG m c) (aWg m c) (aWu m c) (aWd m c) (row t p) d (256 * (t.val % 22 + 1))
  last : t.val % 22 = 21 → ∀ p d, o.1 (ix2 p d) = out (aX m c) (aG m c) (aWg m c) (aWu m c) (aWd m c) (row t p) d

theorem holds (n : ℕ) : ∀ hn : n < cfg0.N, Holds m c ⟨n, hn⟩ (outsAt0 m c n hn) := by
  induction n with
  | zero =>
    intro hn
    rw [at_A m c ⟨0, hn⟩ rfl (show ¬0 % 22 = 21 by decide)]
    refine ⟨fun p k => pay1_apply m c _ p k, fun _ p d => ?_, fun h => absurd h (show ¬0 % 22 = 21 by decide)⟩
    show k0_pay3 _ _ _ _ _ (ix2 p d) = _
    rw [pay3_apply m c ⟨0, hn⟩ _ _ p d (fun k => pay1_apply m c _ p k), pay2_apply]
    exact part_first _ _ _ _ _ _ _
  | succ n ih =>
    intro hn
    have hp := ih (Nat.lt_of_succ_lt hn)
    have hN : n + 1 < 176 := hn
    by_cases h0 : (n + 1) % 22 = 0
    · rw [at_A m c ⟨n + 1, hn⟩ h0 (by dsimp only; omega)]
      refine ⟨fun p k => pay1_apply m c _ p k, fun _ p d => ?_, fun h => absurd h (by dsimp only; omega)⟩
      show k0_pay3 _ _ _ _ _ (ix2 p d) = _
      rw [pay3_apply m c ⟨n + 1, hn⟩ _ _ p d (fun k => pay1_apply m c _ p k), pay2_apply]
      dsimp only
      rw [h0]
      exact part_first _ _ _ _ _ _ _
    · have hrow : ∀ p, row ⟨n, Nat.lt_of_succ_lt hn⟩ p = row ⟨n + 1, hn⟩ p := fun p => Fin.ext (by simp only [row]; omega)
      have hj : n % 22 + 1 = (n + 1) % 22 := by omega
      have hnorm : ∀ p k, (outsAt0 m c n (Nat.lt_of_succ_lt hn)).2 (ix2 p k) = normed (aX m c) (aG m c) (row ⟨n + 1, hn⟩ p) k := fun p k => by
        rw [hp.norm p k, hrow]
      have hsum : ∀ p d, k0_pay3 (F := Ideal) (outsAt0 m c n (Nat.lt_of_succ_lt hn)).2 (iblk m c 2 ⟨n + 1, hn⟩) (iblk m c 3 ⟨n + 1, hn⟩)
          (outsAt0 m c n (Nat.lt_of_succ_lt hn)).1 (iblk m c 4 ⟨n + 1, hn⟩) (ix2 p d)
          = part (aX m c) (aG m c) (aWg m c) (aWu m c) (aWd m c) (row ⟨n + 1, hn⟩ p) d (256 * ((n + 1) % 22 + 1)) := fun p d => by
        rw [pay3_apply m c ⟨n + 1, hn⟩ _ _ p d (hnorm p), hp.sum (by dsimp only; omega) p d, hrow]
        dsimp only
        rw [hj]
        exact part_next _ _ _ _ _ _ _ _
      by_cases h1 : (n + 1) % 22 = 21
      · rw [at_C m c ⟨n + 1, hn⟩ h0 h1 _ rfl]
        refine ⟨fun p k => hnorm p k, fun h => absurd h1 h, fun _ p d => ?_⟩
        show k0_pay4 _ _ (ix2 p d) = _
        rw [pay4_apply m c ⟨n + 1, hn⟩]
        refine congrArg (fun z => aX m c (ix2 (row ⟨n + 1, hn⟩ p) d) + Ideal.ofBits .f32 0x3F000000#32 * z) ((hsum p d).trans ?_)
        rw [h1]
        exact part_all _ _ _ _ _ _ _
      · rw [at_B m c ⟨n + 1, hn⟩ h0 h1 _ rfl]
        exact ⟨fun p k => hnorm p k, fun _ p d => hsum p d, fun h => absurd h h1⟩

/-- The array the launch leaves is the half-step at every row. -/
theorem arr_out (i : S8448x2048.Idx) : Value.G5 m c i = out (aX m c) (aG m c) (aWg m c) (aWu m c) (aWd m c) (i 0) (i 1) := by
  obtain ⟨r, d, rfl⟩ : ∃ (r : Fin 8448) (d : Fin 2048), i = ix2 r d := ⟨i 0, i 1, ValueIdx.eq_ix2 i⟩
  have hpt : Value.pt5Of (ix2 r d) = 22 * (r.val / 1056) + 21 := by
    show 22 * (1 * (r.val / 1056 - 0) + 1 * (d.val / 2048 - 0)) + 21 = _
    omega
  have hlt : Value.pt5Of (ix2 r d) < cfg0.N := by
    rw [hpt]; show _ < 176; omega
  unfold Value.G5
  rw [dif_pos hlt, ← Value.outsAt0_sweep m c _ hlt]
  have hl : Value.loc5Of (ix2 r d) = ix2 ⟨r.val % 1056, Nat.mod_lt _ (by decide)⟩ d := by
    funext a
    refine Fin.cases ?_ (fun b => Fin.cases ?_ (fun e => e.elim0) b) a
    · rfl
    · exact Fin.ext (Nat.mod_eq_of_lt d.isLt)
  rw [hl, (holds m c _ hlt).last (by dsimp only; omega)]
  have hr : row ⟨Value.pt5Of (ix2 r d), hlt⟩ ⟨r.val % 1056, Nat.mod_lt _ (by decide)⟩ = r := Fin.ext (by simp only [row]; omega)
  rw [hr]
  rfl

end Cert.Kernel2Ideal.Ffn

end
-- ==== Proof.Ffn.Claims.lean ====
/-
  The claims about the feed-forward call: the three frames, that the ideal program is the kernel's own text, and that
  the ideal program and the reference leave one array.
-/
module

public import proofs.«01_k».proof.Defs
public import proofs.«01_k».proof.Proof.Gen.Kernel2
public import proofs.«01_k».proof.Proof.Gen.Reference2Ideal.Run
public import proofs.«01_k».proof.Proof.Ffn.Value
public import Idealize.ShloMosaic.Lib.Quiescent
public import Idealize.ShloMosaic.Lib.Claim

@[expose] public section

noncomputable section

namespace Cert.Proof

open Idealize.ShloMosaic Idealize.ShloMosaic.TcCoe Idealize.SL.Sem
open Idealize.ShloMosaic (ix2 ix3)

set_option maxHeartbeats 4000000 in
/-- The ideal program's body is the kernel's, -/
theorem body_eq2 : Cert.Kernel2.cc0_ffn (F := Bits) = Cert.Kernel2Ideal.cc0_ffn (F := Bits) := rfl

set_option maxHeartbeats 4000000 in
/-- and so is its table of bodies, -/
theorem defs₀_eq2 : Cert.Kernel2.defs₀ (F := Bits) = Cert.Kernel2Ideal.defs₀ (F := Bits) := by
  unfold Cert.Kernel2.defs₀
  rw [body_eq2]
  funext p l a
  match p, l, a with
  | .tc, ⟨0, _⟩, (t, s) => rfl
  | .tc, ⟨n + 1, h⟩, _ => exact absurd h (Nat.not_lt.2 (Nat.le_add_left _ _))
  | .scScalar _, _, _ => rfl
  | .scVector _ _, _, _ => rfl

set_option maxHeartbeats 4000000 in
/-- the table with the pipeline's own, -/
theorem defs_eq2 : Cert.Kernel2.defs (F := Bits) = Cert.Kernel2Ideal.defs (F := Bits) := by
  show Pipeline.defs Cert.Kernel2.pcfgs Cert.Kernel2.defs₀ = Pipeline.defs Cert.Kernel2Ideal.pcfgs Cert.Kernel2Ideal.defs₀
  rw [defs₀_eq2]; rfl

set_option maxHeartbeats 4000000 in
/-- and its main. -/
theorem main_eq2 : Cert.Kernel2.main (F := Bits) = Cert.Kernel2Ideal.main (F := Bits) := rfl

/-- The kernel's frame: the ideal program has its text, and its run is one for any float values. -/
theorem frame_kernel2 : Cert.quiescent_Kernel2 := fun m ρ _ => by
  rw [defs_eq2, main_eq2]
  exact Cert.Kernel2Ideal.Gen.frame (F := Bits) m ρ

/-- The ideal kernel's frame. -/
theorem frame_ideal2 : Cert.quiescent_Kernel2Ideal := fun m ρ _ => Cert.Kernel2Ideal.Gen.frame (F := Ideal) m ρ

/-- The reference's frame: it has host operations alone and no semaphore. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The ideal program replaces nothing. -/
theorem preserves_kernel2 : Cert.preserves_Kernel2_Kernel2Ideal := trivial

/-- The half-step's array. -/
def halfStep (x : Cert.HalfStep.Acts) (g : Cert.HalfStep.Gains) (wg wu : Cert.HalfStep.InWeights) (wd : Cert.HalfStep.OutWeights) :
    FVec Ideal ⟨2, ![8448, 2048]⟩ .f32 := fun i => Cert.HalfStep.out x g wg wu wd (i 0) (i 1)

section Reference

open Cert.Reference2Ideal Cert.Reference2Ideal.Gen

set_option maxRecDepth 100000 in
set_option maxHeartbeats 2000000 in
/-- The reference leaves the half-step's array. -/
theorem reference2_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = halfStep (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run Cert.Reference2Ideal.defs _ _).mono (fun r h c => ⟨(h c).1.trans ?_, (h c).2⟩) (Cert.Reference2Ideal.Value.run (F := Ideal) m ρ)
  funext i
  obtain ⟨p, k, rfl⟩ : ∃ (p : Fin 8448) (k : Fin 2048), i = ix2 p k := ⟨i 0, i 1, ValueIdx.eq_ix2 i⟩
  pointwise
  rfl

end Reference

/-- The ideal kernel and the reference leave the same array: the half-step of every row. -/
theorem algebraic_kernel2 : Cert.algebraic_Kernel2Ideal_Reference2Ideal := by
  intro m g m' g' _ hagree
  refine ⟨fun c => halfStep (m ((c.tc : Thread _ _).loc Cert.Kernel2Ideal.main_arg0)) (m ((c.tc : Thread _ _).loc Cert.Kernel2Ideal.main_arg1))
    (m ((c.tc : Thread _ _).loc Cert.Kernel2Ideal.main_arg2)) (m ((c.tc : Thread _ _).loc Cert.Kernel2Ideal.main_arg3))
    (m ((c.tc : Thread _ _).loc Cert.Kernel2Ideal.main_arg4)), ?_, ?_⟩
  · exact (θ_run Cert.Kernel2Ideal.defs _ _).mono (fun r h c => ⟨(h c).1.trans (funext fun i => Cert.Kernel2Ideal.Ffn.arr_out m c i), (h c).2⟩)
      (Cert.Kernel2Ideal.Value.run (F := Ideal) m g)
  · refine (θ_run Cert.Reference2Ideal.defs _ _).mono (fun r h c => ⟨(h c).1.trans ?_, (h c).2⟩) (reference2_out m' g')
    obtain ⟨e0, e1, e2, e3, e4⟩ := hagree c
    exact congr (congr (congr (congr (congrArg halfStep e0) e1) e2) e3) e4

end Cert.Proof

end
-- ==== Proof.Proj.InFold.lean ====
/-
The input projection's two products in the idealized version: what each grid point writes back, what the outputs
and the scratch hold after each point as one fold from the first point, and each product's array after the run as
that fold read at the point that flushes the block holding each index.
-/
module

public import proofs.«01_k».proof.Proof.Gen.Kernel3Ideal.Frame
public import Idealize.ShloMosaic.Lib.Pipeline.Value

@[expose] public section

noncomputable section

namespace Cert.Kernel3Ideal.InFold

open Cert.Kernel3Ideal Cert.Kernel3Ideal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## What each point writes back -/

/-- What point `t` writes back to the array of output window 3 is what the point leaves in the window's block. -/
theorem flushed3 (c : Dev nD) (t : Fin cfg0.N) :
    (dats m 0 c).flushed 3 t = (cfg0.win 3).cut (grid0.coords t) ((outsAt0 m c t.val t.isLt).1) := by
  show (cfg0.win 3).cut (grid0.coords t) ((dats m 0 c).after 3 t) = _
  rw [after0_3]

/-- What point `t` writes back to the array of output window 4 is what the point leaves in the window's block. -/
theorem flushed4 (c : Dev nD) (t : Fin cfg0.N) :
    (dats m 0 c).flushed 4 t = (cfg0.win 4).cut (grid0.coords t) ((outsAt0 m c t.val t.isLt).2.1) := by
  show (cfg0.win 4).cut (grid0.coords t) ((dats m 0 c).after 4 t) = _
  rw [after0_4]

/-! ## What the points leave as one fold -/

/-- What the fold starts from, which the first point does not read. -/
def junk0 : Vec F S1056x1024 .f32 × Vec F S1056x1024 .bf16 × Vec F S1056x2048 .bf16 :=
  ((VO0_3.read (Elt F) VO0_3.junk, VO0_4.read (Elt F) VO0_4.junk, VS0_0.read (Elt F) VS0_0.junk) : Vec F S1056x1024 .f32 × Vec F S1056x1024 .bf16 × Vec F S1056x2048 .bf16)

/-- What point `n` leaves in the two output blocks and the scratch, over what the point before left in them. -/
def stAt0 (c : Dev nD) (n : ℕ) (hb : n < cfg0.N) (acc : Vec F S1056x1024 .f32 × Vec F S1056x1024 .bf16 × Vec F S1056x2048 .bf16) : Vec F S1056x1024 .f32 × Vec F S1056x1024 .bf16 × Vec F S1056x2048 .bf16 :=
  if h0 : n % 4 = 0 then
    (out0_A_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)), out0_A_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)))
  else
    (out0_B_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc.2.2, out0_B_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc.2.2)

/-- At the first point of a row block all three are stored anew. -/
theorem stAt0_A (c : Dev nD) (t : Fin cfg0.N) (acc : Vec F S1056x1024 .f32 × Vec F S1056x1024 .bf16 × Vec F S1056x2048 .bf16) (h0 : t.val % 4 = 0) :
    stAt0 m c t.val t.isLt acc = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t)) :=
  (dif_pos h0).trans rfl

/-- At the other points the output blocks are stored from the scratch, which stays. -/
theorem stAt0_B (c : Dev nD) (t : Fin cfg0.N) (acc : Vec F S1056x1024 .f32 × Vec F S1056x1024 .bf16 × Vec F S1056x2048 .bf16) (h0 : ¬t.val % 4 = 0) :
    stAt0 m c t.val t.isLt acc = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) acc.2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) acc.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) acc.2.2) :=
  (dif_neg h0).trans rfl

/-- What the points leave follows this step, -/
theorem outsAt0_succ (c : Dev nD) (n : ℕ) (hn : n + 1 < cfg0.N) :
    outsAt0 m c (n + 1) hn = stAt0 m c (n + 1) hn (outsAt0 m c n (Nat.lt_of_succ_lt hn)) := rfl

/-- from the first point on. -/
theorem outsAt0_zero (c : Dev nD) (hn : 0 < cfg0.N) : outsAt0 m c 0 hn = stAt0 m c 0 hn junk0 := by
  rw [stAt0_A m c ⟨0, hn⟩ _ (Nat.zero_mod _)]
  rfl

/-- The two output blocks and the scratch after point `n` are the fold of the step from the first point. -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 32 from N_0)
  have e := Pipeline.eq_accAt_of_mod (fun n h => outsAt0 m c n h) 32 (fun n h => stAt0 m c n h junk0) (stAt0 m c)
    (fun n h _ => by
      have hN := lt_of_lt_of_eq h (show cfg0.N = 32 from N_0)
      obtain rfl : n = 0 := by omega
      exact outsAt0_zero m c h)
    (fun n h _ => outsAt0_succ m c n h)
    (by decide) n hn (by have := Nat.div_add_mod n 32; omega)
  have hd : n / 32 = 0 := Nat.div_eq_of_lt hN
  have hm : n % 32 = n := Nat.mod_eq_of_lt hN
  simpa only [hd, hm, Nat.mul_zero] using e

/-! ## The arrays after the run -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 3 -/

/-- The block of the array that holds index `i`, numbered in the order the points write the blocks back (one per point),
    `i`'s place in it, and the point that writes it back. -/
abbrev run3Of (i : S8448x4096.Idx) : ℕ := 4 * ((i 0).val / 1056 - 0) + 1 * ((i 1).val / 1024 - 0)
set_option backward.proofsInPublic true in
abbrev loc3Of (i : S8448x4096.Idx) : S1056x1024.Idx := fun a => match a with
  | ⟨0, _⟩ => ⟨(i 0).val % 1056, Nat.mod_lt _ (by decide)⟩
  | ⟨1, _⟩ => ⟨(i 1).val % 1024, Nat.mod_lt _ (by decide)⟩
abbrev pt3Of (i : S8448x4096.Idx) : ℕ := run3Of i

/-- What output window 3's array ends holding at index `i`: the fold's block of that window after the point that writes
    `i`'s block back, at `i`'s place in the block. -/
def G3 (c : Dev nD) : Buf (Elt F) ((c : Thread nD τ).loc main_v1_0) := fun i =>
  if h : pt3Of i < cfg0.N then
    (Pipeline.accAt (fun n h => stAt0 m c n h junk0) (stAt0 m c) 0 (pt3Of i) (by omega)).1 (loc3Of i)
  else V m c (Pipeline.arrRef spec0 3) i

/-- Output window 3's block indices at each point, and the point's number read off them. -/
theorem idx_facts3 : ∀ t : Fin cfg0.N, 0 ≤ win0_3.index t (0 : Fin 2) ∧ win0_3.index t (0 : Fin 2) ≤ 7
    ∧ 0 ≤ win0_3.index t (1 : Fin 2) ∧ win0_3.index t (1 : Fin 2) ≤ 3
    ∧ 4 * (win0_3.index t (0 : Fin 2) - 0) + 1 * (win0_3.index t (1 : Fin 2) - 0) = t.val :=
  (by decide +kernel : ∀ t : Fin grid0.N, _)

/-- The point that writes back the block at place `q`. -/
abbrev onto3Pt (q0 : Fin 8) (q1 : Fin 4) : Fin grid0.N :=
  ⟨4 * q0.val + 1 * q1.val, lt_of_lt_of_eq (by omega) N_0.symm⟩
theorem idx_onto3 : ∀ (q0 : Fin 8) (q1 : Fin 4), ∃ t : Fin cfg0.N, (cfg0.win 3).flush t = true ∧ win0_3.index t = ![q0.val + 0, q1.val + 0] :=
  fun q0 q1 => ⟨onto3Pt q0 q1, (by decide +kernel : ∀ (q0 : Fin 8) (q1 : Fin 4), win0_3.flush (onto3Pt q0 q1) = true ∧ win0_3.index (onto3Pt q0 q1) = ![q0.val + 0, q1.val + 0]) q0 q1⟩

/-- What a point writes back is its block of `G3`. -/
theorem flushed3_eq (c : Dev nD) (t : Fin cfg0.N) (hf : (cfg0.win 3).flush t = true) :
    (dats m 0 c).flushed 3 t = ((cfg0.win 3).blk t).view.read (Elt F) (G3 m c) := by
  show (cfg0.win 3).cut (grid0.coords t) ((dats m 0 c).after 3 t) = _
  rw [after0_3, outsAt0_sweep]
  obtain ⟨e0, e1, e2⟩ := idx_facts3 t
  funext y
  have hy0 : (y 0).val < 1056 := (y 0).isLt
  have hy1 : (y 1).val < 1024 := (y 1).isLt
  have hb0 : (((cfg0.win 3).blk t).view.emb y 0).val = win0_3.index t (0 : Fin 2) * 1056 + 1 * (y 0).val := rfl
  have hb1 : (((cfg0.win 3).blk t).view.emb y 1).val = win0_3.index t (1 : Fin 2) * 1024 + 1 * (y 1).val := rfl
  have hr : run3Of (((cfg0.win 3).blk t).view.emb y) = t.val := by
    show 4 * ((((cfg0.win 3).blk t).view.emb y 0).val / 1056 - 0) + 1 * ((((cfg0.win 3).blk t).view.emb y 1).val / 1024 - 0) = _
    rw [hb0, hb1]
    rw [show (win0_3.index t (0 : Fin 2) * 1056 + 1 * (y 0).val) / 1056 = win0_3.index t (0 : Fin 2) from by omega]; rw [show (win0_3.index t (1 : Fin 2) * 1024 + 1 * (y 1).val) / 1024 = win0_3.index t (1 : Fin 2) from by omega]
    omega
  have hl : loc3Of (((cfg0.win 3).blk t).view.emb y) = (cfg0.win 3).xinj (grid0.coords t) y := by
    funext a; apply Fin.ext
    match a with
    | ⟨0, _⟩ => show (((cfg0.win 3).blk t).view.emb y 0).val % 1056 = (y 0).val; rw [hb0]; omega
    | ⟨1, _⟩ => show (((cfg0.win 3).blk t).view.emb y 1).val % 1024 = (y 1).val; rw [hb1]; omega
  have hp : pt3Of (((cfg0.win 3).blk t).view.emb y) = t.val := by
    exact hr
  show (Pipeline.accAt (fun n h => stAt0 m c n h junk0) (stAt0 m c) 0 t.val _).1 ((cfg0.win 3).xinj (grid0.coords t) y) = G3 m c (((cfg0.win 3).blk t).view.emb y)
  unfold G3
  rw [dif_pos (by rw [hp]; exact t.isLt), hl, fold0_congr m c _ _ _ _ hp.symm]

/-- An index of the array is in point `t`'s block iff each coordinate is in the block's range on its axis. -/
theorem mem_blk3 (t : Fin cfg0.N) (i : S8448x4096.Idx) :
    i ∈ ((cfg0.win 3).blk t).view.set ↔ ∀ a : Fin 2, win0_3.index t a * S1056x1024.size a ≤ (i a).val ∧ (i a).val < win0_3.index t a * S1056x1024.size a + S1056x1024.size a := by
  show i ∈ ((View.whole main_v1_0).slice (win0_3.rect t)).set ↔ _
  rw [View.set_slice_whole, Rect.mem_set_unit]
  exact Iff.rfl

/-- The indices that some point's block written back holds. -/
theorem covered_iff3 (i : S8448x4096.Idx) :
    (∃ t : Fin cfg0.N, (cfg0.win 3).flush t = true ∧ i ∈ ((cfg0.win 3).blk t).view.set) ↔ 0 ≤ (i 0).val ∧ (i 0).val < 8448 ∧ 0 ≤ (i 1).val ∧ (i 1).val < 4096 := by
  constructor
  · rintro ⟨t, -, hi⟩
    rw [mem_blk3] at hi
    have b0 : win0_3.index t (0 : Fin 2) * 1056 ≤ (i 0).val ∧ (i 0).val < win0_3.index t (0 : Fin 2) * 1056 + 1056 := hi 0
    have b1 : win0_3.index t (1 : Fin 2) * 1024 ≤ (i 1).val ∧ (i 1).val < win0_3.index t (1 : Fin 2) * 1024 + 1024 := hi 1
    obtain ⟨e0, e1, e2⟩ := idx_facts3 t
    omega
  · intro h
    have hi0 : (i 0).val < 8448 := (i 0).isLt
    have hi1 : (i 1).val < 4096 := (i 1).isLt
    obtain ⟨t, hft, ht⟩ := idx_onto3 ⟨(i 0).val / 1056 - 0, by omega⟩ ⟨(i 1).val / 1024 - 0, by omega⟩
    have q0 : win0_3.index t (0 : Fin 2) = (i 0).val / 1056 - 0 + 0 := congrFun ht 0
    have q1 : win0_3.index t (1 : Fin 2) = (i 1).val / 1024 - 0 + 0 := congrFun ht 1
    refine ⟨t, hft, ?_⟩
    rw [mem_blk3]
    intro a
    match a with
    | ⟨0, _⟩ => show win0_3.index t (0 : Fin 2) * 1056 ≤ (i 0).val ∧ (i 0).val < win0_3.index t (0 : Fin 2) * 1056 + 1056; omega
    | ⟨1, _⟩ => show win0_3.index t (1 : Fin 2) * 1024 ≤ (i 1).val ∧ (i 1).val < win0_3.index t (1 : Fin 2) * 1024 + 1024; omega

/-- The array after the run is `G3`. -/
theorem final3 (c : Dev nD) : (dats m 0 c).arrAt 3 cfg0.N = G3 m c :=
  (dats m 0 c).arrAt_eq_of_cover 3 _ (fun t hf => flushed3_eq m c t hf) (fun i => (covered_iff3 i).2 (by
    have h0 : (i 0).val < 8448 := (i 0).isLt; have h1 : (i 1).val < 4096 := (i 1).isLt; omega))

/-! ## Output window 4 -/

/-- The block of the array that holds index `i`, numbered in the order the points write the blocks back (one per point),
    `i`'s place in it, and the point that writes it back. -/
abbrev run4Of (i : S8448x4096.Idx) : ℕ := 4 * ((i 0).val / 1056 - 0) + 1 * ((i 1).val / 1024 - 0)
set_option backward.proofsInPublic true in
abbrev loc4Of (i : S8448x4096.Idx) : S1056x1024.Idx := fun a => match a with
  | ⟨0, _⟩ => ⟨(i 0).val % 1056, Nat.mod_lt _ (by decide)⟩
  | ⟨1, _⟩ => ⟨(i 1).val % 1024, Nat.mod_lt _ (by decide)⟩
abbrev pt4Of (i : S8448x4096.Idx) : ℕ := run4Of i

/-- What output window 4's array ends holding at index `i`: the fold's block of that window after the point that writes
    `i`'s block back, at `i`'s place in the block. -/
def G4 (c : Dev nD) : Buf (Elt F) ((c : Thread nD τ).loc main_v1_1) := fun i =>
  if h : pt4Of i < cfg0.N then
    (Pipeline.accAt (fun n h => stAt0 m c n h junk0) (stAt0 m c) 0 (pt4Of i) (by omega)).2.1 (loc4Of i)
  else V m c (Pipeline.arrRef spec0 4) i

/-- Output window 4's block indices at each point, and the point's number read off them. -/
theorem idx_facts4 : ∀ t : Fin cfg0.N, 0 ≤ win0_4.index t (0 : Fin 2) ∧ win0_4.index t (0 : Fin 2) ≤ 7
    ∧ 0 ≤ win0_4.index t (1 : Fin 2) ∧ win0_4.index t (1 : Fin 2) ≤ 3
    ∧ 4 * (win0_4.index t (0 : Fin 2) - 0) + 1 * (win0_4.index t (1 : Fin 2) - 0) = t.val :=
  (by decide +kernel : ∀ t : Fin grid0.N, _)

/-- The point that writes back the block at place `q`. -/
abbrev onto4Pt (q0 : Fin 8) (q1 : Fin 4) : Fin grid0.N :=
  ⟨4 * q0.val + 1 * q1.val, lt_of_lt_of_eq (by omega) N_0.symm⟩
theorem idx_onto4 : ∀ (q0 : Fin 8) (q1 : Fin 4), ∃ t : Fin cfg0.N, (cfg0.win 4).flush t = true ∧ win0_4.index t = ![q0.val + 0, q1.val + 0] :=
  fun q0 q1 => ⟨onto4Pt q0 q1, (by decide +kernel : ∀ (q0 : Fin 8) (q1 : Fin 4), win0_4.flush (onto4Pt q0 q1) = true ∧ win0_4.index (onto4Pt q0 q1) = ![q0.val + 0, q1.val + 0]) q0 q1⟩

/-- What a point writes back is its block of `G4`. -/
theorem flushed4_eq (c : Dev nD) (t : Fin cfg0.N) (hf : (cfg0.win 4).flush t = true) :
    (dats m 0 c).flushed 4 t = ((cfg0.win 4).blk t).view.read (Elt F) (G4 m c) := by
  show (cfg0.win 4).cut (grid0.coords t) ((dats m 0 c).after 4 t) = _
  rw [after0_4, outsAt0_sweep]
  obtain ⟨e0, e1, e2⟩ := idx_facts4 t
  funext y
  have hy0 : (y 0).val < 1056 := (y 0).isLt
  have hy1 : (y 1).val < 1024 := (y 1).isLt
  have hb0 : (((cfg0.win 4).blk t).view.emb y 0).val = win0_4.index t (0 : Fin 2) * 1056 + 1 * (y 0).val := rfl
  have hb1 : (((cfg0.win 4).blk t).view.emb y 1).val = win0_4.index t (1 : Fin 2) * 1024 + 1 * (y 1).val := rfl
  have hr : run4Of (((cfg0.win 4).blk t).view.emb y) = t.val := by
    show 4 * ((((cfg0.win 4).blk t).view.emb y 0).val / 1056 - 0) + 1 * ((((cfg0.win 4).blk t).view.emb y 1).val / 1024 - 0) = _
    rw [hb0, hb1]
    rw [show (win0_4.index t (0 : Fin 2) * 1056 + 1 * (y 0).val) / 1056 = win0_4.index t (0 : Fin 2) from by omega]; rw [show (win0_4.index t (1 : Fin 2) * 1024 + 1 * (y 1).val) / 1024 = win0_4.index t (1 : Fin 2) from by omega]
    omega
  have hl : loc4Of (((cfg0.win 4).blk t).view.emb y) = (cfg0.win 4).xinj (grid0.coords t) y := by
    funext a; apply Fin.ext
    match a with
    | ⟨0, _⟩ => show (((cfg0.win 4).blk t).view.emb y 0).val % 1056 = (y 0).val; rw [hb0]; omega
    | ⟨1, _⟩ => show (((cfg0.win 4).blk t).view.emb y 1).val % 1024 = (y 1).val; rw [hb1]; omega
  have hp : pt4Of (((cfg0.win 4).blk t).view.emb y) = t.val := by
    exact hr
  show (Pipeline.accAt (fun n h => stAt0 m c n h junk0) (stAt0 m c) 0 t.val _).2.1 ((cfg0.win 4).xinj (grid0.coords t) y) = G4 m c (((cfg0.win 4).blk t).view.emb y)
  unfold G4
  rw [dif_pos (by rw [hp]; exact t.isLt), hl, fold0_congr m c _ _ _ _ hp.symm]

/-- An index of the array is in point `t`'s block iff each coordinate is in the block's range on its axis. -/
theorem mem_blk4 (t : Fin cfg0.N) (i : S8448x4096.Idx) :
    i ∈ ((cfg0.win 4).blk t).view.set ↔ ∀ a : Fin 2, win0_4.index t a * S1056x1024.size a ≤ (i a).val ∧ (i a).val < win0_4.index t a * S1056x1024.size a + S1056x1024.size a := by
  show i ∈ ((View.whole main_v1_1).slice (win0_4.rect t)).set ↔ _
  rw [View.set_slice_whole, Rect.mem_set_unit]
  exact Iff.rfl

/-- The indices that some point's block written back holds. -/
theorem covered_iff4 (i : S8448x4096.Idx) :
    (∃ t : Fin cfg0.N, (cfg0.win 4).flush t = true ∧ i ∈ ((cfg0.win 4).blk t).view.set) ↔ 0 ≤ (i 0).val ∧ (i 0).val < 8448 ∧ 0 ≤ (i 1).val ∧ (i 1).val < 4096 := by
  constructor
  · rintro ⟨t, -, hi⟩
    rw [mem_blk4] at hi
    have b0 : win0_4.index t (0 : Fin 2) * 1056 ≤ (i 0).val ∧ (i 0).val < win0_4.index t (0 : Fin 2) * 1056 + 1056 := hi 0
    have b1 : win0_4.index t (1 : Fin 2) * 1024 ≤ (i 1).val ∧ (i 1).val < win0_4.index t (1 : Fin 2) * 1024 + 1024 := hi 1
    obtain ⟨e0, e1, e2⟩ := idx_facts4 t
    omega
  · intro h
    have hi0 : (i 0).val < 8448 := (i 0).isLt
    have hi1 : (i 1).val < 4096 := (i 1).isLt
    obtain ⟨t, hft, ht⟩ := idx_onto4 ⟨(i 0).val / 1056 - 0, by omega⟩ ⟨(i 1).val / 1024 - 0, by omega⟩
    have q0 : win0_4.index t (0 : Fin 2) = (i 0).val / 1056 - 0 + 0 := congrFun ht 0
    have q1 : win0_4.index t (1 : Fin 2) = (i 1).val / 1024 - 0 + 0 := congrFun ht 1
    refine ⟨t, hft, ?_⟩
    rw [mem_blk4]
    intro a
    match a with
    | ⟨0, _⟩ => show win0_4.index t (0 : Fin 2) * 1056 ≤ (i 0).val ∧ (i 0).val < win0_4.index t (0 : Fin 2) * 1056 + 1056; omega
    | ⟨1, _⟩ => show win0_4.index t (1 : Fin 2) * 1024 ≤ (i 1).val ∧ (i 1).val < win0_4.index t (1 : Fin 2) * 1024 + 1024; omega

/-- The array after the run is `G4`. -/
theorem final4 (c : Dev nD) : (dats m 0 c).arrAt 4 cfg0.N = G4 m c :=
  (dats m 0 c).arrAt_eq_of_cover 4 _ (fun t hf => flushed4_eq m c t hf) (fun i => (covered_iff4 i).2 (by
    have h0 : (i 0).val < 8448 := (i 0).isLt; have h1 : (i 1).val < 4096 := (i 1).isLt; omega))

end Cert.Kernel3Ideal.InFold

end
-- ==== Proof.Proj.InSpec.lean ====
/-
  The input projection over the extended reals: a normed row against a column of the weights; and its copy in which
  the queries' 1024 columns carry the logits' scale over the logarithm of two.
-/
module

public import proofs.«01_k».proof.Proof.Ffn.Spec

@[expose] public section

noncomputable section

namespace Cert.InProj

open Idealize.ShloMosaic Cert.HalfStep
open Idealize.ShloMosaic (ix2 ix3)

/-- The weights, of the two layers. -/
abbrev Weights := FVec Ideal ⟨3, ![2, 2048, 4096]⟩ .f32

/-- The projection of row `r` onto column `n`. -/
def proj (x : Acts) (g : Gains) (w : Weights) (r : Fin 8448) (n : Fin 4096) : EReal := ∑ k, normed x g r k * w (ix3 0 k n)

/-- The queries' factor: the logits' scale over the logarithm of two. -/
def scale : EReal := ((11863283 / 134217728 * (Real.log 2)⁻¹ : ℝ) : EReal)

/-- The projection with the queries scaled. -/
def scaled (x : Acts) (g : Gains) (w : Weights) (r : Fin 8448) (n : Fin 4096) : EReal :=
  if n.val < 1024 then proj x g w r n * scale else proj x g w r n

/-- The scale of the logits, of its bits. -/
theorem head_bits : Ideal.ofBits .f32 0x3DB504F3#32 = ((11863283 / 134217728 : ℝ) : EReal) := by
  simp [Ideal.ofBits, Ideal.ieee, -EReal.coe_mul]; norm_num

/-- The logarithm of two, of two's bits. -/
theorem log_bits : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]; norm_num
  rw [h, Ideal.log_coe, if_neg (by norm_num)]

/-- Scaling and then dividing by the logarithm is one factor. -/
theorem scale_div (z : EReal) : Ideal.div (z * Ideal.ofBits .f32 0x3DB504F3#32) (Ideal.log (Ideal.ofBits .f32 0x40000000#32)) = z * scale := by
  rw [log_bits, head_bits, Ideal.div_coe (Real.log_pos (by norm_num)).ne', mul_assoc, scale, one_div, EReal.coe_mul]

end Cert.InProj

end
-- ==== Proof.Proj.InValue.lean ====
/-
  What the input projection's launch leaves: after each of the 32 points the scratch holds the row block's normed rows,
  the first output block their products with the point's columns, and the second the same with the queries scaled.
-/
module

public import proofs.«01_k».proof.Proof.Proj.InFold
public import proofs.«01_k».proof.Proof.Proj.InSpec
public import Idealize.ShloMosaic.Lib.StableHlo.ReadAt
public import Idealize.ShloMosaic.Lib.Pipeline.ReadBack
public import Idealize.ShloMosaic.Lib.Pipeline.ValueKit
public import Idealize.ShloMosaic.Lib.Claim

@[expose] public section

noncomputable section

namespace Cert.Kernel3Ideal.InProj

open Cert.Kernel3Ideal Cert.Kernel3Ideal.Gen Cert.HalfStep Cert.InProj
open Idealize.ShloMosaic Idealize.ShloMosaic.TcCoe Idealize.SL.Sem
open Idealize.ShloMosaic (ix0 ix1 ix2 ix3)

variable (m : (ℓ : Loc nD τ sig) → Buf (Elt Ideal) ℓ) (c : Dev nD)

/-- The activations, the gains and the weights, as the program gets them. -/
def aX : FVec Ideal S8448x2048 .f32 := m ((c : Thread nD τ).loc main_arg0)
def aG : FVec Ideal S2x2048 .f32 := m ((c : Thread nD τ).loc main_arg1)
def aW : FVec Ideal S2x2048x4096 .f32 := m ((c : Thread nD τ).loc main_arg2)

theorem lt32 (t : Fin cfg0.N) : t.val < 32 := t.isLt

/-- The row of the array at row `p` of point `t`'s row block. -/
def row (t : Fin cfg0.N) (p : Fin 1056) : Fin 8448 := ⟨1056 * (t.val / 4) + p.val, by have := lt32 t; omega⟩

/-- The column of the array at column `n` of point `t`'s block. -/
def col (t : Fin cfg0.N) (n : Fin 1024) : Fin 4096 := ⟨1024 * (t.val % 4) + n.val, by omega⟩

/-! ## The blocks of a point -/

theorem idx : ∀ t : Fin cfg0.N, win0_0.index t = ![t.val / 4, 0] ∧ win0_1.index t = ![0, 0, 0] ∧ win0_2.index t = ![0, 0, t.val % 4] :=
  (by decide +kernel : ∀ t : Fin grid0.N, _)

/-- The second grid coordinate. -/
theorem coord1 : ∀ t : Fin cfg0.N, ((grid0.coords t) 1).val = t.val % 4 := (by decide +kernel : ∀ t : Fin grid0.N, _)

/-- The gains with a unit axis between, which the launch takes. -/
theorem V_gain : (V m c main_v0 : FVec Ideal S2x1x2048 .f32) = broadcastInDim S2x1x2048 ![0, 2] bcast_S2x2048_S2x1x2048_0_2 (aG m c) := by
  unfold V
  after_reads_simp
  rfl
theorem V_x : (V m c main_arg0 : FVec Ideal S8448x2048 .f32) = aX m c := by
  unfold V
  after_reads_simp
  rfl
theorem V_w : (V m c main_arg2 : FVec Ideal S2x2048x4096 .f32) = aW m c := by
  unfold V
  after_reads_simp
  rfl

theorem blk0 (t : Fin cfg0.N) (p : Fin 1056) (k : Fin 2048) : (iblk m c 0 t : FVec Ideal S1056x2048 .f32) (ix2 p k) = aX m c (ix2 (row t p) k) := by
  rw [← V_x]
  blk_ext [iblk, idx t, row]
theorem blk1 (t : Fin cfg0.N) (k : Fin 2048) : (iblk m c 1 t : FVec Ideal S1x1x2048 .f32) (ix3 0 0 k) = aG m c (ix2 0 k) := by
  refine Eq.trans (b := (V m c main_v0 : FVec Ideal S2x1x2048 .f32) (ix3 0 0 k)) ?_ ?_
  · blk_ext [iblk, idx t]
  · rw [V_gain]
    pointwise
theorem blk2 (t : Fin cfg0.N) (k : Fin 2048) (n : Fin 1024) : (iblk m c 2 t : FVec Ideal S1x2048x1024 .f32) (ix3 0 k n) = aW m c (ix3 0 k (col t n)) := by
  rw [← V_w]
  blk_ext [iblk, idx t, col]

/-! ## The body's stores -/

set_option maxRecDepth 100000 in
/-- The scratch's store is the normed rows of the row block. -/
theorem pay1_apply (t : Fin cfg0.N) (p : Fin 1056) (k : Fin 2048) :
    k0_pay1 (F := Ideal) (iblk m c 0 t) (iblk m c 1 t) (ix2 p k) = normed (aX m c) (aG m c) (row t p) k := by
  have h0 := blk0 m c t p
  have h1 := blk1 m c t
  generalize (iblk m c 0 t : FVec Ideal S1056x2048 .f32) = x at h0 ⊢
  generalize (iblk m c 1 t : FVec Ideal S1x1x2048 .f32) = g at h1 ⊢
  pointwise [k0_pay1]
  simp only [h0, h1]
  rfl

set_option maxRecDepth 100000 in
/-- The first output's store is the projection, the scratch holding the normed rows. -/
theorem pay2_apply (t : Fin cfg0.N) (h : FVec Ideal S1056x2048 .bf16) (p : Fin 1056) (n : Fin 1024)
    (hh : ∀ k, h (ix2 p k) = normed (aX m c) (aG m c) (row t p) k) :
    k0_pay2 (F := Ideal) h (iblk m c 2 t) (ix2 p n) = proj (aX m c) (aG m c) (aW m c) (row t p) (col t n) := by
  have h2 := blk2 m c t
  generalize (iblk m c 2 t : FVec Ideal S1x2048x1024 .f32) = w at h2 ⊢
  pointwise [k0_pay2]
  simp only [hh, h2]
  rfl

/-- The named constant is the queries' factor. -/
theorem qscale_eq : Named.named (F := Ideal) κ "qscale" (φ := .f32) 0x3E0293EE#32 = scale :=
  IdealRules.named_const.ideal_named_scalar _ _ _ _ rfl

set_option maxRecDepth 100000 in
/-- The second output's store is the projection with the queries scaled. -/
theorem pay3_apply (t : Fin cfg0.N) (h : FVec Ideal S1056x2048 .bf16) (p : Fin 1056) (n : Fin 1024)
    (hh : ∀ k, h (ix2 p k) = normed (aX m c) (aG m c) (row t p) k) :
    k0_pay3 (F := Ideal) (grid0.coords t) h (iblk m c 2 t) (ix2 p n) = scaled (aX m c) (aG m c) (aW m c) (row t p) (col t n) := by
  have h2 := pay2_apply m c t h p n hh
  generalize (iblk m c 2 t : FVec Ideal S1x2048x1024 .f32) = w at h2 ⊢
  have e : k0_pay3 (F := Ideal) (grid0.coords t) h w (ix2 p n) = k0_pay2 (F := Ideal) h w (ix2 p n)
      * Scalar.select (Scalar.cmpi .eq (BitVec.ofNat 32 ((grid0.coords t) 1).val) 0#32) (Named.named (F := Ideal) κ "qscale" (φ := .f32) 0x3E0293EE#32) 1 := by
    pointwise [k0_pay3, k0_pay2]
  rw [e, h2, qscale_eq, coord1]
  have hj : t.val % 4 < 4 := Nat.mod_lt _ (by decide)
  have hc : (col t n).val = 1024 * (t.val % 4) + n.val := rfl
  unfold scaled
  rw [hc]
  generalize t.val % 4 = j at hj ⊢
  obtain rfl | hj0 := Nat.eq_zero_or_pos j
  · rw [if_pos (by omega)]
    rfl
  · rw [if_neg (by omega)]
    have : Scalar.select (Scalar.cmpi .eq (BitVec.ofNat 32 j) 0#32) scale (1 : EReal) = 1 := by
      obtain rfl | rfl | rfl : j = 1 ∨ j = 2 ∨ j = 3 := by omega
      all_goals rfl
    rw [this, mul_one]

/-! ## The points -/

/-- A row block's first point. -/
theorem at_A (t : Fin cfg0.N) (h0 : t.val % 4 = 0) :
    outsAt0 m c t.val t.isLt = (k0_pay2 (k0_pay1 (iblk m c 0 t) (iblk m c 1 t)) (iblk m c 2 t),
      k0_pay3 (grid0.coords t) (k0_pay1 (iblk m c 0 t) (iblk m c 1 t)) (iblk m c 2 t), k0_pay1 (iblk m c 0 t) (iblk m c 1 t)) := by
  rw [outsAt0_A m c t h0]
  frame_out

/-- A row block's further points. -/
theorem at_B (t : Fin cfg0.N) (h0 : ¬t.val % 4 = 0)
    (o : FVec Ideal S1056x1024 .f32 × FVec Ideal S1056x1024 .bf16 × FVec Ideal S1056x2048 .bf16)
    (ho : outsAt0 m c (t.val - 1) (Nat.lt_of_le_of_lt (Nat.sub_le _ _) t.isLt) = o) :
    outsAt0 m c t.val t.isLt = (k0_pay2 o.2.2 (iblk m c 2 t), k0_pay3 (grid0.coords t) o.2.2 (iblk m c 2 t), o.2.2) := by
  rw [outsAt0_B m c t h0, ho]
  frame_out
  simp only [sout0_B_0, read_unread_whole]

/-- What a point leaves: the normed rows in the scratch, the projection and its scaled copy in the output blocks. -/
structure Holds (t : Fin cfg0.N) (o : FVec Ideal S1056x1024 .f32 × FVec Ideal S1056x1024 .bf16 × FVec Ideal S1056x2048 .bf16) : Prop where
  norm : ∀ p k, o.2.2 (ix2 p k) = normed (aX m c) (aG m c) (row t p) k
  fst : ∀ p n, o.1 (ix2 p n) = proj (aX m c) (aG m c) (aW m c) (row t p) (col t n)
  snd : ∀ p n, o.2.1 (ix2 p n) = scaled (aX m c) (aG m c) (aW m c) (row t p) (col t n)

/-- The two output blocks follow from the scratch's rows. -/
theorem holds_of (t : Fin cfg0.N) (h : FVec Ideal S1056x2048 .bf16) (hh : ∀ p k, h (ix2 p k) = normed (aX m c) (aG m c) (row t p) k) :
    Holds m c t (k0_pay2 h (iblk m c 2 t), k0_pay3 (grid0.coords t) h (iblk m c 2 t), h) :=
  ⟨hh, fun p n => pay2_apply m c t h p n (hh p), fun p n => pay3_apply m c t h p n (hh p)⟩

theorem holds (n : ℕ) : ∀ hn : n < cfg0.N, Holds m c ⟨n, hn⟩ (outsAt0 m c n hn) := by
  induction n with
  | zero =>
    intro hn
    rw [at_A m c ⟨0, hn⟩ rfl]
    exact holds_of m c ⟨0, hn⟩ _ fun p k => pay1_apply m c _ p k
  | succ n ih =>
    intro hn
    by_cases h0 : (n + 1) % 4 = 0
    · rw [at_A m c ⟨n + 1, hn⟩ h0]
      exact holds_of m c ⟨n + 1, hn⟩ _ fun p k => pay1_apply m c _ p k
    · rw [at_B m c ⟨n + 1, hn⟩ h0 _ rfl]
      refine holds_of m c ⟨n + 1, hn⟩ _ fun p k => ((ih (Nat.lt_of_succ_lt hn)).norm p k).trans ?_
      have hrow : row ⟨n, Nat.lt_of_succ_lt hn⟩ p = row ⟨n + 1, hn⟩ p := Fin.ext (by simp only [row]; omega)
      rw [hrow]

/-! ## The arrays -/

theorem place (r : Fin 8448) (n : Fin 4096) : ∃ (t : Fin cfg0.N) (p : Fin 1056) (q : Fin 1024),
    InFold.pt3Of (ix2 r n) = t.val ∧ InFold.loc3Of (ix2 r n) = ix2 p q ∧ row t p = r ∧ col t q = n := by
  have hpt : InFold.pt3Of (ix2 r n) = 4 * (r.val / 1056) + n.val / 1024 := by
    show 4 * (r.val / 1056 - 0) + 1 * (n.val / 1024 - 0) = _
    omega
  have hlt : InFold.pt3Of (ix2 r n) < cfg0.N := by
    rw [hpt]; show _ < 32; omega
  refine ⟨⟨_, hlt⟩, ⟨r.val % 1056, Nat.mod_lt _ (by decide)⟩, ⟨n.val % 1024, Nat.mod_lt _ (by decide)⟩, rfl, ?_, Fin.ext ?_, Fin.ext ?_⟩
  · funext a
    refine Fin.cases ?_ (fun b => Fin.cases ?_ (fun e => e.elim0) b) a
    · rfl
    · rfl
  · simp only [row, hpt]; omega
  · simp only [col, hpt]; omega

/-- The first array the launch leaves is the projection. -/
theorem arr_fst (i : S8448x4096.Idx) : InFold.G3 m c i = proj (aX m c) (aG m c) (aW m c) (i 0) (i 1) := by
  obtain ⟨r, n, rfl⟩ : ∃ (r : Fin 8448) (n : Fin 4096), i = ix2 r n := ⟨i 0, i 1, ValueIdx.eq_ix2 i⟩
  obtain ⟨t, p, q, ht, hl, hr, hn⟩ := place r n
  have hlt : InFold.pt3Of (ix2 r n) < cfg0.N := ht ▸ t.isLt
  unfold InFold.G3
  rw [dif_pos hlt, ← InFold.outsAt0_sweep m c _ hlt, hl, (holds m c _ hlt).fst]
  have et : (⟨InFold.pt3Of (ix2 r n), hlt⟩ : Fin cfg0.N) = t := Fin.ext ht
  rw [et, hr, hn]
  rfl

/-- The second is its copy with the queries scaled. -/
theorem arr_snd (i : S8448x4096.Idx) : InFold.G4 m c i = scaled (aX m c) (aG m c) (aW m c) (i 0) (i 1) := by
  obtain ⟨r, n, rfl⟩ : ∃ (r : Fin 8448) (n : Fin 4096), i = ix2 r n := ⟨i 0, i 1, ValueIdx.eq_ix2 i⟩
  obtain ⟨t, p, q, ht, hl, hr, hn⟩ := place r n
  have hlt : InFold.pt3Of (ix2 r n) < cfg0.N := ht ▸ t.isLt
  show (if h : InFold.pt3Of (ix2 r n) < cfg0.N then
    (Pipeline.accAt (fun n h => InFold.stAt0 m c n h InFold.junk0) (InFold.stAt0 m c) 0 (InFold.pt3Of (ix2 r n)) (by omega)).2.1 (InFold.loc3Of (ix2 r n))
    else _) = _
  rw [dif_pos hlt, ← InFold.outsAt0_sweep m c _ hlt, hl, (holds m c _ hlt).snd]
  have et : (⟨InFold.pt3Of (ix2 r n), hlt⟩ : Fin cfg0.N) = t := Fin.ext ht
  rw [et, hr, hn]
  rfl

end Cert.Kernel3Ideal.InProj

end
-- ==== Proof.Proj.InRows.lean ====
/-
  What of the input projection is carried on: the keys and values of the prompt and of the sample group, and the rows
  the pooling keeps of each, as the layer hands them out; and that the kernel's host code takes them of the projection.
-/
module

public import proofs.«01_k».proof.Proof.Proj.InValue

@[expose] public section

noncomputable section

namespace Cert.InProj

open Idealize.ShloMosaic
open Idealize.ShloMosaic (ix2 ix3 ix4)

/-- The row of the projection that holds position `s` of the prompt: the meta rows come first and are stored last. -/
def promptRow (s : Fin 8208) : Fin 8448 := if h : s.val < 16 then ⟨8192 + s.val, by omega⟩ else ⟨s.val - 16, by omega⟩

/-- The row of the projection that holds token `t` of sequence `b` of the sample group. -/
def sampleRow (b : Fin 32) (t : Fin 4) : Fin 8448 := ⟨8208 + (t.val * 32 + b.val), by omega⟩

/-- The column of component `d` of head `h` in the part of the projection starting at `o`. -/
def headCol (o : Nat) (ho : o ≤ 3072) (h : Fin 8) (d : Fin 128) : Fin 4096 := ⟨o + (h.val * 128 + d.val), by omega⟩

/-- The prompt's heads of the part of the projection starting at `o`. -/
def promptHeads (o : Nat) (ho : o ≤ 3072) (p : FVec Ideal ⟨2, ![8448, 4096]⟩ .f32) : FVec Ideal ⟨4, ![1, 8208, 8, 128]⟩ .f32 :=
  fun i => p (ix2 (promptRow (i 1)) (headCol o ho (i 2) (i 3)))

/-- The sample group's heads of the part of the projection starting at `o`. -/
def sampleHeads (o : Nat) (ho : o ≤ 3072) (p : FVec Ideal ⟨2, ![8448, 4096]⟩ .f32) : FVec Ideal ⟨4, ![32, 4, 8, 128]⟩ .f32 :=
  fun i => p (ix2 (sampleRow (i 0) (i 1)) (headCol o ho (i 2) (i 3)))

/-- The last fifteen rows of the prompt's pooled part. -/
def promptPool (p : FVec Ideal ⟨2, ![8448, 4096]⟩ .f32) : FVec Ideal ⟨3, ![1, 15, 1024]⟩ .f32 :=
  fun i => p (ix2 ⟨8177 + (i 1).val, by have : (i 1).val < 15 := (i 1).isLt; omega⟩ ⟨3072 + (i 2).val, by have : (i 2).val < 1024 := (i 2).isLt; omega⟩)

/-- The last fifteen rows of the sample group's pooled part: eleven of those carried so far, then the four new ones. -/
def samplePool (s : FVec Ideal ⟨4, ![2, 32, 15, 1024]⟩ .f32) (p : FVec Ideal ⟨2, ![8448, 4096]⟩ .f32) : FVec Ideal ⟨3, ![32, 15, 1024]⟩ .f32 :=
  fun i => if h : (i 1).val < 11 then s (ix4 0 (i 0) ⟨(i 1).val + 4, by omega⟩ (i 2))
    else p (ix2 (sampleRow (i 0) ⟨(i 1).val - 11, by have : (i 1).val < 15 := (i 1).isLt; omega⟩) ⟨3072 + (i 2).val, by have : (i 2).val < 1024 := (i 2).isLt; omega⟩)

end Cert.InProj

namespace Cert.Kernel3Ideal.InProj

open Cert.Kernel3Ideal Cert.Kernel3Ideal.Gen Cert.InProj
open Idealize.ShloMosaic Idealize.ShloMosaic.TcCoe Idealize.SL.Sem
open Idealize.ShloMosaic (ix2 ix3 ix4)

/-- The prompt's keys as the host code takes them of the projection, -/
def hostKeys (p : FVec Ideal S8448x4096 .f32) : FVec Ideal S1x8208x8x128 .f32 :=
  shapeCast _ (concatenate S8208x1024 0 [⟨S16x1024, extractStridedSlice S16x1024 ![8192, 0] (extractStridedSlice S8448x1024 ![0, 1024] p slices_S8448x4096_S8448x1024_0_1024) slices_S8448x1024_S16x1024_8192_0⟩,
    ⟨S8192x1024, extractStridedSlice S8192x1024 ![0, 0] (extractStridedSlice S8448x1024 ![0, 1024] p slices_S8448x4096_S8448x1024_0_1024) slices_S8448x1024_S8192x1024_0_0⟩] concatenates_S16x1024_S8192x1024_S8208x1024_d0) shapeCasts_S8208x1024_S1x8208x8x128

set_option maxRecDepth 100000 in
/-- which are its heads there. -/
theorem hostKeys_eq (p : FVec Ideal S8448x4096 .f32) : hostKeys p = promptHeads 1024 (by omega) p := by
  funext i
  obtain ⟨z, s, h, d, rfl⟩ : ∃ (z : Fin 1) (s : Fin 8208) (h : Fin 8) (d : Fin 128), i = ix4 z s h d := ⟨i 0, i 1, i 2, i 3, ValueIdx.eq_ix4 i⟩
  show _ = p (ix2 (promptRow s) (headCol 1024 (by omega) h d))
  pointwise [hostKeys]
  unfold promptRow
  split <;> rfl

/-- The prompt's values as the host code takes them of the projection, -/
def hostValues (p : FVec Ideal S8448x4096 .f32) : FVec Ideal S1x8208x8x128 .f32 :=
  shapeCast _ (concatenate S8208x1024 0 [⟨S16x1024, extractStridedSlice S16x1024 ![8192, 0] (extractStridedSlice S8448x1024 ![0, 2048] p slices_S8448x4096_S8448x1024_0_2048) slices_S8448x1024_S16x1024_8192_0⟩,
    ⟨S8192x1024, extractStridedSlice S8192x1024 ![0, 0] (extractStridedSlice S8448x1024 ![0, 2048] p slices_S8448x4096_S8448x1024_0_2048) slices_S8448x1024_S8192x1024_0_0⟩] concatenates_S16x1024_S8192x1024_S8208x1024_d0) shapeCasts_S8208x1024_S1x8208x8x128

set_option maxRecDepth 100000 in
/-- which are its heads there. -/
theorem hostValues_eq (p : FVec Ideal S8448x4096 .f32) : hostValues p = promptHeads 2048 (by omega) p := by
  funext i
  obtain ⟨z, s, h, d, rfl⟩ : ∃ (z : Fin 1) (s : Fin 8208) (h : Fin 8) (d : Fin 128), i = ix4 z s h d := ⟨i 0, i 1, i 2, i 3, ValueIdx.eq_ix4 i⟩
  show _ = p (ix2 (promptRow s) (headCol 2048 (by omega) h d))
  pointwise [hostValues]
  unfold promptRow
  split <;> rfl

/-- The sample group's keys as the host code takes them of the projection, -/
def hostSampleKeys (p : FVec Ideal S8448x4096 .f32) : FVec Ideal S32x4x8x128 .f32 :=
  shapeCast _ (transpose S32x4x1024 [1, 0, 2] (shapeCast S4x32x1024 (extractStridedSlice S128x1024 ![8208, 0] (extractStridedSlice S8448x1024 ![0, 1024] p slices_S8448x4096_S8448x1024_0_1024) slices_S8448x1024_S128x1024_8208_0) shapeCasts_S128x1024_S4x32x1024) transposes_S4x32x1024_S32x4x1024_1_0_2) shapeCasts_S32x4x1024_S32x4x8x128

set_option maxRecDepth 100000 in
/-- which are its heads there. -/
theorem hostSampleKeys_eq (p : FVec Ideal S8448x4096 .f32) : hostSampleKeys p = sampleHeads 1024 (by omega) p := by
  funext i
  obtain ⟨b, t, h, d, rfl⟩ : ∃ (b : Fin 32) (t : Fin 4) (h : Fin 8) (d : Fin 128), i = ix4 b t h d := ⟨i 0, i 1, i 2, i 3, ValueIdx.eq_ix4 i⟩
  show _ = p (ix2 (sampleRow b t) (headCol 1024 (by omega) h d))
  pointwise [hostSampleKeys]
  rfl

/-- The sample group's values as the host code takes them of the projection, -/
def hostSampleValues (p : FVec Ideal S8448x4096 .f32) : FVec Ideal S32x4x8x128 .f32 :=
  shapeCast _ (transpose S32x4x1024 [1, 0, 2] (shapeCast S4x32x1024 (extractStridedSlice S128x1024 ![8208, 0] (extractStridedSlice S8448x1024 ![0, 2048] p slices_S8448x4096_S8448x1024_0_2048) slices_S8448x1024_S128x1024_8208_0) shapeCasts_S128x1024_S4x32x1024) transposes_S4x32x1024_S32x4x1024_1_0_2) shapeCasts_S32x4x1024_S32x4x8x128

set_option maxRecDepth 100000 in
/-- which are its heads there. -/
theorem hostSampleValues_eq (p : FVec Ideal S8448x4096 .f32) : hostSampleValues p = sampleHeads 2048 (by omega) p := by
  funext i
  obtain ⟨b, t, h, d, rfl⟩ : ∃ (b : Fin 32) (t : Fin 4) (h : Fin 8) (d : Fin 128), i = ix4 b t h d := ⟨i 0, i 1, i 2, i 3, ValueIdx.eq_ix4 i⟩
  show _ = p (ix2 (sampleRow b t) (headCol 2048 (by omega) h d))
  pointwise [hostSampleValues]
  rfl

/-- The prompt's kept rows as the host code takes them of the projection, -/
def hostPool (p : FVec Ideal S8448x4096 .f32) : FVec Ideal S1x15x1024 .f32 :=
  broadcastInDim S1x15x1024 ![1, 2] bcast_S15x1024_S1x15x1024_1_2 (extractStridedSlice S15x1024 ![8177, 3072] p slices_S8448x4096_S15x1024_8177_3072)

set_option maxRecDepth 100000 in
/-- which are the last fifteen. -/
theorem hostPool_eq (p : FVec Ideal S8448x4096 .f32) : hostPool p = promptPool p := by
  funext i
  obtain ⟨z, j, n, rfl⟩ : ∃ (z : Fin 1) (j : Fin 15) (n : Fin 1024), i = ix3 z j n := ⟨i 0, i 1, i 2, ValueIdx.eq_ix3 i⟩
  show _ = p (ix2 ⟨8177 + j.val, by omega⟩ ⟨3072 + n.val, by omega⟩)
  pointwise [hostPool]

/-- The sample group's kept rows as the host code takes them of the rows carried so far and the projection, -/
def hostSamplePool (s : FVec Ideal S2x32x15x1024 .f32) (p : FVec Ideal S8448x4096 .f32) : FVec Ideal S32x15x1024 .f32 :=
  extractStridedSlice S32x15x1024 ![0, 4, 0] (concatenate S32x19x1024 1 [⟨S32x15x1024, shapeCast S32x15x1024 (extractStridedSlice S1x32x15x1024 ![0, 0, 0, 0] s slices_S2x32x15x1024_S1x32x15x1024_0_0_0_0) shapeCasts_S1x32x15x1024_S32x15x1024⟩,
    ⟨S32x4x1024, transpose S32x4x1024 [1, 0, 2] (shapeCast S4x32x1024 (extractStridedSlice S128x1024 ![8208, 3072] p slices_S8448x4096_S128x1024_8208_3072) shapeCasts_S128x1024_S4x32x1024) transposes_S4x32x1024_S32x4x1024_1_0_2⟩] concatenates_S32x15x1024_S32x4x1024_S32x19x1024_d1) slices_S32x19x1024_S32x15x1024_0_4_0

set_option maxRecDepth 100000 in
/-- which are the last fifteen. -/
theorem hostSamplePool_eq (s : FVec Ideal S2x32x15x1024 .f32) (p : FVec Ideal S8448x4096 .f32) : hostSamplePool s p = samplePool s p := by
  funext i
  obtain ⟨b, j, n, rfl⟩ : ∃ (b : Fin 32) (j : Fin 15) (n : Fin 1024), i = ix3 b j n := ⟨i 0, i 1, i 2, ValueIdx.eq_ix3 i⟩
  show _ = if h : j.val < 11 then s (ix4 0 b ⟨j.val + 4, by omega⟩ n)
    else p (ix2 (sampleRow b ⟨j.val - 11, by omega⟩) ⟨3072 + n.val, by omega⟩)
  pointwise [hostSamplePool]
  by_cases hj : j.val < 11
  · rw [dif_pos hj, dif_pos (by omega)]
    exact congrArg (fun k => s (ix4 0 b k n)) (Fin.ext (Nat.add_comm 4 j.val))
  · rw [dif_neg hj, dif_neg (by omega)]
    exact congrArg (fun r => p (ix2 r ⟨3072 + n.val, by omega⟩)) (Fin.ext (by show 8208 + ((4 + j.val - 15) * 32 + b.val) = 8208 + ((j.val - 11) * 32 + b.val); omega))

variable (m : (ℓ : Loc nD τ sig) → Buf (Elt Ideal) ℓ) (c : Dev nD)

/-- The buffers as the host code after the launch finds them: -/
abbrev W : Valuation τ sig (Elt Ideal) := Pipeline.withArrays (cfgs 0).spec c (V0 m c) fun w => (dats m 0 c).arrAt w (cfgs 0).N

/-- the projection is the launch's first output, -/
theorem W_proj : W m c (Proc.devRef .tc main_v1_0) = InFold.G3 m c :=
  (Pipeline.withArrays_arr (cfgs 0).spec (by decide) c (V0 m c) (fun w => (dats m 0 c).arrAt w (cfgs 0).N) 3).trans (InFold.final3 m c)

/-- and the rows carried so far are as the program gets them. -/
theorem W_state : W m c (Proc.devRef .tc main_arg3) = m ((c : Thread nD τ).loc main_arg3) :=
  (Pipeline.withArrays_of_ne _ c _ _ main_arg3 (by decide)).trans (V_main_arg3 m c)

/-- The prompt's keys after the run. -/
theorem tail_keys : Pipeline.afterTail₀ cfgs (dats m) 0 (V0 m) [hostOps1] c main_v10 = hostKeys (InFold.G3 m c) := by
  rw [← W_proj m c]
  show StableHlo.after (List.flatten [hostOps1]) (W m c) (Proc.devRef .tc main_v10) = _
  generalize W m c = w
  simp only [hostOps1, List.flatten_cons, List.flatten_nil, List.append_nil]
  after_results_simp <;> rfl

/-- The prompt's values after the run. -/
theorem tail_values : Pipeline.afterTail₀ cfgs (dats m) 0 (V0 m) [hostOps1] c main_v14 = hostValues (InFold.G3 m c) := by
  rw [← W_proj m c]
  show StableHlo.after (List.flatten [hostOps1]) (W m c) (Proc.devRef .tc main_v14) = _
  generalize W m c = w
  simp only [hostOps1, List.flatten_cons, List.flatten_nil, List.append_nil]
  after_results_simp <;> rfl

/-- The prompt's kept rows after the run. -/
theorem tail_pool : Pipeline.afterTail₀ cfgs (dats m) 0 (V0 m) [hostOps1] c main_v16 = hostPool (InFold.G3 m c) := by
  rw [← W_proj m c]
  show StableHlo.after (List.flatten [hostOps1]) (W m c) (Proc.devRef .tc main_v16) = _
  generalize W m c = w
  simp only [hostOps1, List.flatten_cons, List.flatten_nil, List.append_nil]
  after_results_simp <;> rfl

/-- The sample group's keys after the run. -/
theorem tail_sampleKeys : Pipeline.afterTail₀ cfgs (dats m) 0 (V0 m) [hostOps1] c main_v20 = hostSampleKeys (InFold.G3 m c) := by
  rw [← W_proj m c]
  show StableHlo.after (List.flatten [hostOps1]) (W m c) (Proc.devRef .tc main_v20) = _
  generalize W m c = w
  simp only [hostOps1, List.flatten_cons, List.flatten_nil, List.append_nil]
  after_results_simp <;> rfl

/-- The sample group's values after the run. -/
theorem tail_sampleValues : Pipeline.afterTail₀ cfgs (dats m) 0 (V0 m) [hostOps1] c main_v24 = hostSampleValues (InFold.G3 m c) := by
  rw [← W_proj m c]
  show StableHlo.after (List.flatten [hostOps1]) (W m c) (Proc.devRef .tc main_v24) = _
  generalize W m c = w
  simp only [hostOps1, List.flatten_cons, List.flatten_nil, List.append_nil]
  after_results_simp <;> rfl

/-- The sample group's kept rows after the run. -/
theorem tail_samplePool : Pipeline.afterTail₀ cfgs (dats m) 0 (V0 m) [hostOps1] c main_v28 = hostSamplePool (m ((c : Thread nD τ).loc main_arg3)) (InFold.G3 m c) := by
  rw [← W_proj m c, ← W_state m c]
  show StableHlo.after (List.flatten [hostOps1]) (W m c) (Proc.devRef .tc main_v28) = _
  generalize W m c = w
  simp only [hostOps1, List.flatten_cons, List.flatten_nil, List.append_nil]
  after_results_simp <;> rfl

/-- The projection's array. -/
def projArr (x : Cert.HalfStep.Acts) (g : Cert.HalfStep.Gains) (w : Cert.InProj.Weights) : FVec Ideal S8448x4096 .f32 :=
  fun i => proj x g w (i 0) (i 1)

/-- The array of its copy with the queries scaled. -/
def scaledArr (x : Cert.HalfStep.Acts) (g : Cert.HalfStep.Gains) (w : Cert.InProj.Weights) : FVec Ideal S8448x4096 .bf16 :=
  fun i => scaled x g w (i 0) (i 1)

/-- The launch's first output is the projection. -/
theorem arr_proj : InFold.G3 m c = projArr (aX m c) (aG m c) (aW m c) := funext fun i => arr_fst m c i

set_option maxHeartbeats 4000000 in
/-- The ideal program leaves the projection, its copy with the queries scaled, and what is carried on of the
    projection; its arguments end as they were. -/
theorem run (ρ : Dev nD → PrngReg) :
    θ_run defs (onTc (τ := τ) (main (F := Ideal))) ⟨m, fun _ => 0, ρ⟩ fun r => ∀ c : Dev nD,
      r.2.mem ((c.tc : Thread nD τ).loc main_v1_0) = projArr (aX m c) (aG m c) (aW m c)
      ∧ r.2.mem ((c.tc : Thread nD τ).loc main_v1_1) = scaledArr (aX m c) (aG m c) (aW m c)
      ∧ r.2.mem ((c.tc : Thread nD τ).loc main_v10) = promptHeads 1024 (by omega) (projArr (aX m c) (aG m c) (aW m c))
      ∧ r.2.mem ((c.tc : Thread nD τ).loc main_v14) = promptHeads 2048 (by omega) (projArr (aX m c) (aG m c) (aW m c))
      ∧ r.2.mem ((c.tc : Thread nD τ).loc main_v16) = promptPool (projArr (aX m c) (aG m c) (aW m c))
      ∧ r.2.mem ((c.tc : Thread nD τ).loc main_v20) = sampleHeads 1024 (by omega) (projArr (aX m c) (aG m c) (aW m c))
      ∧ r.2.mem ((c.tc : Thread nD τ).loc main_v24) = sampleHeads 2048 (by omega) (projArr (aX m c) (aG m c) (aW m c))
      ∧ r.2.mem ((c.tc : Thread nD τ).loc main_v28) = samplePool (m ((c.tc : Thread nD τ).loc main_arg3)) (projArr (aX m c) (aG m c) (aW m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 3).trans ((InFold.final3 m c).trans (arr_proj m c)),
      ((h c).1 4).trans ((InFold.final4 m c).trans (funext fun i => arr_snd m c i)),
      ((h c).2 main_v10 (Pipeline.mem_restRefs_of main_v10 (by decide) (by decide))).trans ((tail_keys m c).trans ((congrArg hostKeys (arr_proj m c)).trans (hostKeys_eq _))),
      ((h c).2 main_v14 (Pipeline.mem_restRefs_of main_v14 (by decide) (by decide))).trans ((tail_values m c).trans ((congrArg hostValues (arr_proj m c)).trans (hostValues_eq _))),
      ((h c).2 main_v16 (Pipeline.mem_restRefs_of main_v16 (by decide) (by decide))).trans ((tail_pool m c).trans ((congrArg hostPool (arr_proj m c)).trans (hostPool_eq _))),
      ((h c).2 main_v20 (Pipeline.mem_restRefs_of main_v20 (by decide) (by decide))).trans ((tail_sampleKeys m c).trans ((congrArg hostSampleKeys (arr_proj m c)).trans (hostSampleKeys_eq _))),
      ((h c).2 main_v24 (Pipeline.mem_restRefs_of main_v24 (by decide) (by decide))).trans ((tail_sampleValues m c).trans ((congrArg hostSampleValues (arr_proj m c)).trans (hostSampleValues_eq _))),
      ((h c).2 main_v28 (Pipeline.mem_restRefs_of main_v28 (by decide) (by decide))).trans ((tail_samplePool m c).trans ((congrArg (hostSamplePool _) (arr_proj m c)).trans (hostSamplePool_eq _ _))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.Kernel3Ideal.InProj

end
-- ==== Proof.Proj.InClaims.lean ====
/-
  The claims about the input projection's call: the three frames, that the ideal program is the kernel's text with the
  queries' factor named, and that the ideal program and the reference leave the same eight arrays.
-/
module

public import proofs.«01_k».proof.Defs
public import proofs.«01_k».proof.Proof.Gen.Kernel3
public import proofs.«01_k».proof.Proof.Gen.Reference3Ideal.Run
public import proofs.«01_k».proof.Proof.Attn.Bits
public import proofs.«01_k».proof.Proof.Proj.InRows
public import Idealize.ShloMosaic.Lib.Quiescent
public import Idealize.ShloMosaic.Lib.Claim

@[expose] public section

noncomputable section

namespace Cert.Proof

open Idealize.ShloMosaic Idealize.ShloMosaic.TcCoe Idealize.SL.Sem
open Idealize.ShloMosaic (ix2 ix3)

attribute [local instance] wordsNamed

set_option maxHeartbeats 4000000 in
/-- The ideal program's body is the kernel's, -/
theorem body_eq3 : Cert.Kernel3.cc0_inproj (F := Bits) = Cert.Kernel3Ideal.cc0_inproj (F := Bits) := rfl

set_option maxHeartbeats 4000000 in
/-- and so is its table of bodies, -/
theorem defs₀_eq3 : Cert.Kernel3.defs₀ (F := Bits) = Cert.Kernel3Ideal.defs₀ (F := Bits) := by
  unfold Cert.Kernel3.defs₀
  rw [body_eq3]
  funext p l a
  match p, l, a with
  | .tc, ⟨0, _⟩, (t, s) => rfl
  | .tc, ⟨n + 1, h⟩, _ => exact absurd h (Nat.not_lt.2 (Nat.le_add_left _ _))
  | .scScalar _, _, _ => rfl
  | .scVector _ _, _, _ => rfl

set_option maxHeartbeats 4000000 in
/-- the table with the pipeline's own, -/
theorem defs_eq3 : Cert.Kernel3.defs (F := Bits) = Cert.Kernel3Ideal.defs (F := Bits) := by
  show Pipeline.defs Cert.Kernel3.pcfgs Cert.Kernel3.defs₀ = Pipeline.defs Cert.Kernel3Ideal.pcfgs Cert.Kernel3Ideal.defs₀
  rw [defs₀_eq3]; rfl

set_option maxHeartbeats 4000000 in
/-- and its main. -/
theorem main_eq3 : Cert.Kernel3.main (F := Bits) = Cert.Kernel3Ideal.main (F := Bits) := rfl

/-- The kernel's frame: the ideal program has its text, and its run is one for any float values. -/
theorem frame_kernel3 : Cert.quiescent_Kernel3 := fun m ρ _ => by
  rw [defs_eq3, main_eq3]
  exact Cert.Kernel3Ideal.Gen.frame (F := Bits) m ρ

/-- The ideal kernel's frame. -/
theorem frame_ideal3 : Cert.quiescent_Kernel3Ideal := fun m ρ _ => Cert.Kernel3Ideal.Gen.frame (F := Ideal) m ρ

/-- The reference's frame: it has host operations alone and no semaphore. -/
theorem frame_reference3 : Cert.quiescent_Reference3Ideal := fun m ρ _ =>
  (θ_run Cert.Reference3Ideal.defs _ _).mono (fun r h => ⟨fun c => (h c).2.2.2.2.2.2.2.2, sem_eq_zero_of_no_sems (by decide) r.2⟩)
    (Cert.Reference3Ideal.Value.run (F := Ideal) m ρ)

/-- The ideal program names the queries' factor alone, whose word it was. -/
theorem preserves_kernel3 : Cert.preserves_Kernel3_Kernel3Ideal :=
  IdealRules.named_const.statement Cert.Kernel3Ideal.κ "qscale" .f32 0x3E0293EE#32 (((11863283 / 134217728) * (Real.log 2)⁻¹ : ℝ) : EReal) rfl

section Reference

open Cert.Reference3Ideal Cert.Reference3Ideal.Gen Cert.InProj Cert.Kernel3Ideal.InProj
open Idealize.ShloMosaic (ix4)

/-- The reference's projection, -/
def refProj (x : FVec Ideal S8448x2048 .f32) (g : FVec Ideal S2x2048 .f32) (w : FVec Ideal S2x2048x4096 .f32) : FVec Ideal S8448x4096 .f32 :=
  Host.dotGeneral dot_S8448x2048_S2048x4096_S8448x4096_1_0_0_1_n_n none (mulf (mulf x (broadcastInDim S8448x2048 ![0, 1] bcast_S8448x1_S8448x2048_0_1 (Host.rsqrt (addf (Host.divf (broadcastInDim S8448x1 ![0] bcast_S8448_S8448x1_0 (Host.reduceAdd (mulf x x) (constant S_ .f32 0x00000000#32) reducesTo_S8448x2048_S8448_d1 h_S_)) (broadcastInDim S8448x1 ![] bcast_S_S8448x1 (constant S_ .f32 0x45000000#32))) (broadcastInDim S8448x1 ![] bcast_S_S8448x1 (constant S_ .f32 0x358637BD#32)))))) (broadcastInDim S8448x2048 ![0, 1] bcast_S1x2048_S8448x2048_0_1 (broadcastInDim S1x2048 ![1] bcast_S2048_S1x2048_1 (shapeCast _ (extractStridedSlice S1x2048 ![0, 0] g slices_S2x2048_S1x2048_0_0) shapeCasts_S1x2048_S2048)))) (shapeCast _ (extractStridedSlice S1x2048x4096 ![0, 0, 0] w slices_S2x2048x4096_S1x2048x4096_0_0_0) shapeCasts_S1x2048x4096_S2048x4096)

set_option maxRecDepth 100000 in
set_option maxHeartbeats 2000000 in
/-- which is the projection. -/
theorem refProj_eq (x : FVec Ideal S8448x2048 .f32) (g : FVec Ideal S2x2048 .f32) (w : FVec Ideal S2x2048x4096 .f32) : refProj x g w = projArr x g w := by
  funext i
  obtain ⟨p, k, rfl⟩ : ∃ (p : Fin 8448) (k : Fin 4096), i = ix2 p k := ⟨i 0, i 1, ValueIdx.eq_ix2 i⟩
  pointwise [refProj]
  rfl

/-- The reference's keys of the prompt of its projection, -/
def refKeys (p : FVec Ideal S8448x4096 .f32) : FVec Ideal S1x8208x8x128 .f32 :=
  shapeCast _ (extractStridedSlice S1x8208x1024 ![0, 0, 1024] (broadcastInDim S1x8208x4096 ![1, 2] bcast_S8208x4096_S1x8208x4096_1_2 (concatenate S8208x4096 0 [⟨S16x4096, (extractStridedSlice S16x4096 ![8192, 0] p slices_S8448x4096_S16x4096_8192_0)⟩, ⟨S8192x4096, (extractStridedSlice S8192x4096 ![0, 0] p slices_S8448x4096_S8192x4096_0_0)⟩] concatenates_S16x4096_S8192x4096_S8208x4096_d0)) slices_S1x8208x4096_S1x8208x1024_0_0_1024) shapeCasts_S1x8208x1024_S1x8208x8x128

set_option maxRecDepth 100000 in
/-- which are the ones the layer hands out. -/
theorem refKeys_eq (p : FVec Ideal S8448x4096 .f32) : refKeys p = promptHeads 1024 (by omega) p := by
  funext i
  obtain ⟨z, s, h, d, rfl⟩ : ∃ (z : Fin 1) (s : Fin 8208) (h : Fin 8) (d : Fin 128), i = ix4 z s h d := ⟨i 0, i 1, i 2, i 3, ValueIdx.eq_ix4 i⟩
  show _ = p (ix2 (promptRow s) (headCol 1024 (by omega) h d))
  pointwise [refKeys]
  unfold promptRow
  split <;> rfl

/-- The reference's values of the prompt of its projection, -/
def refValues (p : FVec Ideal S8448x4096 .f32) : FVec Ideal S1x8208x8x128 .f32 :=
  shapeCast _ (extractStridedSlice S1x8208x1024 ![0, 0, 2048] (broadcastInDim S1x8208x4096 ![1, 2] bcast_S8208x4096_S1x8208x4096_1_2 (concatenate S8208x4096 0 [⟨S16x4096, (extractStridedSlice S16x4096 ![8192, 0] p slices_S8448x4096_S16x4096_8192_0)⟩, ⟨S8192x4096, (extractStridedSlice S8192x4096 ![0, 0] p slices_S8448x4096_S8192x4096_0_0)⟩] concatenates_S16x4096_S8192x4096_S8208x4096_d0)) slices_S1x8208x4096_S1x8208x1024_0_0_2048) shapeCasts_S1x8208x1024_S1x8208x8x128

set_option maxRecDepth 100000 in
/-- which are the ones the layer hands out. -/
theorem refValues_eq (p : FVec Ideal S8448x4096 .f32) : refValues p = promptHeads 2048 (by omega) p := by
  funext i
  obtain ⟨z, s, h, d, rfl⟩ : ∃ (z : Fin 1) (s : Fin 8208) (h : Fin 8) (d : Fin 128), i = ix4 z s h d := ⟨i 0, i 1, i 2, i 3, ValueIdx.eq_ix4 i⟩
  show _ = p (ix2 (promptRow s) (headCol 2048 (by omega) h d))
  pointwise [refValues]
  unfold promptRow
  split <;> rfl

/-- The reference's kept rows of the prompt of its projection, -/
def refPool (p : FVec Ideal S8448x4096 .f32) : FVec Ideal S1x15x1024 .f32 :=
  extractStridedSlice S1x15x1024 ![0, 8193, 0] (extractStridedSlice S1x8208x1024 ![0, 0, 3072] (broadcastInDim S1x8208x4096 ![1, 2] bcast_S8208x4096_S1x8208x4096_1_2 (concatenate S8208x4096 0 [⟨S16x4096, (extractStridedSlice S16x4096 ![8192, 0] p slices_S8448x4096_S16x4096_8192_0)⟩, ⟨S8192x4096, (extractStridedSlice S8192x4096 ![0, 0] p slices_S8448x4096_S8192x4096_0_0)⟩] concatenates_S16x4096_S8192x4096_S8208x4096_d0)) slices_S1x8208x4096_S1x8208x1024_0_0_3072) slices_S1x8208x1024_S1x15x1024_0_8193_0

set_option maxRecDepth 100000 in
/-- which are the ones the layer hands out. -/
theorem refPool_eq (p : FVec Ideal S8448x4096 .f32) : refPool p = promptPool p := by
  funext i
  obtain ⟨z, j, n, rfl⟩ : ∃ (z : Fin 1) (j : Fin 15) (n : Fin 1024), i = ix3 z j n := ⟨i 0, i 1, i 2, ValueIdx.eq_ix3 i⟩
  show _ = p (ix2 ⟨8177 + j.val, by omega⟩ ⟨3072 + n.val, by omega⟩)
  pointwise [refPool]
  rw [dif_neg (by omega)]
  exact congrArg (fun r => p (ix2 r ⟨3072 + n.val, by omega⟩)) (Fin.ext (by show 8193 + j.val - 16 = 8177 + j.val; omega))

/-- The reference's keys of the sample group of its projection, -/
def refSampleKeys (p : FVec Ideal S8448x4096 .f32) : FVec Ideal S32x4x8x128 .f32 :=
  shapeCast _ (extractStridedSlice S32x4x1024 ![0, 0, 1024] (transpose S32x4x4096 [1, 0, 2] (shapeCast _ (extractStridedSlice S128x4096 ![8208, 0] p slices_S8448x4096_S128x4096_8208_0) shapeCasts_S128x4096_S4x32x4096) transposes_S4x32x4096_S32x4x4096_1_0_2) slices_S32x4x4096_S32x4x1024_0_0_1024) shapeCasts_S32x4x1024_S32x4x8x128

set_option maxRecDepth 100000 in
/-- which are the ones the layer hands out. -/
theorem refSampleKeys_eq (p : FVec Ideal S8448x4096 .f32) : refSampleKeys p = sampleHeads 1024 (by omega) p := by
  funext i
  obtain ⟨b, t, h, d, rfl⟩ : ∃ (b : Fin 32) (t : Fin 4) (h : Fin 8) (d : Fin 128), i = ix4 b t h d := ⟨i 0, i 1, i 2, i 3, ValueIdx.eq_ix4 i⟩
  show _ = p (ix2 (sampleRow b t) (headCol 1024 (by omega) h d))
  pointwise [refSampleKeys]
  rfl

/-- The reference's values of the sample group of its projection, -/
def refSampleValues (p : FVec Ideal S8448x4096 .f32) : FVec Ideal S32x4x8x128 .f32 :=
  shapeCast _ (extractStridedSlice S32x4x1024 ![0, 0, 2048] (transpose S32x4x4096 [1, 0, 2] (shapeCast _ (extractStridedSlice S128x4096 ![8208, 0] p slices_S8448x4096_S128x4096_8208_0) shapeCasts_S128x4096_S4x32x4096) transposes_S4x32x4096_S32x4x4096_1_0_2) slices_S32x4x4096_S32x4x1024_0_0_2048) shapeCasts_S32x4x1024_S32x4x8x128

set_option maxRecDepth 100000 in
/-- which are the ones the layer hands out. -/
theorem refSampleValues_eq (p : FVec Ideal S8448x4096 .f32) : refSampleValues p = sampleHeads 2048 (by omega) p := by
  funext i
  obtain ⟨b, t, h, d, rfl⟩ : ∃ (b : Fin 32) (t : Fin 4) (h : Fin 8) (d : Fin 128), i = ix4 b t h d := ⟨i 0, i 1, i 2, i 3, ValueIdx.eq_ix4 i⟩
  show _ = p (ix2 (sampleRow b t) (headCol 2048 (by omega) h d))
  pointwise [refSampleValues]
  rfl

/-- The reference's kept rows of the sample group of its projection, -/
def refSamplePool (s : FVec Ideal S2x32x15x1024 .f32) (p : FVec Ideal S8448x4096 .f32) : FVec Ideal S32x15x1024 .f32 :=
  extractStridedSlice S32x15x1024 ![0, 4, 0] (concatenate S32x19x1024 1 [⟨S32x15x1024, (shapeCast _ (extractStridedSlice S1x32x15x1024 ![0, 0, 0, 0] s slices_S2x32x15x1024_S1x32x15x1024_0_0_0_0) shapeCasts_S1x32x15x1024_S32x15x1024)⟩, ⟨S32x4x1024, (extractStridedSlice S32x4x1024 ![0, 0, 3072] (transpose S32x4x4096 [1, 0, 2] (shapeCast _ (extractStridedSlice S128x4096 ![8208, 0] p slices_S8448x4096_S128x4096_8208_0) shapeCasts_S128x4096_S4x32x4096) transposes_S4x32x4096_S32x4x4096_1_0_2) slices_S32x4x4096_S32x4x1024_0_0_3072)⟩] concatenates_S32x15x1024_S32x4x1024_S32x19x1024_d1) slices_S32x19x1024_S32x15x1024_0_4_0

set_option maxRecDepth 100000 in
/-- which are the ones the layer hands out. -/
theorem refSamplePool_eq (s : FVec Ideal S2x32x15x1024 .f32) (p : FVec Ideal S8448x4096 .f32) : refSamplePool s p = samplePool s p := by
  funext i
  obtain ⟨b, j, n, rfl⟩ : ∃ (b : Fin 32) (j : Fin 15) (n : Fin 1024), i = ix3 b j n := ⟨i 0, i 1, i 2, ValueIdx.eq_ix3 i⟩
  show _ = if h : j.val < 11 then s (ix4 0 b ⟨j.val + 4, by omega⟩ n)
    else p (ix2 (sampleRow b ⟨j.val - 11, by omega⟩) ⟨3072 + n.val, by omega⟩)
  pointwise [refSamplePool]
  by_cases hj : j.val < 11
  · rw [dif_pos hj, dif_pos (by omega)]
    exact congrArg (fun k => s (ix4 0 b k n)) (Fin.ext (Nat.add_comm 4 j.val))
  · rw [dif_neg hj, dif_neg (by omega)]
    exact congrArg (fun r => p (ix2 r ⟨3072 + n.val, by omega⟩)) (Fin.ext (by show 8208 + ((4 + j.val - 15) * 32 + b.val) = 8208 + ((j.val - 11) * 32 + b.val); omega))

set_option maxRecDepth 100000 in
set_option maxHeartbeats 4000000 in
/-- The reference leaves the projection, its scaled copy and what is carried on of the projection. -/
theorem reference3_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = projArr (m ((c.tc : Thread nD τ).loc main_arg0)) (m ((c.tc : Thread nD τ).loc main_arg1)) (m ((c.tc : Thread nD τ).loc main_arg2))
      ∧ r.2.mem ((c.tc : Thread nD τ).loc main_v26) = scaledArr (m ((c.tc : Thread nD τ).loc main_arg0)) (m ((c.tc : Thread nD τ).loc main_arg1)) (m ((c.tc : Thread nD τ).loc main_arg2))
      ∧ r.2.mem ((c.tc : Thread nD τ).loc main_v45) = promptHeads 1024 (by omega) (projArr (m ((c.tc : Thread nD τ).loc main_arg0)) (m ((c.tc : Thread nD τ).loc main_arg1)) (m ((c.tc : Thread nD τ).loc main_arg2)))
      ∧ r.2.mem ((c.tc : Thread nD τ).loc main_v46) = promptHeads 2048 (by omega) (projArr (m ((c.tc : Thread nD τ).loc main_arg0)) (m ((c.tc : Thread nD τ).loc main_arg1)) (m ((c.tc : Thread nD τ).loc main_arg2)))
      ∧ r.2.mem ((c.tc : Thread nD τ).loc main_v47) = promptPool (projArr (m ((c.tc : Thread nD τ).loc main_arg0)) (m ((c.tc : Thread nD τ).loc main_arg1)) (m ((c.tc : Thread nD τ).loc main_arg2)))
      ∧ r.2.mem ((c.tc : Thread nD τ).loc main_v48) = sampleHeads 1024 (by omega) (projArr (m ((c.tc : Thread nD τ).loc main_arg0)) (m ((c.tc : Thread nD τ).loc main_arg1)) (m ((c.tc : Thread nD τ).loc main_arg2)))
      ∧ r.2.mem ((c.tc : Thread nD τ).loc main_v49) = sampleHeads 2048 (by omega) (projArr (m ((c.tc : Thread nD τ).loc main_arg0)) (m ((c.tc : Thread nD τ).loc main_arg1)) (m ((c.tc : Thread nD τ).loc main_arg2)))
      ∧ r.2.mem ((c.tc : Thread nD τ).loc main_v50) = samplePool (m ((c.tc : Thread nD τ).loc main_arg3)) (projArr (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run Cert.Reference3Ideal.defs _ _).mono (fun r h c => ⟨(h c).1.trans (refProj_eq _ _ _),
    (h c).2.1.trans ?_,
    (h c).2.2.1.trans ((congrArg refKeys (refProj_eq _ _ _)).trans (refKeys_eq _)),
    (h c).2.2.2.1.trans ((congrArg refValues (refProj_eq _ _ _)).trans (refValues_eq _)),
    (h c).2.2.2.2.1.trans ((congrArg refPool (refProj_eq _ _ _)).trans (refPool_eq _)),
    (h c).2.2.2.2.2.1.trans ((congrArg refSampleKeys (refProj_eq _ _ _)).trans (refSampleKeys_eq _)),
    (h c).2.2.2.2.2.2.1.trans ((congrArg refSampleValues (refProj_eq _ _ _)).trans (refSampleValues_eq _)),
    (h c).2.2.2.2.2.2.2.1.trans ((congrArg (refSamplePool _) (refProj_eq _ _ _)).trans (refSamplePool_eq _ _)),
    (h c).2.2.2.2.2.2.2.2⟩) (Cert.Reference3Ideal.Value.run (F := Ideal) m ρ)
  · funext i
    obtain ⟨p, k, rfl⟩ : ∃ (p : Fin 8448) (k : Fin 4096), i = ix2 p k := ⟨i 0, i 1, ValueIdx.eq_ix2 i⟩
    show _ = Cert.InProj.scaled (m ((c.tc : Thread nD τ).loc main_arg0)) (m ((c.tc : Thread nD τ).loc main_arg1)) (m ((c.tc : Thread nD τ).loc main_arg2)) p k
    unfold Cert.InProj.scaled
    pointwise
    by_cases hk : k.val < 1024
    · rw [dif_pos hk, if_pos hk, Cert.InProj.scale_div]
      rfl
    · rw [dif_neg hk, if_neg hk]
      have e : (⟨1024 + (k.val - 1024), by omega⟩ : Fin 4096) = k := Fin.ext (by show 1024 + (k.val - 1024) = k.val; omega)
      simp only [e]
      rfl

end Reference

open Cert.InProj Cert.Kernel3Ideal.InProj in
/-- The ideal kernel and the reference leave the same eight arrays: the projection, its copy with the queries scaled,
    and the keys, the values and the kept rows of the prompt and of the sample group. -/
theorem algebraic_kernel3 : Cert.algebraic_Kernel3Ideal_Reference3Ideal := by
  intro m g m' g' _ hagree
  refine ⟨fun c => projArr (m ((c.tc : Thread _ _).loc Cert.Kernel3Ideal.main_arg0)) (m ((c.tc : Thread _ _).loc Cert.Kernel3Ideal.main_arg1)) (m ((c.tc : Thread _ _).loc Cert.Kernel3Ideal.main_arg2)),
    fun c => scaledArr (m ((c.tc : Thread _ _).loc Cert.Kernel3Ideal.main_arg0)) (m ((c.tc : Thread _ _).loc Cert.Kernel3Ideal.main_arg1)) (m ((c.tc : Thread _ _).loc Cert.Kernel3Ideal.main_arg2)),
    fun c => promptHeads 1024 (by omega) (projArr (m ((c.tc : Thread _ _).loc Cert.Kernel3Ideal.main_arg0)) (m ((c.tc : Thread _ _).loc Cert.Kernel3Ideal.main_arg1)) (m ((c.tc : Thread _ _).loc Cert.Kernel3Ideal.main_arg2))),
    fun c => promptHeads 2048 (by omega) (projArr (m ((c.tc : Thread _ _).loc Cert.Kernel3Ideal.main_arg0)) (m ((c.tc : Thread _ _).loc Cert.Kernel3Ideal.main_arg1)) (m ((c.tc : Thread _ _).loc Cert.Kernel3Ideal.main_arg2))),
    fun c => promptPool (projArr (m ((c.tc : Thread _ _).loc Cert.Kernel3Ideal.main_arg0)) (m ((c.tc : Thread _ _).loc Cert.Kernel3Ideal.main_arg1)) (m ((c.tc : Thread _ _).loc Cert.Kernel3Ideal.main_arg2))),
    fun c => sampleHeads 1024 (by omega) (projArr (m ((c.tc : Thread _ _).loc Cert.Kernel3Ideal.main_arg0)) (m ((c.tc : Thread _ _).loc Cert.Kernel3Ideal.main_arg1)) (m ((c.tc : Thread _ _).loc Cert.Kernel3Ideal.main_arg2))),
    fun c => sampleHeads 2048 (by omega) (projArr (m ((c.tc : Thread _ _).loc Cert.Kernel3Ideal.main_arg0)) (m ((c.tc : Thread _ _).loc Cert.Kernel3Ideal.main_arg1)) (m ((c.tc : Thread _ _).loc Cert.Kernel3Ideal.main_arg2))),
    fun c => samplePool (m ((c.tc : Thread _ _).loc Cert.Kernel3Ideal.main_arg3)) (projArr (m ((c.tc : Thread _ _).loc Cert.Kernel3Ideal.main_arg0)) (m ((c.tc : Thread _ _).loc Cert.Kernel3Ideal.main_arg1)) (m ((c.tc : Thread _ _).loc Cert.Kernel3Ideal.main_arg2))),
    Cert.Kernel3Ideal.InProj.run m g, ?_⟩
  refine (θ_run Cert.Reference3Ideal.defs _ _).mono (fun r h c => ?_) (reference3_out m' g')
  obtain ⟨e0, e1, e2, e3⟩ := hagree c
  have ep := congr (congr (congrArg projArr e0) e1) e2
  have es := congr (congr (congrArg scaledArr e0) e1) e2
  obtain ⟨h0, h1, h2, h3, h4, h5, h6, h7, h8⟩ := h c
  exact ⟨h0.trans ep, h1.trans es, h2.trans (congrArg _ ep), h3.trans (congrArg _ ep), h4.trans (congrArg _ ep),
    h5.trans (congrArg _ ep), h6.trans (congrArg _ ep), h7.trans (congr (congrArg samplePool e3) ep), h8⟩

end Cert.Proof

end
-- ==== Proof.Proj.OutSpec.lean ====
/-
  The output projection over the extended reals: the attention's and the pooling's rows, each under its own RMS norm,
  side by side in one row of 2048; and the layer's row plus that row's product with the weights.
-/
module

public import Idealize.ShloMosaic.Lib.Pipeline.ValueKit

@[expose] public section

noncomputable section

namespace Cert.OutProj

open Idealize.ShloMosaic
open Idealize.ShloMosaic (ix2 ix3)

/-- One mixer's rows. -/
abbrev Halves := FVec Ideal ⟨2, ![8448, 1024]⟩ .f32
/-- One mixer's gains, of the two layers. -/
abbrev Gains := FVec Ideal ⟨2, ![2, 1024]⟩ .f32
/-- The weights, of the two layers. -/
abbrev Weights := FVec Ideal ⟨3, ![2, 2048, 2048]⟩ .f32
/-- The activations. -/
abbrev Acts := FVec Ideal ⟨2, ![8448, 2048]⟩ .f32

/-- A mixer's normed row: each entry by the reciprocal root of the squares' mean and by its gain. -/
def normed (o : Halves) (g : Gains) (r : Fin 8448) (k : Fin 1024) : EReal :=
  o (ix2 r k) * Ideal.rsqrt (Ideal.div (∑ j, o (ix2 r j) * o (ix2 r j)) (Ideal.ofBits .f32 0x44800000#32) + Ideal.ofBits .f32 0x358637BD#32)
    * g (ix2 0 k)

/-- The two normed rows side by side. -/
def merged (oa op : Halves) (ga gp : Gains) (r : Fin 8448) (k : Fin 2048) : EReal :=
  if h : k.val < 1024 then normed oa ga r ⟨k.val, h⟩ else normed op gp r ⟨k.val - 1024, by omega⟩

/-- The layer's row plus the merged row's projection. -/
def out (oa op : Halves) (ga gp : Gains) (w : Weights) (x : Acts) (r : Fin 8448) (d : Fin 2048) : EReal :=
  x (ix2 r d) + ∑ k, merged oa op ga gp r k * w (ix3 0 k d)

/-- The projection is the attention's half of the sum plus the pooling's. -/
theorem out_halves (oa op : Halves) (ga gp : Gains) (w : Weights) (x : Acts) (r : Fin 8448) (d : Fin 2048) :
    out oa op ga gp w x r d = x (ix2 r d) + (∑ k : Fin 1024, normed oa ga r k * w (ix3 0 ⟨k.val, by omega⟩ d)
      + ∑ k : Fin 1024, normed op gp r k * w (ix3 0 ⟨1024 + k.val, by omega⟩ d)) := by
  unfold out
  refine congrArg (x (ix2 r d) + ·) ((Fin.sum_univ_add (a := 1024) (b := 1024) fun k : Fin (1024 + 1024) => merged oa op ga gp r k * w (ix3 0 k d)).trans ?_)
  refine congrArg₂ (· + ·) (Finset.sum_congr rfl fun k _ => ?_) (Finset.sum_congr rfl fun k _ => ?_)
  · have e : merged oa op ga gp r (Fin.castAdd 1024 k) = normed oa ga r k := by
      unfold merged
      exact dif_pos (show k.val < 1024 from k.isLt)
    rw [e]
    rfl
  · have e : merged oa op ga gp r (Fin.natAdd 1024 k) = normed op gp r k := by
      unfold merged
      refine (dif_neg (show ¬(1024 + k.val < 1024) by omega)).trans ?_
      exact congrArg (normed op gp r) (Fin.ext (show 1024 + k.val - 1024 = k.val by omega))
    rw [e]
    rfl

end Cert.OutProj

end
-- ==== Proof.Proj.OutValue.lean ====
/-
  What the output projection's launch leaves: after each of the 32 points the scratch holds the row block's two normed
  rows side by side, and the output block the layer's rows plus their products with the point's columns.
-/
module

public import proofs.«01_k».proof.Proof.Gen.Kernel4Ideal.Value
public import proofs.«01_k».proof.Proof.Proj.OutSpec
public import Idealize.ShloMosaic.Lib.StableHlo.ReadAt
public import Idealize.ShloMosaic.Lib.Pipeline.ReadBack
public import Idealize.ShloMosaic.Lib.Pipeline.ValueKit
public import Idealize.ShloMosaic.Lib.Claim

@[expose] public section

noncomputable section

namespace Cert.Kernel4Ideal.OutProj

open Cert.Kernel4Ideal Cert.Kernel4Ideal.Gen Cert.OutProj
open Idealize.ShloMosaic Idealize.ShloMosaic.TcCoe Idealize.SL.Sem
open Idealize.ShloMosaic (ix0 ix1 ix2 ix3)

variable (m : (ℓ : Loc nD τ sig) → Buf (Elt Ideal) ℓ) (c : Dev nD)

/-- The two mixers' rows, their gains, the weights and the activations, as the program gets them. -/
def aA : FVec Ideal S8448x1024 .f32 := m ((c : Thread nD τ).loc main_arg0)
def aP : FVec Ideal S8448x1024 .f32 := m ((c : Thread nD τ).loc main_arg1)
def aGA : FVec Ideal S2x1024 .f32 := m ((c : Thread nD τ).loc main_arg2)
def aGP : FVec Ideal S2x1024 .f32 := m ((c : Thread nD τ).loc main_arg3)
def aW : FVec Ideal S2x2048x2048 .f32 := m ((c : Thread nD τ).loc main_arg4)
def aX : FVec Ideal S8448x2048 .f32 := m ((c : Thread nD τ).loc main_arg5)

theorem lt32 (t : Fin cfg0.N) : t.val < 32 := t.isLt

/-- The row of the array at row `p` of point `t`'s row block. -/
def row (t : Fin cfg0.N) (p : Fin 1056) : Fin 8448 := ⟨1056 * (t.val / 4) + p.val, by have := lt32 t; omega⟩

/-- The column of the array at column `n` of point `t`'s block. -/
def col (t : Fin cfg0.N) (n : Fin 512) : Fin 2048 := ⟨512 * (t.val % 4) + n.val, by omega⟩

/-! ## The blocks of a point -/

theorem idx : ∀ t : Fin cfg0.N, win0_0.index t = ![t.val / 4, 0] ∧ win0_1.index t = ![t.val / 4, 0] ∧ win0_2.index t = ![0, 0, 0]
    ∧ win0_3.index t = ![0, 0, 0] ∧ win0_4.index t = ![0, 0, t.val % 4] ∧ win0_5.index t = ![t.val / 4, t.val % 4] :=
  (by decide +kernel : ∀ t : Fin grid0.N, _)

/-- The gains with a unit axis between, which the launch takes. -/
theorem V_ga : (V m c main_v0 : FVec Ideal S2x1x1024 .f32) = broadcastInDim S2x1x1024 ![0, 2] bcast_S2x1024_S2x1x1024_0_2 (aGA m c) := by
  unfold V
  after_reads_simp
  rfl
theorem V_gp : (V m c main_v1 : FVec Ideal S2x1x1024 .f32) = broadcastInDim S2x1x1024 ![0, 2] bcast_S2x1024_S2x1x1024_0_2 (aGP m c) := by
  unfold V
  after_reads_simp
  rfl
theorem V_a : (V m c main_arg0 : FVec Ideal S8448x1024 .f32) = aA m c := by
  unfold V
  after_reads_simp
  rfl
theorem V_p : (V m c main_arg1 : FVec Ideal S8448x1024 .f32) = aP m c := by
  unfold V
  after_reads_simp
  rfl
theorem V_w : (V m c main_arg4 : FVec Ideal S2x2048x2048 .f32) = aW m c := by
  unfold V
  after_reads_simp
  rfl
theorem V_x : (V m c main_arg5 : FVec Ideal S8448x2048 .f32) = aX m c := by
  unfold V
  after_reads_simp
  rfl

theorem blk0 (t : Fin cfg0.N) (p : Fin 1056) (k : Fin 1024) : (iblk m c 0 t : FVec Ideal S1056x1024 .f32) (ix2 p k) = aA m c (ix2 (row t p) k) := by
  rw [← V_a]
  blk_ext [iblk, idx t, row]
theorem blk1 (t : Fin cfg0.N) (p : Fin 1056) (k : Fin 1024) : (iblk m c 1 t : FVec Ideal S1056x1024 .f32) (ix2 p k) = aP m c (ix2 (row t p) k) := by
  rw [← V_p]
  blk_ext [iblk, idx t, row]
theorem blk2 (t : Fin cfg0.N) (k : Fin 1024) : (iblk m c 2 t : FVec Ideal S1x1x1024 .f32) (ix3 0 0 k) = aGA m c (ix2 0 k) := by
  refine Eq.trans (b := (V m c main_v0 : FVec Ideal S2x1x1024 .f32) (ix3 0 0 k)) ?_ ?_
  · blk_ext [iblk, idx t]
  · rw [V_ga]
    pointwise
theorem blk3 (t : Fin cfg0.N) (k : Fin 1024) : (iblk m c 3 t : FVec Ideal S1x1x1024 .f32) (ix3 0 0 k) = aGP m c (ix2 0 k) := by
  refine Eq.trans (b := (V m c main_v1 : FVec Ideal S2x1x1024 .f32) (ix3 0 0 k)) ?_ ?_
  · blk_ext [iblk, idx t]
  · rw [V_gp]
    pointwise
theorem blk4 (t : Fin cfg0.N) (k : Fin 2048) (n : Fin 512) : (iblk m c 4 t : FVec Ideal S1x2048x512 .f32) (ix3 0 k n) = aW m c (ix3 0 k (col t n)) := by
  rw [← V_w]
  blk_ext [iblk, idx t, col]
theorem blk5 (t : Fin cfg0.N) (p : Fin 1056) (n : Fin 512) : (iblk m c 5 t : FVec Ideal S1056x512 .f32) (ix2 p n) = aX m c (ix2 (row t p) (col t n)) := by
  rw [← V_x]
  blk_ext [iblk, idx t, row, col]

/-! ## The body's stores -/

set_option maxRecDepth 100000 in
/-- The scratch's left half is the attention's normed rows. -/
theorem pay2_apply (t : Fin cfg0.N) (p : Fin 1056) (k : Fin 1024) :
    k0_pay2 (F := Ideal) (iblk m c 0 t) (iblk m c 2 t) (ix2 p k) = normed (aA m c) (aGA m c) (row t p) k := by
  have h0 := blk0 m c t p
  have h1 := blk2 m c t
  generalize (iblk m c 0 t : FVec Ideal S1056x1024 .f32) = x at h0 ⊢
  generalize (iblk m c 2 t : FVec Ideal S1x1x1024 .f32) = g at h1 ⊢
  pointwise [k0_pay2]
  simp only [h0, h1]
  rfl

set_option maxRecDepth 100000 in
/-- The scratch's right half is the pooling's normed rows. -/
theorem pay3_apply (t : Fin cfg0.N) (p : Fin 1056) (k : Fin 1024) :
    k0_pay3 (F := Ideal) (iblk m c 1 t) (iblk m c 3 t) (ix2 p k) = normed (aP m c) (aGP m c) (row t p) k := by
  have h0 := blk1 m c t p
  have h1 := blk3 m c t
  generalize (iblk m c 1 t : FVec Ideal S1056x1024 .f32) = x at h0 ⊢
  generalize (iblk m c 3 t : FVec Ideal S1x1x1024 .f32) = g at h1 ⊢
  pointwise [k0_pay3]
  simp only [h0, h1]
  rfl

set_option maxRecDepth 100000 in
/-- The output's store is the layer's row plus the projection, the scratch holding the merged rows. -/
theorem pay1_apply (t : Fin cfg0.N) (h : FVec Ideal S1056x2048 .bf16) (p : Fin 1056) (n : Fin 512)
    (hh : ∀ k, h (ix2 p k) = merged (aA m c) (aP m c) (aGA m c) (aGP m c) (row t p) k) :
    k0_pay1 (F := Ideal) (iblk m c 5 t) h (iblk m c 4 t) (ix2 p n)
      = out (aA m c) (aP m c) (aGA m c) (aGP m c) (aW m c) (aX m c) (row t p) (col t n) := by
  have h4 := blk4 m c t
  have h5 := blk5 m c t
  generalize (iblk m c 4 t : FVec Ideal S1x2048x512 .f32) = w at h4 ⊢
  generalize (iblk m c 5 t : FVec Ideal S1056x512 .f32) = x at h5 ⊢
  pointwise [k0_pay1]
  simp only [hh, h4, h5]
  rfl

/-! ## The scratch -/

/-- The right half's rectangle. -/
def rR : Rect S1056x2048 := Rect.unit ![0, 1024] ![1056, 1024] inb_S1056x2048_S1056x1024_0_1024
/-- The left half's rectangle. -/
def rL : Rect S1056x2048 := Rect.unit ![0, 0] ![1056, 1024] inb_S1056x2048_S1056x1024_0_0

/-- The scratch after a left and a right half are stored. -/
def halves (a b : FVec Ideal S1056x1024 .bf16) : FVec Ideal S1056x2048 .bf16 :=
  View.canon (Val := Elt Ideal) [(⟨rR, b⟩ : View.Piece (Elt Ideal) S1056x2048 .bf16), ⟨rL, a⟩]

/-- Under a last store the scratch at a place of its rectangle is the store's value there. -/
theorem canon_at (r : Rect S1056x2048) (w : r.shape.Idx → Elt Ideal .bf16) (L : List (View.Piece (Elt Ideal) S1056x2048 .bf16)) (x : r.shape.Idx)
    (y : S1056x2048.Idx) (h : ∀ a, (y a).val = (r.emb x a).val) : View.canon (Val := Elt Ideal) (⟨r, w⟩ :: L) y = w x := by
  rw [show y = r.emb x from funext fun a => Fin.ext (h a)]
  exact View.canon_cons_emb r w L x

/-- Where a place of the left half lies. -/
theorem left_emb (x : rL.shape.Idx) (a : Fin 2) : (rL.emb x a).val = (![0, 0] : Fin 2 → ℕ) a + (x a).val := by
  show (![0, 0] : Fin 2 → ℕ) a + 1 * (x a).val = _
  rw [Nat.one_mul]

/-- Where a place of the right half lies. -/
theorem right_emb (x : rR.shape.Idx) (a : Fin 2) : (rR.emb x a).val = (![0, 1024] : Fin 2 → ℕ) a + (x a).val := by
  show (![0, 1024] : Fin 2 → ℕ) a + 1 * (x a).val = _
  rw [Nat.one_mul]

/-- Its left columns are the left half's. -/
theorem halves_left (a b : FVec Ideal S1056x1024 .bf16) (p : Fin 1056) (k : Fin 2048) (hk : k.val < 1024) :
    halves a b (ix2 p k) = a (ix2 p ⟨k.val, hk⟩) := by
  unfold halves
  rw [View.canon_cons_of_not_mem]
  · refine canon_at rL a [] (ix2 p ⟨k.val, hk⟩) (ix2 p k) fun i => ?_
    refine Eq.trans ?_ (left_emb _ i).symm
    refine Fin.cases ?_ (fun b => Fin.cases ?_ (fun e => e.elim0) b) i
    · show p.val = 0 + p.val
      omega
    · show k.val = 0 + k.val
      omega
  · intro hm
    have h2 : (1024 : ℕ) ≤ k.val := ((Rect.mem_set_unit (inb := inb_S1056x2048_S1056x1024_0_1024)).1 hm 1).1
    omega

/-- Its right columns are the right half's. -/
theorem halves_right (a b : FVec Ideal S1056x1024 .bf16) (p : Fin 1056) (k : Fin 2048) (hk : ¬k.val < 1024) :
    halves a b (ix2 p k) = b (ix2 p ⟨k.val - 1024, by omega⟩) := by
  unfold halves
  refine canon_at rR b _ (ix2 p ⟨k.val - 1024, by omega⟩) (ix2 p k) fun i => ?_
  refine Eq.trans ?_ (right_emb _ i).symm
  refine Fin.cases ?_ (fun b => Fin.cases ?_ (fun e => e.elim0) b) i
  · show p.val = 0 + p.val
    omega
  · show k.val = 1024 + (k.val - 1024)
    omega

/-- The two normed halves are the merged rows. -/
theorem halves_merged (t : Fin cfg0.N) (p : Fin 1056) (k : Fin 2048) :
    halves (k0_pay2 (F := Ideal) (iblk m c 0 t) (iblk m c 2 t)) (k0_pay3 (F := Ideal) (iblk m c 1 t) (iblk m c 3 t)) (ix2 p k)
      = merged (aA m c) (aP m c) (aGA m c) (aGP m c) (row t p) k := by
  unfold merged
  split
  · next h => rw [halves_left _ _ p k h, pay2_apply]
  · next h => rw [halves_right _ _ p k h, pay3_apply]

/-! ## The points -/

/-- A row block's first point. -/
theorem at_A (t : Fin cfg0.N) (h0 : t.val % 4 = 0) :
    outsAt0 m c t.val t.isLt = (k0_pay1 (iblk m c 5 t) (halves (k0_pay2 (iblk m c 0 t) (iblk m c 2 t)) (k0_pay3 (iblk m c 1 t) (iblk m c 3 t))) (iblk m c 4 t),
      halves (k0_pay2 (iblk m c 0 t) (iblk m c 2 t)) (k0_pay3 (iblk m c 1 t) (iblk m c 3 t))) := by
  rw [outsAt0_A m c t h0]
  frame_out
  rw [View.readCov_eq_canon']
  refine Prod.ext (congrArg (fun z => k0_pay1 (F := Ideal) (iblk m c 5 t) z (iblk m c 4 t)) (funext fun j => ?_)) rfl
  refine congrArg (halves _ _) ?_
  funext i
  refine Fin.cases ?_ (fun b => Fin.cases ?_ (fun e => e.elim0) b) i
  · exact Fin.ext (by simp [Rect.toLoadRect, LoadRect.idx])
  · exact Fin.ext (by simp [Rect.toLoadRect, LoadRect.idx])

/-- A row block's further points. -/
theorem at_B (t : Fin cfg0.N) (h0 : ¬t.val % 4 = 0) (o : FVec Ideal S1056x512 .f32 × FVec Ideal S1056x2048 .bf16)
    (ho : outsAt0 m c (t.val - 1) (Nat.lt_of_le_of_lt (Nat.sub_le _ _) t.isLt) = o) :
    outsAt0 m c t.val t.isLt = (k0_pay1 (iblk m c 5 t) o.2 (iblk m c 4 t), o.2) := by
  rw [outsAt0_B m c t h0, ho]
  frame_out
  simp only [sout0_B_0, read_unread_whole]

/-- What a point leaves: the merged rows in the scratch, the layer's rows plus their projection in the output block. -/
structure Holds (t : Fin cfg0.N) (o : FVec Ideal S1056x512 .f32 × FVec Ideal S1056x2048 .bf16) : Prop where
  norm : ∀ p k, o.2 (ix2 p k) = merged (aA m c) (aP m c) (aGA m c) (aGP m c) (row t p) k
  out : ∀ p n, o.1 (ix2 p n) = out (aA m c) (aP m c) (aGA m c) (aGP m c) (aW m c) (aX m c) (row t p) (col t n)

/-- The output block follows from the scratch's rows. -/
theorem holds_of (t : Fin cfg0.N) (h : FVec Ideal S1056x2048 .bf16)
    (hh : ∀ p k, h (ix2 p k) = merged (aA m c) (aP m c) (aGA m c) (aGP m c) (row t p) k) :
    Holds m c t (k0_pay1 (iblk m c 5 t) h (iblk m c 4 t), h) :=
  ⟨hh, fun p n => pay1_apply m c t h p n (hh p)⟩

theorem holds (n : ℕ) : ∀ hn : n < cfg0.N, Holds m c ⟨n, hn⟩ (outsAt0 m c n hn) := by
  induction n with
  | zero =>
    intro hn
    rw [at_A m c ⟨0, hn⟩ rfl]
    exact holds_of m c ⟨0, hn⟩ _ fun p k => halves_merged m c _ p k
  | succ n ih =>
    intro hn
    by_cases h0 : (n + 1) % 4 = 0
    · rw [at_A m c ⟨n + 1, hn⟩ h0]
      exact holds_of m c ⟨n + 1, hn⟩ _ fun p k => halves_merged m c _ p k
    · rw [at_B m c ⟨n + 1, hn⟩ h0 _ rfl]
      refine holds_of m c ⟨n + 1, hn⟩ _ fun p k => ((ih (Nat.lt_of_succ_lt hn)).norm p k).trans ?_
      have hrow : row ⟨n, Nat.lt_of_succ_lt hn⟩ p = row ⟨n + 1, hn⟩ p := Fin.ext (by simp only [row]; omega)
      rw [hrow]

/-! ## The array -/

/-- The array the launch leaves is the layer's rows plus the projection of the merged ones. -/
theorem arr_out (i : S8448x2048.Idx) :
    Value.G6 m c i = out (aA m c) (aP m c) (aGA m c) (aGP m c) (aW m c) (aX m c) (i 0) (i 1) := by
  obtain ⟨r, n, rfl⟩ : ∃ (r : Fin 8448) (n : Fin 2048), i = ix2 r n := ⟨i 0, i 1, ValueIdx.eq_ix2 i⟩
  have hpt : Value.pt6Of (ix2 r n) = 4 * (r.val / 1056) + n.val / 512 := by
    show 4 * (r.val / 1056 - 0) + 1 * (n.val / 512 - 0) = _
    omega
  have hlt : Value.pt6Of (ix2 r n) < cfg0.N := by
    rw [hpt]; show _ < 32; omega
  have hl : Value.loc6Of (ix2 r n) = ix2 ⟨r.val % 1056, Nat.mod_lt _ (by decide)⟩ ⟨n.val % 512, Nat.mod_lt _ (by decide)⟩ := by
    funext a
    refine Fin.cases ?_ (fun b => Fin.cases ?_ (fun e => e.elim0) b) a
    · rfl
    · rfl
  unfold Value.G6
  rw [dif_pos hlt, ← Value.outsAt0_sweep m c _ hlt, hl, (holds m c _ hlt).out]
  have er : row ⟨Value.pt6Of (ix2 r n), hlt⟩ ⟨r.val % 1056, Nat.mod_lt _ (by decide)⟩ = r := Fin.ext (by simp only [row, hpt]; omega)
  have ec : col ⟨Value.pt6Of (ix2 r n), hlt⟩ ⟨n.val % 512, Nat.mod_lt _ (by decide)⟩ = n := Fin.ext (by simp only [col, hpt]; omega)
  rw [er, ec]
  rfl

end Cert.Kernel4Ideal.OutProj

end
-- ==== Proof.Proj.OutClaims.lean ====
/-
  The claims about the output projection's call: the three frames, that the ideal program is the kernel's own text, and
  that the ideal program and the reference leave one array.
-/
module

public import proofs.«01_k».proof.Defs
public import proofs.«01_k».proof.Proof.Gen.Kernel4
public import proofs.«01_k».proof.Proof.Gen.Reference4Ideal.Run
public import proofs.«01_k».proof.Proof.Proj.OutValue
public import Idealize.ShloMosaic.Lib.Quiescent
public import Idealize.ShloMosaic.Lib.Claim

@[expose] public section

noncomputable section

namespace Cert.Proof

open Idealize.ShloMosaic Idealize.ShloMosaic.TcCoe Idealize.SL.Sem
open Idealize.ShloMosaic (ix2 ix3)

set_option maxHeartbeats 4000000 in
/-- The ideal program's body is the kernel's, -/
theorem body_eq4 : Cert.Kernel4.cc0_outproj (F := Bits) = Cert.Kernel4Ideal.cc0_outproj (F := Bits) := rfl

set_option maxHeartbeats 4000000 in
/-- and so is its table of bodies, -/
theorem defs₀_eq4 : Cert.Kernel4.defs₀ (F := Bits) = Cert.Kernel4Ideal.defs₀ (F := Bits) := by
  unfold Cert.Kernel4.defs₀
  rw [body_eq4]
  funext p l a
  match p, l, a with
  | .tc, ⟨0, _⟩, (t, s) => rfl
  | .tc, ⟨n + 1, h⟩, _ => exact absurd h (Nat.not_lt.2 (Nat.le_add_left _ _))
  | .scScalar _, _, _ => rfl
  | .scVector _ _, _, _ => rfl

set_option maxHeartbeats 4000000 in
/-- the table with the pipeline's own, -/
theorem defs_eq4 : Cert.Kernel4.defs (F := Bits) = Cert.Kernel4Ideal.defs (F := Bits) := by
  show Pipeline.defs Cert.Kernel4.pcfgs Cert.Kernel4.defs₀ = Pipeline.defs Cert.Kernel4Ideal.pcfgs Cert.Kernel4Ideal.defs₀
  rw [defs₀_eq4]; rfl

set_option maxHeartbeats 4000000 in
/-- and its main. -/
theorem main_eq4 : Cert.Kernel4.main (F := Bits) = Cert.Kernel4Ideal.main (F := Bits) := rfl

/-- The kernel's frame: the ideal program has its text, and its run is one for any float values. -/
theorem frame_kernel4 : Cert.quiescent_Kernel4 := fun m ρ _ => by
  rw [defs_eq4, main_eq4]
  exact Cert.Kernel4Ideal.Gen.frame (F := Bits) m ρ

/-- The ideal kernel's frame. -/
theorem frame_ideal4 : Cert.quiescent_Kernel4Ideal := fun m ρ _ => Cert.Kernel4Ideal.Gen.frame (F := Ideal) m ρ

/-- The reference's frame: it has host operations alone and no semaphore. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The ideal program replaces nothing. -/
theorem preserves_kernel4 : Cert.preserves_Kernel4_Kernel4Ideal := trivial

/-- The array of the layer's rows plus the projection. -/
def outArr (oa op : Cert.OutProj.Halves) (ga gp : Cert.OutProj.Gains) (w : Cert.OutProj.Weights) (x : Cert.OutProj.Acts) :
    FVec Ideal ⟨2, ![8448, 2048]⟩ .f32 := fun i => Cert.OutProj.out oa op ga gp w x (i 0) (i 1)

section Reference

open Cert.Reference4Ideal Cert.Reference4Ideal.Gen

set_option maxRecDepth 100000 in
set_option maxHeartbeats 2000000 in
/-- The reference leaves that array. -/
theorem reference4_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run Cert.Reference4Ideal.defs _ _).mono (fun r h c => ⟨(h c).1.trans ?_, (h c).2⟩) (Cert.Reference4Ideal.Value.run (F := Ideal) m ρ)
  funext i
  obtain ⟨p, k, rfl⟩ : ∃ (p : Fin 8448) (k : Fin 2048), i = ix2 p k := ⟨i 0, i 1, ValueIdx.eq_ix2 i⟩
  refine Eq.trans ?_ (Cert.OutProj.out_halves (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) p k).symm
  pointwise
  rfl

end Reference

/-- The ideal kernel and the reference leave the same array: the layer's rows plus the projection. -/
theorem algebraic_kernel4 : Cert.algebraic_Kernel4Ideal_Reference4Ideal := by
  intro m g m' g' _ hagree
  refine ⟨fun c => outArr (m ((c.tc : Thread _ _).loc Cert.Kernel4Ideal.main_arg0)) (m ((c.tc : Thread _ _).loc Cert.Kernel4Ideal.main_arg1)) (m ((c.tc : Thread _ _).loc Cert.Kernel4Ideal.main_arg2)) (m ((c.tc : Thread _ _).loc Cert.Kernel4Ideal.main_arg3)) (m ((c.tc : Thread _ _).loc Cert.Kernel4Ideal.main_arg4)) (m ((c.tc : Thread _ _).loc Cert.Kernel4Ideal.main_arg5)), ?_, ?_⟩
  · exact (θ_run Cert.Kernel4Ideal.defs _ _).mono (fun r h c => ⟨(h c).1.trans (funext fun i => Cert.Kernel4Ideal.OutProj.arr_out m c i), (h c).2⟩)
      (Cert.Kernel4Ideal.Value.run (F := Ideal) m g)
  · refine (θ_run Cert.Reference4Ideal.defs _ _).mono (fun r h c => ⟨(h c).1.trans ?_, (h c).2⟩) (reference4_out m' g')
    obtain ⟨e0, e1, e2, e3, e4, e5⟩ := hagree c
    exact congr (congr (congr (congr (congr (congrArg outArr e0) e1) e2) e3) e4) e5

end Cert.Proof

end
-- ==== Proof.Norm.Frame.lean ====
/-
  The final norm's call: its body's run in each of its two cases, what every buffer holds at every point, and the frame,
  at any float values. The body stores its normed rows into the first output at the points of the prompt rows and into the
  second output at the last point.
-/
module

public import proofs.«01_k».proof.Proof.Gen.Kernel5Ideal.Skeleton
public import proofs.«01_k».proof.Proof.Gen.Kernel5Ideal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.Pipeline.ValueKit

@[expose] public section

set_option maxRecDepth 16384

noncomputable section

namespace Cert.Kernel5Ideal.Norm

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One buffer of the first output, through which its contents are stated. -/
abbrev VO2 : View sig .tc .vmem S256x2048 .f32 := (Memref.whole cc0_stg2_0 : Memref sig .tc .vmem S256x2048 .f32).view
/-- One buffer of the second output. -/
abbrev VO3 : View sig .tc .vmem S256x2048 .f32 := (Memref.whole cc0_stg3_0 : Memref sig .tc .vmem S256x2048 .f32).view
/-- Each window's buffer at a point. -/
abbrev ms0 (t : Fin cfg0.N) : Memref sig .tc .vmem S256x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S256x2048 .f32 := win0_2.stage (cfg0.slots t 2)
abbrev ms3 (t : Fin cfg0.N) : Memref sig .tc .vmem S256x2048 .f32 := win0_3.stage (cfg0.slots t 3)

/-! ## The conditions -/

/-- The first condition holds at the points of the prompt rows, -/
theorem cond1_iff : ∀ t : Fin cfg0.N, k0_cond1 (grid0.coords t) = 1#1 ↔ t.val < 32 :=
  (by decide +kernel : ∀ t : Fin grid0.N, k0_cond1 (grid0.coords t) = 1#1 ↔ t.val < 32)

/-- the second at the last point, -/
theorem cond2_iff : ∀ t : Fin cfg0.N, k0_cond2 (grid0.coords t) = 1#1 ↔ ¬ t.val < 32 :=
  (by decide +kernel : ∀ t : Fin grid0.N, k0_cond2 (grid0.coords t) = 1#1 ↔ ¬ t.val < 32)

/-- the first output is stored at the points of the prompt rows alone, -/
theorem idle2 : ∀ t : Fin cfg0.N, cfg0.idle 2 (cfg0.grid.coords t) = !decide (t.val < 32) :=
  (by decide +kernel : ∀ t : Fin grid0.N, idle0 2 (grid0.coords t) = !decide (t.val < 32))

/-- the second at the last point alone, -/
theorem idle3 : ∀ t : Fin cfg0.N, cfg0.idle 3 (cfg0.grid.coords t) = decide (t.val < 32) :=
  (by decide +kernel : ∀ t : Fin grid0.N, idle0 3 (grid0.coords t) = decide (t.val < 32))

/-- the first output's buffer is written back at every point but the last of the prompt rows, -/
theorem flush2 : ∀ t : Fin cfg0.N, (cfg0.win 2).flush t = !decide (t.val = 31) :=
  (by decide +kernel : ∀ t : Fin grid0.N, win0_2.flush t = !decide (t.val = 31))

/-- the second's at the last point alone. -/
theorem flush3 : ∀ t : Fin cfg0.N, (cfg0.win 3).flush t = !decide (t.val < 32) :=
  (by decide +kernel : ∀ t : Fin grid0.N, win0_3.flush t = !decide (t.val < 32))

/-! ## The body's run -/

set_option maxHeartbeats 1000000 in
/-- The body at a point of the prompt rows: it leaves the inputs as they were and stores into the first output; the pieces
    it stores are the run's. The second output it does not touch. -/
noncomputable def runA (c : Dev nD) (i : grid0.Coords) (arg1 : Memref sig .tc .vmem S256x2048 .f32) (harg1 : arg1.IsWhole)
    (arg2 : Memref sig .tc .vmem S1x2048 .f32) (harg2 : arg2.IsWhole) (arg3 : Memref sig .tc .vmem S256x2048 .f32) (harg3 : arg3.IsWhole)
    (arg4 : Memref sig .tc .vmem S256x2048 .f32) (harg4 : arg4.IsWhole) (hc1 : k0_cond1 i = 1#1) (hc2 : ¬ k0_cond2 i = 1#1)
    (x0 : Vec F S256x2048 .f32) (x1 : Vec F S1x2048 .f32) :
    { L : List (View.Piece (Elt F) S256x2048 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0_final_norm i arg1 harg1 arg2 harg2 arg3 harg3 arg4 harg4) K } := by
  refine ⟨?_, fun E K => ?run⟩
  case run =>
    simp only [cc0_final_norm_eq_skeleton]; unfold cc0_final_norm_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- The body at the last point: it stores into the second output and does not touch the first. -/
noncomputable def runB (c : Dev nD) (i : grid0.Coords) (arg1 : Memref sig .tc .vmem S256x2048 .f32) (harg1 : arg1.IsWhole)
    (arg2 : Memref sig .tc .vmem S1x2048 .f32) (harg2 : arg2.IsWhole) (arg3 : Memref sig .tc .vmem S256x2048 .f32) (harg3 : arg3.IsWhole)
    (arg4 : Memref sig .tc .vmem S256x2048 .f32) (harg4 : arg4.IsWhole) (hc1 : ¬ k0_cond1 i = 1#1) (hc2 : k0_cond2 i = 1#1)
    (x0 : Vec F S256x2048 .f32) (x1 : Vec F S1x2048 .f32) :
    { L : List (View.Piece (Elt F) S256x2048 .f32) //
      ∀ (E : Set ℕ) (K : PUnit → sProp 𝕄),
        iprop(owns (c : Thread nD τ) arg1 fullShare x0 ∗ owns (c : Thread nD τ) arg2 fullShare x1 ∗ (∃ d, owns (c : Thread nD τ) arg4 fullShare d)
            ∗ (iprop(owns (c : Thread nD τ) arg1 fullShare x0 ∗ owns (c : Thread nD τ) arg2 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0_final_norm i arg1 harg1 arg2 harg2 arg3 harg3 arg4 harg4) K } := by
  refine ⟨?_, fun E K => ?run⟩
  case run =>
    simp only [cc0_final_norm_eq_skeleton]; unfold cc0_final_norm_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- What the first case stores covers the buffer, -/
theorem coverA (c : Dev nD) (i : grid0.Coords) (arg1 : Memref sig .tc .vmem S256x2048 .f32) (harg1 : arg1.IsWhole)
    (arg2 : Memref sig .tc .vmem S1x2048 .f32) (harg2 : arg2.IsWhole) (arg3 : Memref sig .tc .vmem S256x2048 .f32) (harg3 : arg3.IsWhole)
    (arg4 : Memref sig .tc .vmem S256x2048 .f32) (harg4 : arg4.IsWhole) (hc1 : k0_cond1 i = 1#1) (hc2 : ¬ k0_cond2 i = 1#1)
    (x0 : Vec F S256x2048 .f32) (x1 : Vec F S1x2048 .f32) (y : S256x2048.Idx) :
    ∃ pc ∈ (runA c i arg1 harg1 arg2 harg2 arg3 harg3 arg4 harg4 hc1 hc2 x0 x1).1, y ∈ pc.1.set :=
  View.cover_of_tiledL (runA c i arg1 harg1 arg2 harg2 arg3 harg3 arg4 harg4 hc1 hc2 x0 x1).1 S256x2048.size (by sl_kernel_rfl) y

/-- and so does what the second case stores. -/
theorem coverB (c : Dev nD) (i : grid0.Coords) (arg1 : Memref sig .tc .vmem S256x2048 .f32) (harg1 : arg1.IsWhole)
    (arg2 : Memref sig .tc .vmem S1x2048 .f32) (harg2 : arg2.IsWhole) (arg3 : Memref sig .tc .vmem S256x2048 .f32) (harg3 : arg3.IsWhole)
    (arg4 : Memref sig .tc .vmem S256x2048 .f32) (harg4 : arg4.IsWhole) (hc1 : ¬ k0_cond1 i = 1#1) (hc2 : k0_cond2 i = 1#1)
    (x0 : Vec F S256x2048 .f32) (x1 : Vec F S1x2048 .f32) (y : S256x2048.Idx) :
    ∃ pc ∈ (runB c i arg1 harg1 arg2 harg2 arg3 harg3 arg4 harg4 hc1 hc2 x0 x1).1, y ∈ pc.1.set :=
  View.cover_of_tiledL (runB c i arg1 harg1 arg2 harg2 arg3 harg3 arg4 harg4 hc1 hc2 x0 x1).1 S256x2048.size (by sl_kernel_rfl) y

/-- What the first case stores, read back: the normed rows. -/
theorem readA (c : Dev nD) (i : grid0.Coords) (arg1 : Memref sig .tc .vmem S256x2048 .f32) (harg1 : arg1.IsWhole)
    (arg2 : Memref sig .tc .vmem S1x2048 .f32) (harg2 : arg2.IsWhole) (arg3 : Memref sig .tc .vmem S256x2048 .f32) (harg3 : arg3.IsWhole)
    (arg4 : Memref sig .tc .vmem S256x2048 .f32) (harg4 : arg4.IsWhole) (hc1 : k0_cond1 i = 1#1) (hc2 : ¬ k0_cond2 i = 1#1)
    (x0 : Vec F S256x2048 .f32) (x1 : Vec F S1x2048 .f32) :
    VO2.read (Elt F) (VO2.writes (Elt F) VO2.junk (runA c i arg1 harg1 arg2 harg2 arg3 harg3 arg4 harg4 hc1 hc2 x0 x1).1) = k0_pay1 x0 x1 := by
  unfold runA
  frame_out

/-- The same of the second case. -/
theorem readB (c : Dev nD) (i : grid0.Coords) (arg1 : Memref sig .tc .vmem S256x2048 .f32) (harg1 : arg1.IsWhole)
    (arg2 : Memref sig .tc .vmem S1x2048 .f32) (harg2 : arg2.IsWhole) (arg3 : Memref sig .tc .vmem S256x2048 .f32) (harg3 : arg3.IsWhole)
    (arg4 : Memref sig .tc .vmem S256x2048 .f32) (harg4 : arg4.IsWhole) (hc1 : ¬ k0_cond1 i = 1#1) (hc2 : k0_cond2 i = 1#1)
    (x0 : Vec F S256x2048 .f32) (x1 : Vec F S1x2048 .f32) :
    VO3.read (Elt F) (VO3.writes (Elt F) VO3.junk (runB c i arg1 harg1 arg2 harg2 arg3 harg3 arg4 harg4 hc1 hc2 x0 x1).1) = k0_pay1 x0 x1 := by
  unfold runB
  frame_out

/-! ## What the buffers hold after each point -/

/-- The normed rows of a point's block. -/
def normed (c : Dev nD) (t : Fin cfg0.N) : Vec F S256x2048 .f32 := k0_pay1 (iblk m c 0 t) (iblk m c 1 t)

/-- The last point. -/
abbrev tLast : Fin cfg0.N := ⟨32, lt_of_lt_of_eq (by omega) N_0.symm⟩
/-- The last point of the prompt rows. -/
abbrev tPrompt : Fin cfg0.N := ⟨31, lt_of_lt_of_eq (by omega) N_0.symm⟩

/-- The pipeline's proof data: each input's buffer at its block, the first output's at the point's normed rows (at the last
    point those of the point before), the second's at the last point's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => normed m c (if t.val < 32 then t else tPrompt)
    | ⟨3, _⟩ => normed m c tLast
  Φ _ := Pipeline.ΦA spec0 c
  q _ := fullShare
  owed _ := 0

/-- The arrays are as the region finds them, -/
theorem A_eq (c : Dev nD) (w : Fin cfg0.W) : (dats m 0 c).A w = V m c (Pipeline.arrRef spec0 w) := by
  dsimp only [dats]

/-- each input's buffer is left at its block, -/
theorem after0 (c : Dev nD) (t : Fin cfg0.N) : (dats m 0 c).after 0 t = iblk m c 0 t := by dsimp only [dats]
/-- the gains' too, -/
theorem after1 (c : Dev nD) (t : Fin cfg0.N) : (dats m 0 c).after 1 t = iblk m c 1 t := by dsimp only [dats]
/-- the first output's at normed rows, -/
theorem after2 (c : Dev nD) (t : Fin cfg0.N) : (dats m 0 c).after 2 t = normed m c (if t.val < 32 then t else tPrompt) := by dsimp only [dats]
/-- and the second's at the last point's. -/
theorem after3 (c : Dev nD) (t : Fin cfg0.N) : (dats m 0 c).after 3 t = normed m c tLast := by dsimp only [dats]

/-- The body finds each input's buffer at its block, -/
theorem before0 (c : Dev nD) (t : Fin cfg0.N) (d) : (dats m 0 c).before 0 t d = iblk m c 0 t :=
  before0_0_of m (dats m 0 c) (A_eq m c 0) (after0 m c) t d
/-- the gains' too. -/
theorem before1 (c : Dev nD) (t : Fin cfg0.N) (d) : (dats m 0 c).before 1 t d = iblk m c 1 t :=
  before0_1_of m (dats m 0 c) (A_eq m c 1) (after1 m c) t d

/-- At the last point the first output's buffer holds what the point before left. -/
theorem before2 (c : Dev nD) (t : Fin cfg0.N) (h : ¬ t.val < 32) (d) : (dats m 0 c).before 2 t d = (dats m 0 c).after 2 t := by
  have hN : t.val < 33 := lt_of_lt_of_eq t.isLt N_0
  have ht : t = tLast := Fin.ext (by show t.val = 32; omega)
  subst ht
  have hf : (cfg0.win 2).flush tPrompt = false := by rw [flush2]; rfl
  have hi : cfg0.idle 2 (cfg0.grid.coords tPrompt) = false := by rw [idle2]; rfl
  unfold Dat.before
  rw [if_neg (by decide +kernel : ¬ (cfg0.win 2).fetch tLast = true), if_neg (by decide : ¬ (tLast : Fin cfg0.N).val = 0)]
  show (if (cfg0.win 2).flush tPrompt = true then d else match cfg0.idle 2 (cfg0.grid.coords tPrompt) with
    | true => (dats m 0 c).found 2 tPrompt d
    | false => (dats m 0 c).kept 2 tPrompt d) = _
  rw [if_neg (by rw [hf]; exact Bool.false_ne_true), hi]
  show (dats m 0 c).after 2 tPrompt = _
  rw [after2, after2]
  rfl

/-! ## The body obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- what it returns at a point of the prompt rows, the second output's buffer as it was, -/
def bodyPostA (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ (∃ d, owns (c : Thread nD τ) (ms3 t) fullShare ((dats m 0 c).before 3 t d)))

/-- and what it returns at the last. -/
def bodyPostB (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at a point of the prompt rows. -/
theorem sound_A (c : Dev nD) (t : Fin cfg0.N) (h : t.val < 32) :
    bodyPre m c t ⊢ wp frame (wpE (defs₀ (F := F)) Variants.none c none) Set.univ (bodyAt0 t) (fun _ => bodyPostA m c t) := by
  have hc1 : k0_cond1 (grid0.coords t) = 1#1 := (cond1_iff t).mpr h
  have hc2 : ¬ k0_cond2 (grid0.coords t) = 1#1 := fun e => (cond2_iff t).mp e h
  unfold bodyPre bodyPostA bodyAt0
  simp only [before0, before1]
  rw [show (dats m 0 c).owesAt () t.succ = (dats m 0 c).owesAt () t.castSucc from rfl,
    show (dats m 0 c).Φ t.succ = (dats m 0 c).Φ t.castSucc from rfl, after0, after1, after2, if_pos h]
  iintro ⟨HΦ, Ho, ⟨%d0, H0⟩, ⟨%d1, H1⟩, ⟨%d2, H2⟩, H3⟩
  iapply ((runA c (grid0.coords t) _ _ _ _ _ _ _ _ hc1 hc2 (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro
    exact (View.read_writes_of_cover _ _ VO2 _ _ (coverA c _ _ _ _ _ _ _ _ _ _ _ _ _)).trans (readA c _ _ _ _ _ _ _ _ _ _ _ _ _)
  iexact H3

set_option maxHeartbeats 1600000 in
/-- The body at the last point. -/
theorem sound_B (c : Dev nD) (t : Fin cfg0.N) (h : ¬ t.val < 32) :
    bodyPre m c t ⊢ wp frame (wpE (defs₀ (F := F)) Variants.none c none) Set.univ (bodyAt0 t) (fun _ => bodyPostB m c t) := by
  have hc1 : ¬ k0_cond1 (grid0.coords t) = 1#1 := fun e => h ((cond1_iff t).mp e)
  have hc2 : k0_cond2 (grid0.coords t) = 1#1 := (cond2_iff t).mpr h
  have hN : t.val < 33 := lt_of_lt_of_eq t.isLt N_0
  have ht : tLast = t := Fin.ext (by show 32 = t.val; omega)
  unfold bodyPre bodyPostB bodyAt0
  simp only [before0, before1, before2 m c t h]
  rw [show (dats m 0 c).owesAt () t.succ = (dats m 0 c).owesAt () t.castSucc from rfl,
    show (dats m 0 c).Φ t.succ = (dats m 0 c).Φ t.castSucc from rfl, after0, after1, after3, ht]
  iintro ⟨HΦ, Ho, ⟨%d0, H0⟩, ⟨%d1, H1⟩, ⟨%d2, H2⟩, ⟨%d3, H3⟩⟩
  iapply ((runB c (grid0.coords t) _ _ _ _ _ _ _ _ hc1 hc2 (iblk m c 0 t) (iblk m c 1 t)).2 Set.univ _)
  isplitl [H0]; · iexact H0
  isplitl [H1]; · iexact H1
  isplitl [H3]; · iexists _; iexact H3
  iintro ⟨H0, H1, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro
  exact (View.read_writes_of_cover _ _ VO3 _ _ (coverB c _ _ _ _ _ _ _ _ _ _ _ _ _)).trans (readB c _ _ _ _ _ _ _ _ _ _ _ _ _)

/-- The table's one body at a point is the kernel's, at the point's buffers. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  by_cases h : t.val < 32
  · have i2 : cfg0.idle 2 (cfg0.grid.coords t) = false := by rw [idle2, decide_eq_true h]; rfl
    have i3 : cfg0.idle 3 (cfg0.grid.coords t) = true := by rw [idle3, decide_eq_true h]
    have f3 : (cfg0.win 3).flush t = false := by rw [flush3, decide_eq_true h]; rfl
    rw [i2, i3, f3]
    exact triple_restated (sound_A m c t h) rfl .rfl fun _ => .rfl
  · have hN : t.val < 33 := lt_of_lt_of_eq t.isLt N_0
    have i2 : cfg0.idle 2 (cfg0.grid.coords t) = true := by rw [idle2, decide_eq_false h]; rfl
    have i3 : cfg0.idle 3 (cfg0.grid.coords t) = false := by rw [idle3, decide_eq_false h]
    have f2 : (cfg0.win 2).flush t = true := by rw [flush2, decide_eq_false (by omega : ¬ t.val = 31)]; rfl
    rw [i2, i3, f2]
    exact triple_restated (sound_B m c t h) rfl .rfl fun _ => .rfl

/-! ## The run and the frame -/

set_option backward.isDefEq.respectTransparency.types false in
set_option maxHeartbeats 800000 in
/-- Every execution ends, with every array of the pipeline at what the proof data give, every other buffer as the
    operations after the region leave it, and every semaphore at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun _ => Idealize.SL.BI.Entails.refl _) (hout := fun _ => Idealize.SL.BI.Entails.refl _)

/-- The run without the semaphores. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.Kernel5Ideal.Norm

end
-- ==== Proof.Norm.Spec.lean ====
/-
  The final norm over the extended reals: a row's entries by the reciprocal root of the squares' mean and by their gains,
  and the two arrays in which the prompt's rows and the sample group's leave.
-/
module

public import Idealize.ShloMosaic.Lib.Pipeline.ValueKit

@[expose] public section

noncomputable section

namespace Cert.FinalNorm

open Idealize.ShloMosaic
open Idealize.ShloMosaic (ix1 ix2)

/-- The activations: 8192 rows of the prompt, 16 meta rows, 4 x 32 rows of the sample group, padding. -/
abbrev Acts : Type := FVec Ideal ⟨2, ![8448, 2048]⟩ .f32
/-- The gains. -/
abbrev Gains : Type := FVec Ideal ⟨1, ![2048]⟩ .f32

variable (x : Acts) (g : Gains)

/-- The normed row: each entry by the reciprocal root of the squares' mean and by its gain. -/
def norm (r : Fin 8448) (k : Fin 2048) : EReal :=
  x (ix2 r k) * Ideal.rsqrt (Ideal.div (∑ j, x (ix2 r j) * x (ix2 r j)) (Ideal.ofBits .f32 0x45000000#32) + Ideal.ofBits .f32 0x358637BD#32)
    * g (ix1 k)

/-- The prompt's rows, with the batch's axis of one. -/
def promptArr : FVec Ideal ⟨3, ![1, 8192, 2048]⟩ .f32 := fun i =>
  norm x g ⟨(i 1).val, Nat.lt_of_lt_of_le (i 1).isLt (by decide)⟩ (i 2)

/-- The sample group's rows, 32 sequences of 4 new positions. -/
def sampleArr : FVec Ideal ⟨3, ![32, 4, 2048]⟩ .f32 := fun i =>
  norm x g ⟨8208 + (32 * (i 1).val + (i 0).val), by
    have h0 : (i 0).val < 32 := (i 0).isLt; have h1 : (i 1).val < 4 := (i 1).isLt; omega⟩ (i 2)

end Cert.FinalNorm

end
-- ==== Proof.Norm.Value.lean ====
/-
  What the final norm's call leaves over the extended reals: the prompt's normed rows block by block in the first array,
  the last block's in the second, and the two results the host code makes of them.
-/
module

public import proofs.«01_k».proof.Proof.Norm.Frame
public import proofs.«01_k».proof.Proof.Norm.Spec
public import Idealize.ShloMosaic.Lib.StableHlo.ReadAt
public import Idealize.ShloMosaic.Lib.Pipeline.ReadBack
public import Idealize.ShloMosaic.Lib.Pipeline.Value
public import Idealize.ShloMosaic.Lib.Pipeline.ValueKit

@[expose] public section

noncomputable section

namespace Cert.Kernel5Ideal.Norm

open Cert.Kernel5Ideal Cert.Kernel5Ideal.Gen Cert.FinalNorm
open Idealize.ShloMosaic Idealize.ShloMosaic.TcCoe Idealize.SL.Sem
open Idealize.ShloMosaic (ix0 ix1 ix2 ix3)

variable (m : (ℓ : Loc nD τ sig) → Buf (Elt Ideal) ℓ) (c : Dev nD)

/-- The activations and the gains, as the program gets them. -/
def aX : FVec Ideal S8448x2048 .f32 := m ((c : Thread nD τ).loc main_arg0)
def aG : FVec Ideal S2048 .f32 := m ((c : Thread nD τ).loc main_arg1)

/-- There are 33 points. -/
theorem lt33 (t : Fin cfg0.N) : t.val < 33 := t.isLt

/-- The row of the array at row `p` of point `t`'s block. -/
def row (t : Fin cfg0.N) (p : Fin 256) : Fin 8448 := ⟨256 * t.val + p.val, by have := lt33 t; omega⟩

/-! ## The blocks of a point -/

/-- Each point takes its block of rows and all of the gains. -/
theorem idx : ∀ t : Fin cfg0.N, win0_0.index t = ![t.val, 0] ∧ win0_1.index t = ![0, 0] :=
  (by decide +kernel : ∀ t : Fin grid0.N, _)

/-- The gains as a row, which the launch takes. -/
theorem V_gain : (V m c main_v0 : FVec Ideal S1x2048 .f32) = broadcastInDim S1x2048 ![1] bcast_S2048_S1x2048_1 (aG m c) := by
  unfold V
  after_reads_simp
  rfl
/-- The launch takes the activations as the program gets them. -/
theorem V_x : (V m c main_arg0 : FVec Ideal S8448x2048 .f32) = aX m c := V_main_arg0 m c

/-- A point's block of the activations, entry by entry, -/
theorem blk0 (t : Fin cfg0.N) (p : Fin 256) (k : Fin 2048) : (iblk m c 0 t : FVec Ideal S256x2048 .f32) (ix2 p k) = aX m c (ix2 (row t p) k) := by
  rw [← V_x]
  blk_ext [iblk, idx t, row]
/-- and its gains. -/
theorem blk1 (t : Fin cfg0.N) (k : Fin 2048) : (iblk m c 1 t : FVec Ideal S1x2048 .f32) (ix2 0 k) = aG m c (ix1 k) := by
  refine Eq.trans (b := (V m c main_v0 : FVec Ideal S1x2048 .f32) (ix2 0 k)) ?_ ?_
  · blk_ext [iblk, idx t]
  · rw [V_gain]
    pointwise

set_option maxRecDepth 100000 in
/-- The body's payload is the normed rows of the block. -/
theorem normed_apply (t : Fin cfg0.N) (p : Fin 256) (k : Fin 2048) :
    normed m c t (ix2 p k) = norm (aX m c) (aG m c) (row t p) k := by
  have h0 := blk0 m c t p
  have h1 := blk1 m c t
  unfold normed
  generalize (iblk m c 0 t : FVec Ideal S256x2048 .f32) = x at h0 ⊢
  generalize (iblk m c 1 t : FVec Ideal S1x2048 .f32) = g at h1 ⊢
  pointwise [k0_pay1]
  simp only [h0, h1]
  rfl

/-! ## The first array -/

/-- The prompt's normed rows. -/
def arr2 : Buf (Elt Ideal) ((c : Thread nD τ).loc main_v1_0) := fun i =>
  norm (aX m c) (aG m c) ⟨(i 0).val, by have h : (i 0).val < 8192 := (i 0).isLt; omega⟩ (i 1)

/-- The first output's block at each point; the last point stays at the prompt's last block. -/
theorem idx2 : ∀ t : Fin cfg0.N, win0_2.index t (0 : Fin 2) = (if t.val < 32 then t else tPrompt).val ∧ win0_2.index t (1 : Fin 2) = 0 :=
  (by decide +kernel : ∀ t : Fin grid0.N, _)

/-- The point that writes back block `q`: the last point writes back the last block. -/
abbrev pt2 (q : Fin 32) : Fin grid0.N := ⟨if q.val = 31 then 32 else q.val, lt_of_lt_of_eq (by split <;> omega) N_0.symm⟩

/-- That point writes back block `q`. -/
theorem onto2 : ∀ q : Fin 32, (cfg0.win 2).flush (pt2 q) = true ∧ win0_2.index (pt2 q) = ![q.val, 0] :=
  (by decide +kernel : ∀ q : Fin 32, win0_2.flush (pt2 q) = true ∧ win0_2.index (pt2 q) = ![q.val, 0])

/-- What a point writes back is its block of the normed rows. -/
theorem flushed2 (t : Fin cfg0.N) : (dats m 0 c).flushed 2 t = ((cfg0.win 2).blk t).view.read (Elt Ideal) (arr2 m c) := by
  show (cfg0.win 2).cut (grid0.coords t) ((dats m 0 c).after 2 t) = _
  rw [after2]
  obtain ⟨e0, e1⟩ := idx2 t
  funext y
  have hy0 : (y 0).val < 256 := (y 0).isLt
  have hy1 : (y 1).val < 2048 := (y 1).isLt
  have hl : (cfg0.win 2).xinj (grid0.coords t) y = (ix2 ⟨(y 0).val, hy0⟩ ⟨(y 1).val, hy1⟩ : S256x2048.Idx) := by
    funext a; apply Fin.ext
    match a with
    | ⟨0, _⟩ => rfl
    | ⟨1, _⟩ => rfl
  show normed m c _ ((cfg0.win 2).xinj (grid0.coords t) y) = arr2 m c (((cfg0.win 2).blk t).view.emb y)
  rw [hl, normed_apply]
  have hb0 : (((cfg0.win 2).blk t).view.emb y 0).val = win0_2.index t (0 : Fin 2) * 256 + 1 * (y 0).val := rfl
  have hb1 : (((cfg0.win 2).blk t).view.emb y 1).val = win0_2.index t (1 : Fin 2) * 2048 + 1 * (y 1).val := rfl
  refine congr (congrArg (norm (aX m c) (aG m c)) (Fin.ext ?_)) (Fin.ext ?_)
  · show 256 * (if t.val < 32 then t else tPrompt).val + (y 0).val = (((cfg0.win 2).blk t).view.emb y 0).val
    rw [hb0, e0]; omega
  · show (y 1).val = (((cfg0.win 2).blk t).view.emb y 1).val
    rw [hb1, e1]; omega

/-- A row is in a point's block if it is in the block's range. -/
theorem mem_blk2 (t : Fin cfg0.N) (i : S8192x2048.Idx) :
    i ∈ ((cfg0.win 2).blk t).view.set ↔ ∀ a : Fin 2, win0_2.index t a * S256x2048.size a ≤ (i a).val ∧ (i a).val < win0_2.index t a * S256x2048.size a + S256x2048.size a := by
  show i ∈ ((View.whole main_v1_0).slice (win0_2.rect t)).set ↔ _
  rw [View.set_slice_whole, Rect.mem_set_unit]
  exact Iff.rfl

/-- Every row of the array is in a block written back. -/
theorem covered2 (i : S8192x2048.Idx) : ∃ t : Fin cfg0.N, (cfg0.win 2).flush t = true ∧ i ∈ ((cfg0.win 2).blk t).view.set := by
  have hi0 : (i 0).val < 8192 := (i 0).isLt
  have hi1 : (i 1).val < 2048 := (i 1).isLt
  obtain ⟨hf, ht⟩ := onto2 ⟨(i 0).val / 256, by omega⟩
  have q0 : win0_2.index (pt2 ⟨(i 0).val / 256, by omega⟩) (0 : Fin 2) = (i 0).val / 256 := congrFun ht 0
  have q1 : win0_2.index (pt2 ⟨(i 0).val / 256, by omega⟩) (1 : Fin 2) = 0 := congrFun ht 1
  refine ⟨_, hf, (mem_blk2 _ _).2 fun a => ?_⟩
  match a with
  | ⟨0, _⟩ => show win0_2.index _ (0 : Fin 2) * 256 ≤ (i 0).val ∧ (i 0).val < win0_2.index _ (0 : Fin 2) * 256 + 256; omega
  | ⟨1, _⟩ => show win0_2.index _ (1 : Fin 2) * 2048 ≤ (i 1).val ∧ (i 1).val < win0_2.index _ (1 : Fin 2) * 2048 + 2048; omega

/-- The first array after the run. -/
theorem final2 : (dats m 0 c).arrAt 2 cfg0.N = arr2 m c :=
  (dats m 0 c).arrAt_eq_of_cover 2 _ (fun t _ => flushed2 m c t) (fun i => covered2 i)

/-! ## The second array -/

/-- The normed rows after the prompt's. -/
def arr3 : Buf (Elt Ideal) ((c : Thread nD τ).loc main_v1_1) := fun i =>
  norm (aX m c) (aG m c) ⟨8192 + (i 0).val, by have h : (i 0).val < 256 := (i 0).isLt; omega⟩ (i 1)

/-- The second output has one block. -/
theorem idx3 : ∀ t : Fin cfg0.N, win0_3.index t = ![0, 0] :=
  (by decide +kernel : ∀ t : Fin grid0.N, _)

/-- What the last point writes back is these rows. -/
theorem flushed3 (t : Fin cfg0.N) : (dats m 0 c).flushed 3 t = ((cfg0.win 3).blk t).view.read (Elt Ideal) (arr3 m c) := by
  show (cfg0.win 3).cut (grid0.coords t) ((dats m 0 c).after 3 t) = _
  rw [after3]
  have e0 : win0_3.index t (0 : Fin 2) = 0 := congrFun (idx3 t) 0
  have e1 : win0_3.index t (1 : Fin 2) = 0 := congrFun (idx3 t) 1
  funext y
  have hy0 : (y 0).val < 256 := (y 0).isLt
  have hy1 : (y 1).val < 2048 := (y 1).isLt
  have hl : (cfg0.win 3).xinj (grid0.coords t) y = (ix2 ⟨(y 0).val, hy0⟩ ⟨(y 1).val, hy1⟩ : S256x2048.Idx) := by
    funext a; apply Fin.ext
    match a with
    | ⟨0, _⟩ => rfl
    | ⟨1, _⟩ => rfl
  show normed m c _ ((cfg0.win 3).xinj (grid0.coords t) y) = arr3 m c (((cfg0.win 3).blk t).view.emb y)
  rw [hl, normed_apply]
  have hb0 : (((cfg0.win 3).blk t).view.emb y 0).val = win0_3.index t (0 : Fin 2) * 256 + 1 * (y 0).val := rfl
  have hb1 : (((cfg0.win 3).blk t).view.emb y 1).val = win0_3.index t (1 : Fin 2) * 2048 + 1 * (y 1).val := rfl
  refine congr (congrArg (norm (aX m c) (aG m c)) (Fin.ext ?_)) (Fin.ext ?_)
  · show 256 * 32 + (y 0).val = 8192 + (((cfg0.win 3).blk t).view.emb y 0).val
    rw [hb0, e0]; omega
  · show (y 1).val = (((cfg0.win 3).blk t).view.emb y 1).val
    rw [hb1, e1]; omega

/-- An index is in that block if it is in its range. -/
theorem mem_blk3 (t : Fin cfg0.N) (i : S256x2048.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v1_1).slice (win0_3.rect t)).set ↔ _
  rw [View.set_slice_whole, Rect.mem_set_unit]
  exact Iff.rfl

/-- The last point's block is all of the array. -/
theorem covered3 (i : S256x2048.Idx) : ∃ t : Fin cfg0.N, (cfg0.win 3).flush t = true ∧ i ∈ ((cfg0.win 3).blk t).view.set := by
  have hi0 : (i 0).val < 256 := (i 0).isLt
  have hi1 : (i 1).val < 2048 := (i 1).isLt
  have e0 : win0_3.index tLast (0 : Fin 2) = 0 := congrFun (idx3 tLast) 0
  have e1 : win0_3.index tLast (1 : Fin 2) = 0 := congrFun (idx3 tLast) 1
  refine ⟨tLast, by rw [flush3]; rfl, (mem_blk3 _ _).2 fun a => ?_⟩
  match a with
  | ⟨0, _⟩ => show win0_3.index _ (0 : Fin 2) * 256 ≤ (i 0).val ∧ (i 0).val < win0_3.index _ (0 : Fin 2) * 256 + 256; omega
  | ⟨1, _⟩ => show win0_3.index _ (1 : Fin 2) * 2048 ≤ (i 1).val ∧ (i 1).val < win0_3.index _ (1 : Fin 2) * 2048 + 2048; omega

/-- The second array after the run. -/
theorem final3 : (dats m 0 c).arrAt 3 cfg0.N = arr3 m c :=
  (dats m 0 c).arrAt_eq_of_cover 3 _ (fun t _ => flushed3 m c t) (fun i => covered3 i)

/-! ## The host code after the launch -/

/-- The buffers as the host code after the launch finds them. -/
abbrev W : Valuation τ sig (Elt Ideal) := Pipeline.withArrays (cfgs 0).spec c (V0 m c) fun w => (dats m 0 c).arrAt w (cfgs 0).N

/-- The prompt's rows are the launch's first output, -/
theorem W_prompt : W m c (Proc.devRef .tc main_v1_0) = arr2 m c :=
  (Pipeline.withArrays_arr (cfgs 0).spec (by decide) c (V0 m c) (fun w => (dats m 0 c).arrAt w (cfgs 0).N) 2).trans (final2 m c)

/-- and the rows after them its second. -/
theorem W_tail : W m c (Proc.devRef .tc main_v1_1) = arr3 m c :=
  (Pipeline.withArrays_arr (cfgs 0).spec (by decide) c (V0 m c) (fun w => (dats m 0 c).arrAt w (cfgs 0).N) 3).trans (final3 m c)

/-- The prompt's rows as the host code shapes them. -/
def hostPrompt (a : FVec Ideal S8192x2048 .f32) : FVec Ideal S1x8192x2048 .f32 :=
  broadcastInDim S1x8192x2048 ![1, 2] bcast_S8192x2048_S1x8192x2048_1_2 a

/-- The sample group's rows as the host code takes and shapes them. -/
def hostSample (a : FVec Ideal S256x2048 .f32) : FVec Ideal S32x4x2048 .f32 :=
  transpose S32x4x2048 [1, 0, 2] (shapeCast S4x32x2048 (extractStridedSlice S128x2048 ![16, 0] a slices_S256x2048_S128x2048_16_0) shapeCasts_S128x2048_S4x32x2048) transposes_S4x32x2048_S32x4x2048_1_0_2

/-- The prompt's result after the run. -/
theorem tail_prompt : Pipeline.afterTail₀ cfgs (dats m) 0 (V0 m) [hostOps1] c main_v5 = hostPrompt (arr2 m c) := by
  rw [← W_prompt m c]
  show StableHlo.after (List.flatten [hostOps1]) (W m c) (Proc.devRef .tc main_v5) = _
  generalize W m c = w
  simp only [hostOps1, List.flatten_cons, List.flatten_nil, List.append_nil]
  after_results_simp <;> rfl

/-- The sample group's result after the run. -/
theorem tail_sample : Pipeline.afterTail₀ cfgs (dats m) 0 (V0 m) [hostOps1] c main_v4 = hostSample (arr3 m c) := by
  rw [← W_tail m c]
  show StableHlo.after (List.flatten [hostOps1]) (W m c) (Proc.devRef .tc main_v4) = _
  generalize W m c = w
  simp only [hostOps1, List.flatten_cons, List.flatten_nil, List.append_nil]
  after_results_simp <;> rfl

set_option maxRecDepth 100000 in
/-- The shaped rows are the prompt's normed rows. -/
theorem hostPrompt_eq : hostPrompt (arr2 m c) = promptArr (aX m c) (aG m c) := by
  funext i
  obtain ⟨b, p, k, rfl⟩ : ∃ (b : Fin 1) (p : Fin 8192) (k : Fin 2048), i = ix3 b p k := ⟨i 0, i 1, i 2, ValueIdx.eq_ix3 i⟩
  unfold hostPrompt
  pointwise
  rfl

set_option maxRecDepth 100000 in
/-- The shaped rows are the sample group's normed rows. -/
theorem hostSample_eq : hostSample (arr3 m c) = sampleArr (aX m c) (aG m c) := by
  funext i
  obtain ⟨b, p, k, rfl⟩ : ∃ (b : Fin 32) (p : Fin 4) (k : Fin 2048), i = ix3 b p k := ⟨i 0, i 1, i 2, ValueIdx.eq_ix3 i⟩
  unfold hostSample
  pointwise
  refine congrArg (fun r => norm (aX m c) (aG m c) r k) (Fin.ext ?_)
  show 8192 + (16 + (p.val * 32 + b.val)) = 8208 + (32 * p.val + b.val)
  omega

set_option maxHeartbeats 4000000 in
/-- The ideal program leaves the prompt's normed rows and the sample group's; its arguments end as they were. -/
theorem run (ρ : Dev nD → PrngReg) :
    θ_run defs (onTc (τ := τ) (main (F := Ideal))) ⟨m, fun _ => 0, ρ⟩ fun r => ∀ c : Dev nD,
      r.2.mem ((c.tc : Thread nD τ).loc main_v5) = promptArr (aX m c) (aG m c)
      ∧ r.2.mem ((c.tc : Thread nD τ).loc main_v4) = sampleArr (aX m c) (aG m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨
      ((h c).2 main_v5 (Pipeline.mem_restRefs_of main_v5 (by decide) (by decide))).trans ((tail_prompt m c).trans (hostPrompt_eq m c)),
      ((h c).2 main_v4 (Pipeline.mem_restRefs_of main_v4 (by decide) (by decide))).trans ((tail_sample m c).trans (hostSample_eq m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.Kernel5Ideal.Norm

end
-- ==== Proof.Norm.Claims.lean ====
/-
  The claims about the final norm's call: the three frames, that the ideal program is the kernel's own text, and that the
  ideal program and the reference leave the same two arrays.
-/
module

public import proofs.«01_k».proof.Defs
public import proofs.«01_k».proof.Proof.Gen.Kernel5
public import proofs.«01_k».proof.Proof.Gen.Reference5Ideal.Run
public import proofs.«01_k».proof.Proof.Norm.Value
public import Idealize.ShloMosaic.Lib.Quiescent
public import Idealize.ShloMosaic.Lib.Claim

@[expose] public section

noncomputable section

namespace Cert.Proof

open Idealize.ShloMosaic Idealize.ShloMosaic.TcCoe Idealize.SL.Sem
open Idealize.ShloMosaic (ix1 ix2 ix3)

set_option maxHeartbeats 4000000 in
/-- The ideal program's body is the kernel's, -/
theorem body_eq5 : Cert.Kernel5.cc0_final_norm (F := Bits) = Cert.Kernel5Ideal.cc0_final_norm (F := Bits) := rfl

set_option maxHeartbeats 4000000 in
/-- and so is its table of bodies, -/
theorem defs₀_eq5 : Cert.Kernel5.defs₀ (F := Bits) = Cert.Kernel5Ideal.defs₀ (F := Bits) := by
  unfold Cert.Kernel5.defs₀
  rw [body_eq5]
  funext p l a
  match p, l, a with
  | .tc, ⟨0, _⟩, (t, s) => rfl
  | .tc, ⟨n + 1, h⟩, _ => exact absurd h (Nat.not_lt.2 (Nat.le_add_left _ _))
  | .scScalar _, _, _ => rfl
  | .scVector _ _, _, _ => rfl

set_option maxHeartbeats 4000000 in
/-- the table with the pipeline's own, -/
theorem defs_eq5 : Cert.Kernel5.defs (F := Bits) = Cert.Kernel5Ideal.defs (F := Bits) := by
  show Pipeline.defs Cert.Kernel5.pcfgs Cert.Kernel5.defs₀ = Pipeline.defs Cert.Kernel5Ideal.pcfgs Cert.Kernel5Ideal.defs₀
  rw [defs₀_eq5]; rfl

set_option maxHeartbeats 4000000 in
/-- and its main. -/
theorem main_eq5 : Cert.Kernel5.main (F := Bits) = Cert.Kernel5Ideal.main (F := Bits) := rfl

/-- The kernel's frame: the ideal program has its text, and its run is one for any float values. -/
theorem frame_kernel5 : Cert.quiescent_Kernel5 := fun m ρ _ => by
  rw [defs_eq5, main_eq5]
  exact Cert.Kernel5Ideal.Norm.frame (F := Bits) m ρ

/-- The ideal kernel's frame. -/
theorem frame_ideal5 : Cert.quiescent_Kernel5Ideal := fun m ρ _ => Cert.Kernel5Ideal.Norm.frame (F := Ideal) m ρ

/-- The reference's frame: it has host operations alone and no semaphore. -/
theorem frame_reference5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The ideal program replaces nothing. -/
theorem preserves_kernel5 : Cert.preserves_Kernel5_Kernel5Ideal := trivial

section Reference

open Cert.Reference5Ideal Cert.Reference5Ideal.Gen Cert.FinalNorm

set_option maxRecDepth 100000 in
set_option maxHeartbeats 2000000 in
/-- The reference leaves the prompt's normed rows and the sample group's. -/
theorem reference5_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = promptArr (m ((c.tc : Thread nD τ).loc main_arg0)) (m ((c.tc : Thread nD τ).loc main_arg1))
      ∧ r.2.mem ((c.tc : Thread nD τ).loc main_v17) = sampleArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run Cert.Reference5Ideal.defs _ _).mono (fun r h c => ⟨(h c).1.trans ?_, (h c).2.1.trans ?_, (h c).2.2⟩) (Cert.Reference5Ideal.Value.run (F := Ideal) m ρ)
  · funext i
    obtain ⟨b, p, k, rfl⟩ : ∃ (b : Fin 1) (p : Fin 8192) (k : Fin 2048), i = ix3 b p k := ⟨i 0, i 1, i 2, ValueIdx.eq_ix3 i⟩
    pointwise
    rfl
  · funext i
    obtain ⟨b, p, k, rfl⟩ : ∃ (b : Fin 32) (p : Fin 4) (k : Fin 2048), i = ix3 b p k := ⟨i 0, i 1, i 2, ValueIdx.eq_ix3 i⟩
    pointwise
    refine congrArg (fun r => norm (m ((c.tc : Thread nD τ).loc main_arg0)) (m ((c.tc : Thread nD τ).loc main_arg1)) r k) (Fin.ext ?_)
    show 8208 + (p.val * 32 + b.val) = 8208 + (32 * p.val + b.val)
    omega

end Reference

open Cert.FinalNorm in
/-- The ideal kernel and the reference leave the same two arrays: the prompt's normed rows and the sample group's. -/
theorem algebraic_kernel5 : Cert.algebraic_Kernel5Ideal_Reference5Ideal := by
  intro m g m' g' _ hagree
  refine ⟨fun c => promptArr (m ((c.tc : Thread _ _).loc Cert.Kernel5Ideal.main_arg0)) (m ((c.tc : Thread _ _).loc Cert.Kernel5Ideal.main_arg1)),
    fun c => sampleArr (m ((c.tc : Thread _ _).loc Cert.Kernel5Ideal.main_arg0)) (m ((c.tc : Thread _ _).loc Cert.Kernel5Ideal.main_arg1)), ?_, ?_⟩
  · exact Cert.Kernel5Ideal.Norm.run m g
  · refine (θ_run Cert.Reference5Ideal.defs _ _).mono (fun r h c => ⟨(h c).1.trans ?_, (h c).2.1.trans ?_, (h c).2.2⟩) (reference5_out m' g')
    · exact congr (congrArg promptArr (hagree c).1) (hagree c).2
    · exact congr (congrArg sampleArr (hagree c).1) (hagree c).2

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal.Skeleton
public import proofs.«01_k».proof.Proof.Gen.Kernel5Ideal.Frame
public import proofs.«01_k».proof.Proof.Gen.Reference5Ideal.Run
public import proofs.«01_k».proof.Proof.Attn.Claims
public import proofs.«01_k».proof.Proof.Ffn.Claims
public import proofs.«01_k».proof.Proof.Proj.InClaims
public import proofs.«01_k».proof.Proof.Proj.OutClaims
public import proofs.«01_k».proof.Proof.Norm.Claims

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    frame_kernel, frame_ideal, frame_reference, frame_kernel2, frame_ideal2, frame_reference2,
    frame_kernel3, frame_ideal3, frame_reference3, frame_kernel4, frame_ideal4, frame_reference4,
    frame_kernel5, frame_ideal5, frame_reference5,
    preserves_kernel, algebraic_kernel, preserves_kernel2, algebraic_kernel2,
    preserves_kernel3, algebraic_kernel3, preserves_kernel4, algebraic_kernel4,
    preserves_kernel5, algebraic_kernel5⟩

end Cert.Proof

end
